-- ==== Defs.lean ====
def Pre_Kernel [hPre_sizes_fit : Cert.Pre_sizes_fit.Facts] (m : (ℓ : Loc Cert.Kernel.nD Cert.Kernel.τ Cert.Kernel.sig) → Buf (Elt Bits) ℓ) : Prop :=
  ∀ c : Dev Cert.Kernel.nD,
    (Cert.Pre_sizes_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 = (fun _ => 1#1)
    ∧ (Cert.Pre_sizes_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2 = (fun _ => 1#1)

def Pre_KernelIdeal [hPre_sizes_fit : Cert.Pre_sizes_fit.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_sizes_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_KernelIdeal_sizes_and_scales [hPre_sizes_and_scales : Cert.Pre_sizes_and_scales.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_sizes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_sizes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_and_scales [hPre_sizes_and_scales : Cert.Pre_sizes_and_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_and_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_sizes_and_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_sizes_and_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] [hPre_sizes_fit : Cert.Pre_sizes_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sizes_fit : Cert.Pre_sizes_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sizes_and_scales [hKernelIdeal : Cert.KernelIdeal.Facts] [hPre_sizes_and_scales : Cert.Pre_sizes_and_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sizes_and_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sizes_and_scales [hReferenceIdeal : Cert.ReferenceIdeal.Facts] [hPre_sizes_and_scales : Cert.Pre_sizes_and_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_and_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_sizes_and_scales [hKernelIdeal : Cert.KernelIdeal.Facts] [hReferenceIdeal : Cert.ReferenceIdeal.Facts] [hPre_sizes_and_scales : Cert.Pre_sizes_and_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sizes_and_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sizes_fit : Cert.Pre_sizes_fit.Facts) (hPre_sizes_and_scales : Cert.Pre_sizes_and_scales.Facts),
    quiescent_Kernel (hKernel := hKernel) (hPre_sizes_fit := hPre_sizes_fit)
    ∧ quiescent_KernelIdeal (hKernelIdeal := hKernelIdeal) (hPre_sizes_fit := hPre_sizes_fit)
    ∧ quiescent_KernelIdeal_pre_sizes_and_scales (hKernelIdeal := hKernelIdeal) (hPre_sizes_and_scales := hPre_sizes_and_scales)
    ∧ quiescent_ReferenceIdeal (hReferenceIdeal := hReferenceIdeal)
    ∧ quiescent_ReferenceIdeal_pre_sizes_and_scales (hReferenceIdeal := hReferenceIdeal) (hPre_sizes_and_scales := hPre_sizes_and_scales)
    ∧ preserves_Kernel_KernelIdeal
    ∧ algebraic_KernelIdeal_ReferenceIdeal_pre_sizes_and_scales (hKernelIdeal := hKernelIdeal) (hReferenceIdeal := hReferenceIdeal) (hPre_sizes_and_scales := hPre_sizes_and_scales)
-- ==== Pre_sizes_and_scales.lean ====
abbrev S65536x2048 : Shape := ⟨2, ![65536, 2048]⟩
abbrev S8 : Shape := ⟨1, ![8]⟩
abbrev S8x2816x2048 : Shape := ⟨3, ![8, 2816, 2048]⟩
abbrev S8x2816x64 : Shape := ⟨3, ![8, 2816, 64]⟩
abbrev S_ : Shape := ⟨0, ![]⟩

class Facts : Prop where
  natLt_8_32 : 8 < 32
  bcast_S_S8 : S_.BroadcastsInDim S8 (![] : Fin 0 → Fin S8.rank)
  reducesTo_S8_S_d0 : S8.ReducesTo [0] S_
  h_S_ : 0 < S_.numel
  bcast_S_S8x2816x64 : S_.BroadcastsInDim S8x2816x64 (![] : Fin 0 → Fin S8x2816x64.rank)

variable [Facts]

def fn {F : FTy → Type} [FloatOps F] (main_arg0 : FVec F S65536x2048 .bf16) (main_arg1 : IVec S8 32) (main_arg2 : FVec F S8x2816x2048 .fp8e4m3) (main_arg3 : IVec S8x2816x64 8) : IVec S8 1 × IVec S_ 1 × IVec S8x2816x64 1 :=
  let main_v0 : IVec S8x2816x64 32 := (extui 32 · natLt_8_32) main_arg3
  let main_c : IVec S_ 32 := constantI S_ 32 0#32
  let main_v1 : IVec S8 32 := broadcastInDim S8 ![] bcast_S_S8 main_c
  let main_v2 : IVec S8 1 := cmpi .sge main_arg1 main_v1
  let main_c_0 : IVec S_ 32 := constantI S_ 32 65536#32
  let main_v3 : IVec S8 32 := broadcastInDim S8 ![] bcast_S_S8 main_c_0
  let main_v4 : IVec S8 1 := cmpi .sle main_arg1 main_v3
  let main_v5 : IVec S8 1 := andi main_v2 main_v4
  let main_c_1 : IVec S_ 32 := constantI S_ 32 0#32
  let main_v6 : IVec S_ 32 := (fun x v => Host.reduce IntOp.addi x v reducesTo_S8_S_d0 h_S_) main_arg1 main_c_1
  let main_c_2 : IVec S_ 32 := constantI S_ 32 65536#32
  let main_v7 : IVec S_ 1 := cmpi .eq main_v6 main_c_2
  let main_c_3 : IVec S_ 32 := constantI S_ 32 1#32
  let main_v8 : IVec S8x2816x64 32 := broadcastInDim S8x2816x64 ![] bcast_S_S8x2816x64 main_c_3
  let main_v9 : IVec S8x2816x64 1 := cmpi .sge main_v0 main_v8
  let main_c_4 : IVec S_ 32 := constantI S_ 32 254#32
  let main_v10 : IVec S8x2816x64 32 := broadcastInDim S8x2816x64 ![] bcast_S_S8x2816x64 main_c_4
  let main_v11 : IVec S8x2816x64 1 := cmpi .sle main_v0 main_v10
  let main_v12 : IVec S8x2816x64 1 := andi main_v9 main_v11
  (main_v5, main_v7, main_v12)
-- ==== Pre_sizes_fit.lean ====
abbrev S65536x2048 : Shape := ⟨2, ![65536, 2048]⟩
abbrev S8 : Shape := ⟨1, ![8]⟩
abbrev S8x2816x2048 : Shape := ⟨3, ![8, 2816, 2048]⟩
abbrev S8x2816x64 : Shape := ⟨3, ![8, 2816, 64]⟩
abbrev S_ : Shape := ⟨0, ![]⟩

class Facts : Prop where
  reducesTo_S8_S_d0 : S8.ReducesTo [0] S_
  h_S_ : 0 < S_.numel
  bcast_S_S8 : S_.BroadcastsInDim S8 (![] : Fin 0 → Fin S8.rank)

variable [Facts]

def fn {F : FTy → Type} [FloatOps F] (main_arg0 : FVec F S65536x2048 .bf16) (main_arg1 : IVec S8 32) (main_arg2 : FVec F S8x2816x2048 .fp8e4m3) (main_arg3 : IVec S8x2816x64 8) : IVec S8 1 × IVec S_ 1 :=
  let main_c : IVec S_ 32 := constantI S_ 32 0#32
  let main_v0 : IVec S_ 32 := (fun x v => Host.reduce IntOp.addi x v reducesTo_S8_S_d0 h_S_) main_arg1 main_c
  let main_c_0 : IVec S_ 32 := constantI S_ 32 0#32
  let main_v1 : IVec S8 32 := broadcastInDim S8 ![] bcast_S_S8 main_c_0
  let main_v2 : IVec S8 1 := cmpi .sge main_arg1 main_v1
  let main_c_1 : IVec S_ 32 := constantI S_ 32 65536#32
  let main_v3 : IVec S8 32 := broadcastInDim S8 ![] bcast_S_S8 main_c_1
  let main_v4 : IVec S8 1 := cmpi .sle main_arg1 main_v3
  let main_v5 : IVec S8 1 := andi main_v2 main_v4
  let main_c_2 : IVec S_ 32 := constantI S_ 32 1#32
  let main_v6 : IVec S_ 1 := cmpi .sge main_v0 main_c_2
  let main_c_3 : IVec S_ 32 := constantI S_ 32 65536#32
  let main_v7 : IVec S_ 1 := cmpi .sle main_v0 main_c_3
  let main_v8 : IVec S_ 1 := andi main_v6 main_v7
  (main_v5, main_v8)
-- ==== Kernel.lean ====
abbrev S65536x2048 : Shape := ⟨2, ![65536, 2048]⟩
abbrev S8 : Shape := ⟨1, ![8]⟩
abbrev S8x2816x2048 : Shape := ⟨3, ![8, 2816, 2048]⟩
abbrev S8x2816x64 : Shape := ⟨3, ![8, 2816, 64]⟩
abbrev S_ : Shape := ⟨0, ![]⟩
abbrev S135 : Shape := ⟨1, ![135]⟩
abbrev S1 : Shape := ⟨1, ![1]⟩
abbrev S135x1 : Shape := ⟨2, ![135, 1]⟩
abbrev S1x8 : Shape := ⟨2, ![1, 8]⟩
abbrev S135x8 : Shape := ⟨2, ![135, 8]⟩
abbrev S65536x2816 : Shape := ⟨2, ![65536, 2816]⟩
abbrev S512x2048 : Shape := ⟨2, ![512, 2048]⟩
abbrev S1x2816x2048 : Shape := ⟨3, ![1, 2816, 2048]⟩
abbrev S1x2816x64 : Shape := ⟨3, ![1, 2816, 64]⟩
abbrev S512x2816 : Shape := ⟨2, ![512, 2816]⟩
abbrev S2816x2048 : Shape := ⟨2, ![2816, 2048]⟩
abbrev S1x64x64 : Shape := ⟨3, ![1, 64, 64]⟩
abbrev S64x64 : Shape := ⟨2, ![64, 64]⟩
abbrev S64x128 : Shape := ⟨2, ![64, 128]⟩
abbrev S32x128 : Shape := ⟨2, ![32, 128]⟩
abbrev S32x128x1 : Shape := ⟨3, ![32, 128, 1]⟩
abbrev S1x64x128 : Shape := ⟨3, ![1, 64, 128]⟩
abbrev S256x2048 : Shape := ⟨2, ![256, 2048]⟩
abbrev S512x256 : Shape := ⟨2, ![512, 256]⟩

abbrev nBuf : Space → Nat
  | .hbm => 153
  | .vmem => 10
  | .smem => 4
  | _ => 0

abbrev hbmTy0_0 (i : Nat) : BufTy := match i % 128 with
  | 0 => ⟨S65536x2048, .bf16⟩
  | 1 => ⟨S8, .i32⟩
  | 2 => ⟨S8x2816x2048, .fp8e4m3⟩
  | 3 => ⟨S8x2816x64, .i8⟩
  | 4 => ⟨S_, .i32⟩
  | 5 => ⟨S_, .i32⟩
  | 6 => ⟨S8, .i32⟩
  | 7 => ⟨S8, .i32⟩
  | 8 => ⟨S_, .i32⟩
  | 9 => ⟨S_, .i32⟩
  | 10 => ⟨S8, .i32⟩
  | 11 => ⟨S8, .i32⟩
  | 12 => ⟨S8, .i32⟩
  | 13 => ⟨S_, .i32⟩
  | 14 => ⟨S8, .i32⟩
  | 15 => ⟨S8, .i1⟩
  | 16 => ⟨S8, .i32⟩
  | 17 => ⟨S8, .i32⟩
  | 18 => ⟨S_, .i32⟩
  | 19 => ⟨S8, .i32⟩
  | 20 => ⟨S8, .i1⟩
  | 21 => ⟨S8, .i1⟩
  | 22 => ⟨S_, .i32⟩
  | 23 => ⟨S8, .i32⟩
  | 24 => ⟨S8, .i32⟩
  | 25 => ⟨S8, .i32⟩
  | 26 => ⟨S_, .i32⟩
  | 27 => ⟨S8, .i32⟩
  | 28 => ⟨S8, .i1⟩
  | 29 => ⟨S_, .i32⟩
  | 30 => ⟨S8, .i32⟩
  | 31 => ⟨S8, .i32⟩
  | 32 => ⟨S_, .i32⟩
  | 33 => ⟨S8, .i32⟩
  | 34 => ⟨S8, .i32⟩
  | 35 => ⟨S_, .i32⟩
  | 36 => ⟨S_, .i32⟩
  | 37 => ⟨S8, .i32⟩
  | 38 => ⟨S8, .i32⟩
  | 39 => ⟨S8, .i32⟩
  | 40 => ⟨S_, .i32⟩
  | 41 => ⟨S8, .i32⟩
  | 42 => ⟨S8, .i1⟩
  | 43 => ⟨S8, .i32⟩
  | 44 => ⟨S8, .i32⟩
  | 45 => ⟨S_, .i32⟩
  | 46 => ⟨S8, .i32⟩
  | 47 => ⟨S8, .i1⟩
  | 48 => ⟨S8, .i1⟩
  | 49 => ⟨S_, .i32⟩
  | 50 => ⟨S8, .i32⟩
  | 51 => ⟨S8, .i32⟩
  | 52 => ⟨S8, .i32⟩
  | 53 => ⟨S8, .i32⟩
  | 54 => ⟨S_, .i32⟩
  | 55 => ⟨S_, .i32⟩
  | 56 => ⟨S8, .i32⟩
  | 57 => ⟨S8, .i32⟩
  | 58 => ⟨S_, .i32⟩
  | 59 => ⟨S_, .i32⟩
  | 60 => ⟨S8, .i32⟩
  | 61 => ⟨S135, .i32⟩
  | 62 => ⟨S1, .i32⟩
  | 63 => ⟨S_, .i32⟩
  | 64 => ⟨S135, .i32⟩
  | 65 => ⟨S135, .i1⟩
  | 66 => ⟨S1, .i32⟩
  | 67 => ⟨S_, .i32⟩
  | 68 => ⟨S_, .i32⟩
  | 69 => ⟨S_, .i32⟩
  | 70 => ⟨S135, .i32⟩
  | 71 => ⟨S135, .i32⟩
  | 72 => ⟨S135x1, .i32⟩
  | 73 => ⟨S1x8, .i32⟩
  | 74 => ⟨S135x8, .i32⟩
  | 75 => ⟨S135x8, .i32⟩
  | 76 => ⟨S135x8, .i1⟩
  | 77 => ⟨S135x8, .i32⟩
  | 78 => ⟨S_, .i32⟩
  | 79 => ⟨S_, .i32⟩
  | 80 => ⟨S135, .i32⟩
  | 81 => ⟨S135, .i1⟩
  | 82 => ⟨S_, .i32⟩
  | 83 => ⟨S135, .i32⟩
  | 84 => ⟨S135, .i32⟩
  | 85 => ⟨S135, .i32⟩
  | 86 => ⟨S135x1, .i32⟩
  | 87 => ⟨S135, .i32⟩
  | 88 => ⟨S135, .i32⟩
  | 89 => ⟨S_, .i32⟩
  | 90 => ⟨S135, .i32⟩
  | 91 => ⟨S135, .i1⟩
  | 92 => ⟨S_, .i32⟩
  | 93 => ⟨S135, .i32⟩
  | 94 => ⟨S135, .i32⟩
  | 95 => ⟨S135, .i32⟩
  | 96 => ⟨S135x1, .i32⟩
  | 97 => ⟨S135, .i32⟩
  | 98 => ⟨S_, .i32⟩
  | 99 => ⟨S135, .i32⟩
  | 100 => ⟨S135, .i1⟩
  | 101 => ⟨S_, .i32⟩
  | 102 => ⟨S135, .i32⟩
  | 103 => ⟨S135, .i32⟩
  | 104 => ⟨S135, .i32⟩
  | 105 => ⟨S135x1, .i32⟩
  | 106 => ⟨S135, .i32⟩
  | 107 => ⟨S135, .i32⟩
  | 108 => ⟨S_, .i32⟩
  | 109 => ⟨S135, .i32⟩
  | 110 => ⟨S135, .i1⟩
  | 111 => ⟨S_, .i32⟩
  | 112 => ⟨S135, .i32⟩
  | 113 => ⟨S135, .i32⟩
  | 114 => ⟨S135, .i32⟩
  | 115 => ⟨S135x1, .i32⟩
  | 116 => ⟨S135, .i32⟩
  | 117 => ⟨S_, .i32⟩
  | 118 => ⟨S135, .i32⟩
  | 119 => ⟨S135, .i32⟩
  | 120 => ⟨S135, .i32⟩
  | 121 => ⟨S_, .i32⟩
  | 122 => ⟨S_, .i32⟩
  | 123 => ⟨S_, .i32⟩
  | 124 => ⟨S135, .i32⟩
  | 125 => ⟨S135, .i32⟩
  | 126 => ⟨S_, .i32⟩
  | 127 => ⟨S135, .i32⟩
  | _ => ⟨S65536x2048, .bf16⟩

abbrev hbmTy0_1 (i : Nat) : BufTy := match i % 128 with
  | 0 => ⟨S_, .i32⟩
  | 1 => ⟨S135, .i32⟩
  | 2 => ⟨S135, .i1⟩
  | 3 => ⟨S_, .i32⟩
  | 4 => ⟨S135, .i32⟩
  | 5 => ⟨S135, .i32⟩
  | 6 => ⟨S135, .i32⟩
  | 7 => ⟨S135x1, .i32⟩
  | 8 => ⟨S135, .i32⟩
  | 9 => ⟨S_, .i32⟩
  | 10 => ⟨S135, .i32⟩
  | 11 => ⟨S135, .i32⟩
  | 12 => ⟨S135, .i32⟩
  | 13 => ⟨S_, .i32⟩
  | 14 => ⟨S_, .i32⟩
  | 15 => ⟨S_, .i32⟩
  | 16 => ⟨S135, .i32⟩
  | 17 => ⟨S135, .i32⟩
  | 18 => ⟨S_, .i32⟩
  | 19 => ⟨S135, .i32⟩
  | 20 => ⟨S135, .i32⟩
  | 21 => ⟨S_, .i32⟩
  | 22 => ⟨S_, .i32⟩
  | 23 => ⟨S135, .i32⟩
  | 24 => ⟨S65536x2816, .bf16⟩
  | _ => ⟨S65536x2048, .bf16⟩

abbrev hbmTy (i : Nat) : BufTy := match i / 128 with
  | 0 => hbmTy0_0 i
  | 1 => hbmTy0_1 i
  | _ => ⟨S65536x2048, .bf16⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S1x2816x2048, .fp8e4m3⟩
  | .local _ .vmem, ⟨3, _⟩ => ⟨S1x2816x2048, .fp8e4m3⟩
  | .local _ .vmem, ⟨4, _⟩ => ⟨S1x2816x64, .i8⟩
  | .local _ .vmem, ⟨5, _⟩ => ⟨S1x2816x64, .i8⟩
  | .local _ .vmem, ⟨6, _⟩ => ⟨S512x2816, .bf16⟩
  | .local _ .vmem, ⟨7, _⟩ => ⟨S512x2816, .bf16⟩
  | .local _ .vmem, ⟨8, _⟩ => ⟨S2816x2048, .bf16⟩
  | .local _ .vmem, ⟨9, _⟩ => ⟨S512x2048, .bf16⟩
  | .local _ .smem, ⟨0, _⟩ => ⟨S135, .i32⟩
  | .local _ .smem, ⟨1, _⟩ => ⟨S135, .i32⟩
  | .local _ .smem, ⟨2, _⟩ => ⟨S135, .i32⟩
  | .local _ .smem, ⟨3, _⟩ => ⟨S135, .i32⟩
  | _, _ => ⟨S65536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_c : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_0 : Ref sig .tc := ⟨.hbm, 22, rfl⟩
abbrev main_call1_v12 : Ref sig .tc := ⟨.hbm, 23, rfl⟩
abbrev main_call1_v13 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_c_2 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_c : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_0 : Ref sig .tc := ⟨.hbm, 49, rfl⟩
abbrev main_call2_v12 : Ref sig .tc := ⟨.hbm, 50, rfl⟩
abbrev main_call2_v13 : Ref sig .tc := ⟨.hbm, 51, rfl⟩
abbrev main_v9 : Ref sig .tc := ⟨.hbm, 52, rfl⟩
abbrev main_v10 : Ref sig .tc := ⟨.hbm, 53, rfl⟩
abbrev main_c_4 : Ref sig .tc := ⟨.hbm, 54, rfl⟩
abbrev main_call3_v0 : Ref sig .tc := ⟨.hbm, 55, rfl⟩
abbrev main_call3_v1 : Ref sig .tc := ⟨.hbm, 56, rfl⟩
abbrev main_v11 : Ref sig .tc := ⟨.hbm, 57, rfl⟩
abbrev main_call4_call0_c : Ref sig .tc := ⟨.hbm, 58, rfl⟩
abbrev main_call4_call0_v0 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_c_5 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_c_6 : Ref sig .tc := ⟨.hbm, 78, rfl⟩
abbrev main_c_7 : Ref sig .tc := ⟨.hbm, 79, rfl⟩
abbrev main_v30 : Ref sig .tc := ⟨.hbm, 80, rfl⟩
abbrev main_v31 : Ref sig .tc := ⟨.hbm, 81, rfl⟩
abbrev main_c_8 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_c_9 : Ref sig .tc := ⟨.hbm, 89, rfl⟩
abbrev main_v38 : Ref sig .tc := ⟨.hbm, 90, rfl⟩
abbrev main_v39 : Ref sig .tc := ⟨.hbm, 91, rfl⟩
abbrev main_c_10 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_c_11 : Ref sig .tc := ⟨.hbm, 98, rfl⟩
abbrev main_v45 : Ref sig .tc := ⟨.hbm, 99, rfl⟩
abbrev main_v46 : Ref sig .tc := ⟨.hbm, 100, rfl⟩
abbrev main_c_12 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_c_13 : Ref sig .tc := ⟨.hbm, 108, rfl⟩
abbrev main_v54 : Ref sig .tc := ⟨.hbm, 109, rfl⟩
abbrev main_v55 : Ref sig .tc := ⟨.hbm, 110, rfl⟩
abbrev main_c_14 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_c_15 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_c_16 : Ref sig .tc := ⟨.hbm, 121, rfl⟩
abbrev main_c_17 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_call5_v3 : Ref sig .tc := ⟨.hbm, 126, rfl⟩
abbrev main_call5_v4 : Ref sig .tc := ⟨.hbm, 127, rfl⟩
abbrev main_c_18 : Ref sig .tc := ⟨.hbm, 128, rfl⟩
abbrev main_v65 : Ref sig .tc := ⟨.hbm, 129, rfl⟩
abbrev main_v66 : Ref sig .tc := ⟨.hbm, 130, rfl⟩
abbrev main_c_19 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_c_20 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_c_21 : Ref sig .tc := ⟨.hbm, 141, rfl⟩
abbrev main_c_22 : Ref sig .tc := ⟨.hbm, 142, rfl⟩
abbrev main_call6_v0 : Ref sig .tc := ⟨.hbm, 143, rfl⟩
abbrev main_call6_v1 : Ref sig .tc := ⟨.hbm, 144, rfl⟩
abbrev main_call6_v2 : Ref sig .tc := ⟨.hbm, 145, rfl⟩
abbrev main_call6_v3 : Ref sig .tc := ⟨.hbm, 146, rfl⟩
abbrev main_call6_v4 : Ref sig .tc := ⟨.hbm, 147, rfl⟩
abbrev main_v75 : Ref sig .tc := ⟨.hbm, 148, rfl⟩
abbrev main_c_23 : Ref sig .tc := ⟨.hbm, 149, rfl⟩
abbrev main_call7_v0 : Ref sig .tc := ⟨.hbm, 150, rfl⟩
abbrev main_call7_v1 : Ref sig .tc := ⟨.hbm, 151, rfl⟩
abbrev main_v77 : Ref sig .tc := ⟨.hbm, 152, rfl⟩
abbrev main_v53 : Ref sig .tc := ⟨.smem, 0, rfl⟩
abbrev main_v29 : Ref sig .tc := ⟨.smem, 1, rfl⟩
abbrev main_v64 : Ref sig .tc := ⟨.smem, 2, rfl⟩
abbrev main_v76 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![135], ![false]⟩

abbrev pre0 : Pipeline.Prefetch sig := ⟨4, ![main_v53.idx, main_v29.idx, main_v64.idx, main_v76.idx], fun | 0 => main_v53.names | 1 => main_v29.names | 2 => main_v64.names | 3 => main_v76.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v9 : Index := Scalar.indexCast v1
  ![v9.toNat]
@[reducible] def k0_t1_loop : Scf.Loop 32 :=
  let c0_i32_3 : BitVec 32 := 0#32
  let c44_i32 : BitVec 32 := 44#32
  let v18 : BitVec 32 := Scalar.addi c0_i32_3 c44_i32
  let c1_i32_4 : BitVec 32 := 1#32
  ⟨c0_i32_3, v18, c1_i32_4⟩
def k0_mult1 (k0_t1 : Fin k0_t1_loop.trips) : BitVec 32 :=
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  v19
def k0_off3 (k0_t1 : Fin k0_t1_loop.trips) : Fin 3 → Nat :=
  let c0 : Index := 0#32
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v21 : Index := Scalar.indexCast v20
  let c0_6 : Index := 0#32
  ![0, v21.toNat, 0]
def k0_off4 (k0_t1 : Fin k0_t1_loop.trips) : Fin 3 → Nat :=
  let c0_9 : Index := 0#32
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v44 : Index := Scalar.indexCast v20
  let c0_10 : Index := 0#32
  ![0, v44.toNat, 0]
def k0_off5 (k0_t1 : Fin k0_t1_loop.trips) : Fin 2 → Nat :=
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v49 : Index := Scalar.indexCast v20
  let c0_11 : Index := 0#32
  ![v49.toNat, 0]
def k0_off6 (k0_t1 : Fin k0_t1_loop.trips) : Fin 3 → Nat :=
  let c0_15 : Index := 0#32
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v66 : Index := Scalar.indexCast v20
  let c128 : Index := 128#32
  ![0, v66.toNat, 128]
def k0_off7 (k0_t1 : Fin k0_t1_loop.trips) : Fin 2 → Nat :=
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v71 : Index := Scalar.indexCast v20
  let c128_16 : Index := 128#32
  ![v71.toNat, 128]
def k0_off8 (k0_t1 : Fin k0_t1_loop.trips) : Fin 3 → Nat :=
  let c0_20 : Index := 0#32
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v88 : Index := Scalar.indexCast v20
  let c256 : Index := 256#32
  ![0, v88.toNat, 256]
def k0_off9 (k0_t1 : Fin k0_t1_loop.trips) : Fin 2 → Nat :=
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v93 : Index := Scalar.indexCast v20
  let c256_21 : Index := 256#32
  ![v93.toNat, 256]
def k0_off10 (k0_t1 : Fin k0_t1_loop.trips) : Fin 3 → Nat :=
  let c0_25 : Index := 0#32
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v110 : Index := Scalar.indexCast v20
  let c384 : Index := 384#32
  ![0, v110.toNat, 384]
def k0_off11 (k0_t1 : Fin k0_t1_loop.trips) : Fin 2 → Nat :=
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v115 : Index := Scalar.indexCast v20
  let c384_26 : Index := 384#32
  ![v115.toNat, 384]
def k0_off12 (k0_t1 : Fin k0_t1_loop.trips) : Fin 3 → Nat :=
  let c0_30 : Index := 0#32
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v132 : Index := Scalar.indexCast v20
  let c512 : Index := 512#32
  ![0, v132.toNat, 512]
def k0_off13 (k0_t1 : Fin k0_t1_loop.trips) : Fin 2 → Nat :=
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v137 : Index := Scalar.indexCast v20
  let c512_31 : Index := 512#32
  ![v137.toNat, 512]
def k0_off14 (k0_t1 : Fin k0_t1_loop.trips) : Fin 3 → Nat :=
  let c0_35 : Index := 0#32
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v154 : Index := Scalar.indexCast v20
  let c640 : Index := 640#32
  ![0, v154.toNat, 640]
def k0_off15 (k0_t1 : Fin k0_t1_loop.trips) : Fin 2 → Nat :=
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v159 : Index := Scalar.indexCast v20
  let c640_36 : Index := 640#32
  ![v159.toNat, 640]
def k0_off16 (k0_t1 : Fin k0_t1_loop.trips) : Fin 3 → Nat :=
  let c0_40 : Index := 0#32
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v176 : Index := Scalar.indexCast v20
  let c768 : Index := 768#32
  ![0, v176.toNat, 768]
def k0_off17 (k0_t1 : Fin k0_t1_loop.trips) : Fin 2 → Nat :=
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v181 : Index := Scalar.indexCast v20
  let c768_41 : Index := 768#32
  ![v181.toNat, 768]
def k0_off18 (k0_t1 : Fin k0_t1_loop.trips) : Fin 3 → Nat :=
  let c0_45 : Index := 0#32
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v198 : Index := Scalar.indexCast v20
  let c896 : Index := 896#32
  ![0, v198.toNat, 896]
def k0_off19 (k0_t1 : Fin k0_t1_loop.trips) : Fin 2 → Nat :=
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v203 : Index := Scalar.indexCast v20
  let c896_46 : Index := 896#32
  ![v203.toNat, 896]
def k0_off20 (k0_t1 : Fin k0_t1_loop.trips) : Fin 3 → Nat :=
  let c0_50 : Index := 0#32
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v220 : Index := Scalar.indexCast v20
  let c1024 : Index := 1024#32
  ![0, v220.toNat, 1024]
def k0_off21 (k0_t1 : Fin k0_t1_loop.trips) : Fin 2 → Nat :=
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v225 : Index := Scalar.indexCast v20
  let c1024_51 : Index := 1024#32
  ![v225.toNat, 1024]
def k0_off22 (k0_t1 : Fin k0_t1_loop.trips) : Fin 3 → Nat :=
  let c0_55 : Index := 0#32
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v242 : Index := Scalar.indexCast v20
  let c1152 : Index := 1152#32
  ![0, v242.toNat, 1152]
def k0_off23 (k0_t1 : Fin k0_t1_loop.trips) : Fin 2 → Nat :=
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v247 : Index := Scalar.indexCast v20
  let c1152_56 : Index := 1152#32
  ![v247.toNat, 1152]
def k0_off24 (k0_t1 : Fin k0_t1_loop.trips) : Fin 3 → Nat :=
  let c0_60 : Index := 0#32
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v264 : Index := Scalar.indexCast v20
  let c1280 : Index := 1280#32
  ![0, v264.toNat, 1280]
def k0_off25 (k0_t1 : Fin k0_t1_loop.trips) : Fin 2 → Nat :=
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v269 : Index := Scalar.indexCast v20
  let c1280_61 : Index := 1280#32
  ![v269.toNat, 1280]
def k0_off26 (k0_t1 : Fin k0_t1_loop.trips) : Fin 3 → Nat :=
  let c0_66 : Index := 0#32
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v286 : Index := Scalar.indexCast v20
  let c1408 : Index := 1408#32
  ![0, v286.toNat, 1408]
def k0_off27 (k0_t1 : Fin k0_t1_loop.trips) : Fin 2 → Nat :=
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v291 : Index := Scalar.indexCast v20
  let c1408_67 : Index := 1408#32
  ![v291.toNat, 1408]
def k0_off28 (k0_t1 : Fin k0_t1_loop.trips) : Fin 3 → Nat :=
  let c0_71 : Index := 0#32
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v308 : Index := Scalar.indexCast v20
  let c1536 : Index := 1536#32
  ![0, v308.toNat, 1536]
def k0_off29 (k0_t1 : Fin k0_t1_loop.trips) : Fin 2 → Nat :=
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v313 : Index := Scalar.indexCast v20
  let c1536_72 : Index := 1536#32
  ![v313.toNat, 1536]
def k0_off30 (k0_t1 : Fin k0_t1_loop.trips) : Fin 3 → Nat :=
  let c0_76 : Index := 0#32
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v330 : Index := Scalar.indexCast v20
  let c1664 : Index := 1664#32
  ![0, v330.toNat, 1664]
def k0_off31 (k0_t1 : Fin k0_t1_loop.trips) : Fin 2 → Nat :=
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v335 : Index := Scalar.indexCast v20
  let c1664_77 : Index := 1664#32
  ![v335.toNat, 1664]
def k0_off32 (k0_t1 : Fin k0_t1_loop.trips) : Fin 3 → Nat :=
  let c0_81 : Index := 0#32
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v352 : Index := Scalar.indexCast v20
  let c1792 : Index := 1792#32
  ![0, v352.toNat, 1792]
def k0_off33 (k0_t1 : Fin k0_t1_loop.trips) : Fin 2 → Nat :=
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v357 : Index := Scalar.indexCast v20
  let c1792_82 : Index := 1792#32
  ![v357.toNat, 1792]
def k0_off34 (k0_t1 : Fin k0_t1_loop.trips) : Fin 3 → Nat :=
  let c0_86 : Index := 0#32
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v374 : Index := Scalar.indexCast v20
  let c1920 : Index := 1920#32
  ![0, v374.toNat, 1920]
def k0_off35 (k0_t1 : Fin k0_t1_loop.trips) : Fin 2 → Nat :=
  let c0_i32_3 : BitVec 32 := 0#32
  let c1_i32_4 : BitVec 32 := 1#32
  let arg11 : BitVec 32 := Scf.iv c0_i32_3 c1_i32_4 k0_t1
  let c64_i32 : BitVec 32 := 64#32
  let v19 : BitVec 32 := Scalar.muli arg11 c64_i32
  let v20 : BitVec 32 := v19
  let v379 : Index := Scalar.indexCast v20
  let c1920_87 : Index := 1920#32
  ![v379.toNat, 1920]
@[reducible] def k0_t2_loop : Scf.Loop 32 :=
  let c0_i32_3 : BitVec 32 := 0#32
  let c16_i32 : BitVec 32 := 16#32
  let v18 : BitVec 32 := Scalar.addi c0_i32_3 c16_i32
  let c1_i32_4 : BitVec 32 := 1#32
  ⟨c0_i32_3, v18, c1_i32_4⟩
def k0_mult2 (k0_t2 : Fin k0_t2_loop.trips) : BitVec 32 :=
  let c0_i32_3 : BitVec 32 := 0#32
  let c1_i32_4 : BitVec 32 := 1#32
  let arg11 : BitVec 32 := Scf.iv c0_i32_3 c1_i32_4 k0_t2
  let c32_i32 : BitVec 32 := 32#32
  let v27 : BitVec 32 := Scalar.muli arg11 c32_i32
  v27
def k0_off36 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c32_i32 : BitVec 32 := 32#32
  let v27 : BitVec 32 := Scalar.muli arg11 c32_i32
  let v28 : BitVec 32 := v27
  let v29 : Index := Scalar.indexCast v28
  let c0 : Index := 0#32
  ![v29.toNat, 0]
def k0_off37 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c32_i32 : BitVec 32 := 32#32
  let v27 : BitVec 32 := Scalar.muli arg11 c32_i32
  let v28 : BitVec 32 := v27
  let v85 : Index := Scalar.indexCast v28
  let c128 : Index := 128#32
  ![v85.toNat, 128]
def k0_off38 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c32_i32 : BitVec 32 := 32#32
  let v27 : BitVec 32 := Scalar.muli arg11 c32_i32
  let v28 : BitVec 32 := v27
  let v141 : Index := Scalar.indexCast v28
  let c256 : Index := 256#32
  ![v141.toNat, 256]
def k0_off39 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c32_i32 : BitVec 32 := 32#32
  let v27 : BitVec 32 := Scalar.muli arg11 c32_i32
  let v28 : BitVec 32 := v27
  let v197 : Index := Scalar.indexCast v28
  let c384 : Index := 384#32
  ![v197.toNat, 384]
def k0_off40 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c32_i32 : BitVec 32 := 32#32
  let v27 : BitVec 32 := Scalar.muli arg11 c32_i32
  let v28 : BitVec 32 := v27
  let v253 : Index := Scalar.indexCast v28
  let c512 : Index := 512#32
  ![v253.toNat, 512]
def k0_off41 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c32_i32 : BitVec 32 := 32#32
  let v27 : BitVec 32 := Scalar.muli arg11 c32_i32
  let v28 : BitVec 32 := v27
  let v309 : Index := Scalar.indexCast v28
  let c640 : Index := 640#32
  ![v309.toNat, 640]
def k0_off42 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c32_i32 : BitVec 32 := 32#32
  let v27 : BitVec 32 := Scalar.muli arg11 c32_i32
  let v28 : BitVec 32 := v27
  let v365 : Index := Scalar.indexCast v28
  let c768 : Index := 768#32
  ![v365.toNat, 768]
def k0_off43 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c32_i32 : BitVec 32 := 32#32
  let v27 : BitVec 32 := Scalar.muli arg11 c32_i32
  let v28 : BitVec 32 := v27
  let v421 : Index := Scalar.indexCast v28
  let c896 : Index := 896#32
  ![v421.toNat, 896]
def k0_off44 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c32_i32 : BitVec 32 := 32#32
  let v27 : BitVec 32 := Scalar.muli arg11 c32_i32
  let v28 : BitVec 32 := v27
  let v477 : Index := Scalar.indexCast v28
  let c1024 : Index := 1024#32
  ![v477.toNat, 1024]
def k0_off45 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c32_i32 : BitVec 32 := 32#32
  let v27 : BitVec 32 := Scalar.muli arg11 c32_i32
  let v28 : BitVec 32 := v27
  let v533 : Index := Scalar.indexCast v28
  let c1152 : Index := 1152#32
  ![v533.toNat, 1152]
def k0_off46 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c32_i32 : BitVec 32 := 32#32
  let v27 : BitVec 32 := Scalar.muli arg11 c32_i32
  let v28 : BitVec 32 := v27
  let v589 : Index := Scalar.indexCast v28
  let c1280 : Index := 1280#32
  ![v589.toNat, 1280]
def k0_off47 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c32_i32 : BitVec 32 := 32#32
  let v27 : BitVec 32 := Scalar.muli arg11 c32_i32
  let v28 : BitVec 32 := v27
  let v645 : Index := Scalar.indexCast v28
  let c1408 : Index := 1408#32
  ![v645.toNat, 1408]
def k0_off48 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c32_i32 : BitVec 32 := 32#32
  let v27 : BitVec 32 := Scalar.muli arg11 c32_i32
  let v28 : BitVec 32 := v27
  let v701 : Index := Scalar.indexCast v28
  let c1536 : Index := 1536#32
  ![v701.toNat, 1536]
def k0_off49 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c32_i32 : BitVec 32 := 32#32
  let v27 : BitVec 32 := Scalar.muli arg11 c32_i32
  let v28 : BitVec 32 := v27
  let v757 : Index := Scalar.indexCast v28
  let c1664 : Index := 1664#32
  ![v757.toNat, 1664]
def k0_off50 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c32_i32 : BitVec 32 := 32#32
  let v27 : BitVec 32 := Scalar.muli arg11 c32_i32
  let v28 : BitVec 32 := v27
  let v813 : Index := Scalar.indexCast v28
  let c1792 : Index := 1792#32
  ![v813.toNat, 1792]
def k0_off51 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c32_i32 : BitVec 32 := 32#32
  let v27 : BitVec 32 := Scalar.muli arg11 c32_i32
  let v28 : BitVec 32 := v27
  let v869 : Index := Scalar.indexCast v28
  let c1920 : Index := 1920#32
  ![v869.toNat, 1920]
def k0_cond2 (v3 : BitVec 32) (v5 : BitVec 32) : BitVec 1 :=
  let v15 : BitVec 1 := Scalar.cmpi .sgt v5 v3
  let v16 : BitVec 32 := Scalar.extui v15
  let c0_i32_2 : BitVec 32 := 0#32
  let v17 : BitVec 1 := Scalar.cmpi .ne v16 c0_i32_2
  v17

def k0_cond3 (v3 : BitVec 32) (v5 : BitVec 32) : BitVec 1 :=
  let c0_i32_6 : BitVec 32 := 0#32
  let v19 : BitVec 1 := Scalar.cmpi .eq v3 c0_i32_6
  let c512_i32 : BitVec 32 := 512#32
  let v20 : BitVec 1 := Scalar.cmpi .eq v5 c512_i32
  let v21 : BitVec 1 := Scalar.andi v19 v20
  let v22 : BitVec 32 := Scalar.extui v21
  let c0_i32_7 : BitVec 32 := 0#32
  let v23 : BitVec 1 := Scalar.cmpi .ne v22 c0_i32_7
  v23

def k0_cond4 (v3 : BitVec 32) (v5 : BitVec 32) : BitVec 1 :=
  let c0_i32_6 : BitVec 32 := 0#32
  let v19 : BitVec 1 := Scalar.cmpi .eq v3 c0_i32_6
  let c512_i32 : BitVec 32 := 512#32
  let v20 : BitVec 1 := Scalar.cmpi .eq v5 c512_i32
  let v21 : BitVec 1 := Scalar.andi v19 v20
  let v_true : BitVec 1 := 1#1
  let v24 : BitVec 1 := Scalar.xori v21 v_true
  let v25 : BitVec 32 := Scalar.extui v24
  let c0_i32_8 : BitVec 32 := 0#32
  let v26 : BitVec 1 := Scalar.cmpi .ne v25 c0_i32_8
  v26

def cc0_transform_0 (k0_off1_inb : ∀ i : grid0.Coords, ∀ a, (k0_off1 i) a + S1.size a ≤ S135.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S135) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S135.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S135) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S135.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S135) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S135.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S135) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2816x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2816x64 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S65536x2048 : Shape := ⟨2, ![65536, 2048]⟩
abbrev S8 : Shape := ⟨1, ![8]⟩
abbrev S8x2816x2048 : Shape := ⟨3, ![8, 2816, 2048]⟩
abbrev S8x2816x64 : Shape := ⟨3, ![8, 2816, 64]⟩
abbrev S65536x64x32 : Shape := ⟨3, ![65536, 64, 32]⟩
abbrev S_ : Shape := ⟨0, ![]⟩
abbrev S65536x64 : Shape := ⟨2, ![65536, 64]⟩
abbrev S65536x64x1 : Shape := ⟨3, ![65536, 64, 1]⟩
abbrev S8x2816x64x32 : Shape := ⟨4, ![8, 2816, 64, 32]⟩
abbrev S8x2816x64x1 : Shape := ⟨4, ![8, 2816, 64, 1]⟩
abbrev S65536x8x2816 : Shape := ⟨3, ![65536, 8, 2816]⟩
abbrev S65536x8 : Shape := ⟨2, ![65536, 8]⟩
abbrev S1x8 : Shape := ⟨2, ![1, 8]⟩
abbrev S65536x8x1 : Shape := ⟨3, ![65536, 8, 1]⟩
abbrev S65536x2816 : Shape := ⟨2, ![65536, 2816]⟩

abbrev nBuf : Space → Nat
  | .hbm => 81
  | .vmem => 4
  | .smem => 0
  | _ => 0

abbrev bufTy : (tb : Table) → Fin (tcTables nBuf tb) → BufTy
  | .hbm, ⟨0, _⟩ => ⟨S65536x2048, .bf16⟩
  | .hbm, ⟨1, _⟩ => ⟨S8, .i32⟩
  | .hbm, ⟨2, _⟩ => ⟨S8x2816x2048, .fp8e4m3⟩
  | .hbm, ⟨3, _⟩ => ⟨S8x2816x64, .i8⟩
  | .hbm, ⟨4, _⟩ => ⟨S65536x2048, .f32⟩
  | .hbm, ⟨5, _⟩ => ⟨S65536x64x32, .f32⟩
  | .hbm, ⟨6, _⟩ => ⟨S65536x64x32, .f32⟩
  | .hbm, ⟨7, _⟩ => ⟨S_, .f32⟩
  | .hbm, ⟨8, _⟩ => ⟨S65536x64, .f32⟩
  | .hbm, ⟨9, _⟩ => ⟨S_, .f32⟩
  | .hbm, ⟨10, _⟩ => ⟨S65536x64, .f32⟩
  | .hbm, ⟨11, _⟩ => ⟨S_, .f32⟩
  | .hbm, ⟨12, _⟩ => ⟨S65536x64, .f32⟩
  | .hbm, ⟨13, _⟩ => ⟨S65536x64, .f32⟩
  | .hbm, ⟨14, _⟩ => ⟨S65536x64, .f32⟩
  | .hbm, ⟨15, _⟩ => ⟨S65536x64, .f32⟩
  | .hbm, ⟨16, _⟩ => ⟨S65536x64, .f32⟩
  | .hbm, ⟨17, _⟩ => ⟨S65536x64, .f32⟩
  | .hbm, ⟨18, _⟩ => ⟨S_, .f32⟩
  | .hbm, ⟨19, _⟩ => ⟨S65536x64, .f32⟩
  | .hbm, ⟨20, _⟩ => ⟨S65536x64, .f32⟩
  | .hbm, ⟨21, _⟩ => ⟨S_, .f32⟩
  | .hbm, ⟨22, _⟩ => ⟨S65536x64, .f32⟩
  | .hbm, ⟨23, _⟩ => ⟨S65536x64, .i1⟩
  | .hbm, ⟨24, _⟩ => ⟨S_, .f32⟩
  | .hbm, ⟨25, _⟩ => ⟨S65536x64, .f32⟩
  | .hbm, ⟨26, _⟩ => ⟨S65536x64, .f32⟩
  | .hbm, ⟨27, _⟩ => ⟨S65536x64, .f32⟩
  | .hbm, ⟨28, _⟩ => ⟨S65536x64, .f32⟩
  | .hbm, ⟨29, _⟩ => ⟨S65536x64x1, .f32⟩
  | .hbm, ⟨30, _⟩ => ⟨S65536x64x32, .f32⟩
  | .hbm, ⟨31, _⟩ => ⟨S65536x64x32, .f32⟩
  | .hbm, ⟨32, _⟩ => ⟨S_, .f32⟩
  | .hbm, ⟨33, _⟩ => ⟨S65536x64x32, .f32⟩
  | .hbm, ⟨34, _⟩ => ⟨S65536x64x32, .f32⟩
  | .hbm, ⟨35, _⟩ => ⟨S_, .f32⟩
  | .hbm, ⟨36, _⟩ => ⟨S65536x64x32, .f32⟩
  | .hbm, ⟨37, _⟩ => ⟨S65536x64x32, .f32⟩
  | .hbm, ⟨38, _⟩ => ⟨S65536x64x32, .bf16⟩
  | .hbm, ⟨39, _⟩ => ⟨S8x2816x2048, .bf16⟩
  | .hbm, ⟨40, _⟩ => ⟨S65536x64, .f32⟩
  | .hbm, ⟨41, _⟩ => ⟨S65536x64, .bf16⟩
  | .hbm, ⟨42, _⟩ => ⟨S65536x64x1, .bf16⟩
  | .hbm, ⟨43, _⟩ => ⟨S65536x64x32, .bf16⟩
  | .hbm, ⟨44, _⟩ => ⟨S65536x64x32, .bf16⟩
  | .hbm, ⟨45, _⟩ => ⟨S65536x2048, .bf16⟩
  | .hbm, ⟨46, _⟩ => ⟨S8x2816x64, .i32⟩
  | .hbm, ⟨47, _⟩ => ⟨S_, .i32⟩
  | .hbm, ⟨48, _⟩ => ⟨S8x2816x64, .i32⟩
  | .hbm, ⟨49, _⟩ => ⟨S8x2816x64, .i32⟩
  | .hbm, ⟨50, _⟩ => ⟨S8x2816x64, .f32⟩
  | .hbm, ⟨51, _⟩ => ⟨S_, .f32⟩
  | .hbm, ⟨52, _⟩ => ⟨S8x2816x64, .f32⟩
  | .hbm, ⟨53, _⟩ => ⟨S8x2816x64, .f32⟩
  | .hbm, ⟨54, _⟩ => ⟨S8x2816x64, .bf16⟩
  | .hbm, ⟨55, _⟩ => ⟨S8x2816x64x32, .bf16⟩
  | .hbm, ⟨56, _⟩ => ⟨S8x2816x64x1, .bf16⟩
  | .hbm, ⟨57, _⟩ => ⟨S8x2816x64x32, .bf16⟩
  | .hbm, ⟨58, _⟩ => ⟨S8x2816x64x32, .bf16⟩
  | .hbm, ⟨59, _⟩ => ⟨S8x2816x2048, .bf16⟩
  | .hbm, ⟨60, _⟩ => ⟨S65536x8x2816, .f32⟩
  | .hbm, ⟨61, _⟩ => ⟨S_, .i32⟩
  | .hbm, ⟨62, _⟩ => ⟨S_, .i32⟩
  | .hbm, ⟨63, _⟩ => ⟨S8, .i32⟩
  | .hbm, ⟨64, _⟩ => ⟨S65536x8, .i32⟩
  | .hbm, ⟨65, _⟩ => ⟨S8, .i32⟩
  | .hbm, ⟨66, _⟩ => ⟨S1x8, .i32⟩
  | .hbm, ⟨67, _⟩ => ⟨S65536x8, .i32⟩
  | .hbm, ⟨68, _⟩ => ⟨S65536x8, .i1⟩
  | .hbm, ⟨69, _⟩ => ⟨S1x8, .i32⟩
  | .hbm, ⟨70, _⟩ => ⟨S65536x8, .i32⟩
  | .hbm, ⟨71, _⟩ => ⟨S65536x8, .i1⟩
  | .hbm, ⟨72, _⟩ => ⟨S65536x8, .i1⟩
  | .hbm, ⟨73, _⟩ => ⟨S65536x8x1, .i1⟩
  | .hbm, ⟨74, _⟩ => ⟨S65536x8x2816, .i1⟩
  | .hbm, ⟨75, _⟩ => ⟨S_, .f32⟩
  | .hbm, ⟨76, _⟩ => ⟨S65536x8x2816, .f32⟩
  | .hbm, ⟨77, _⟩ => ⟨S65536x8x2816, .f32⟩
  | .hbm, ⟨78, _⟩ => ⟨S_, .f32⟩
  | .hbm, ⟨79, _⟩ => ⟨S65536x2816, .f32⟩
  | .hbm, ⟨80, _⟩ => ⟨S65536x2816, .bf16⟩
  | .local _ .vmem, ⟨0, _⟩ => ⟨S65536x64x32, .f32⟩
  | .local _ .vmem, ⟨1, _⟩ => ⟨S8x2816x2048, .fp8e4m3⟩
  | .local _ .vmem, ⟨2, _⟩ => ⟨S65536x64x32, .bf16⟩
  | .local _ .vmem, ⟨3, _⟩ => ⟨S8x2816x2048, .bf16⟩
  | _, _ => ⟨S65536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26_0 : Ref sig .tc := ⟨.hbm, 38, rfl⟩
abbrev main_v26_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call0_call0_c : Ref sig .tc := ⟨.hbm, 61, rfl⟩
abbrev main_call0_call0_v0 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_8 : Ref sig .tc := ⟨.hbm, 75, rfl⟩
abbrev main_v58 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_v61 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S65536x64x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2816x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S65536x64x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2816x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Visits.lean ====
/- The visit tables in natural numbers. Rows lie in runs, one run per group, `G k` rows in group `k`; tiles of
   512 rows are visited once per group that has rows in them, in row order, and the visits past the last
   repeat it with no rows. The facts the kernel needs: which rows a visit covers, that the visits of a tile
   follow one another, that the last of them completes the tile, and that every tile is visited. -/
module

public import Mathlib.Data.Nat.Count
public import Mathlib.Algebra.BigOperators.Group.List.Basic
public import Idealize.ShloMosaic.Lib.Routing.Words

@[expose] public section

namespace Cert.Visits

variable (G : ℕ → ℕ)

/-- The running sum of `G`: where group `k` ends. -/
def E (k : ℕ) : ℕ := ((List.range (k + 1)).map G).sum
/-- Where group `k` starts. -/
def St (k : ℕ) : ℕ := E G k - G k
/-- How many tiles group `k` has rows in. -/
def C (k : ℕ) : ℕ := if 0 < G k then (E G k + 511) / 512 - St G k / 512 else 0
/-- The number of visits of the groups up to `k`. -/
def N (k : ℕ) : ℕ := E (C G) k
/-- The number of visits. -/
def T : ℕ := N G 7
/-- Visit `v`, or the last one when there are fewer. -/
def vc (v : ℕ) : ℕ := min v (T G - 1)
/-- The group of visit `v`. -/
def grp (v : ℕ) : ℕ := Nat.count (fun q => N G q ≤ vc G v) 8
/-- The tile of visit `v`. -/
def tile (v : ℕ) : ℕ := St G (grp G v) / 512 + vc G v - (N G (grp G v) - C G (grp G v))
/-- The first row of visit `v` in its tile. -/
def lo (v : ℕ) : ℕ := min 512 (St G (grp G v) - tile G v * 512)
/-- The row after its last, nothing for a visit past the end. -/
def hi (v : ℕ) : ℕ := if v < T G then min 512 (E G (grp G v) - tile G v * 512) else 0

theorem E_zero : E G 0 = G 0 := by simp [E]
theorem E_succ (k : ℕ) : E G (k + 1) = E G k + G (k + 1) := by
  unfold E; rw [List.range_succ, List.map_append, List.sum_append]; simp
theorem E_mono : Monotone (E G) := monotone_nat_of_le_succ fun k => by rw [E_succ]; omega
theorem le_E (k : ℕ) : G k ≤ E G k := by
  cases k with
  | zero => rw [E_zero]
  | succ k => rw [E_succ]; omega
theorem St_add (k : ℕ) : St G k + G k = E G k := by have := le_E G k; unfold St; omega
theorem St_zero : St G 0 = 0 := by unfold St; rw [E_zero]; omega
theorem St_succ (k : ℕ) : St G (k + 1) = E G k := by unfold St; rw [E_succ]; omega

theorem C_pos {k : ℕ} (h : 0 < C G k) : 0 < G k := by
  by_contra h'; unfold C at h; rw [if_neg h'] at h; omega
theorem C_of_pos {k : ℕ} (h : 0 < G k) : C G k = (E G k + 511) / 512 - St G k / 512 := if_pos h
theorem pos_C {k : ℕ} (h : 0 < G k) : 0 < C G k := by
  rw [C_of_pos G h]; have := St_add G k; omega

theorem N_mono : Monotone (N G) := E_mono _
/-- No more visits than tiles started, plus one for each group after the first. -/
theorem N_le (k : ℕ) : N G k ≤ (E G k + 511) / 512 + k := by
  induction k with
  | zero =>
    unfold N; rw [E_zero]; unfold C; split <;> omega
  | succ k ih =>
    unfold N at *; rw [E_succ]
    have h := St_succ G k
    have hm := E_mono G (Nat.le_succ k)
    unfold C at *
    split
    · rw [h]; simp only [Nat.succ_eq_add_one] at hm; omega
    · simp only [Nat.succ_eq_add_one] at hm; omega

section
variable (h1 : 1 ≤ E G 7) (h2 : E G 7 ≤ 65536)
include h1

theorem T_pos : 1 ≤ T G := by
  by_contra h
  have hz : ∀ k, k ≤ 7 → N G k = 0 := fun k hk => by have := N_mono G hk; unfold T at h; omega
  have hg : ∀ k, k ≤ 7 → E G k = 0 := by
    intro k
    induction k with
    | zero =>
      intro _
      have := hz 0 (by omega)
      unfold N at this; rw [E_zero] at this
      rw [E_zero]
      by_contra hne
      have := pos_C G (Nat.pos_of_ne_zero hne)
      omega
    | succ k ih =>
      intro hk
      have e1 := hz (k + 1) hk
      unfold N at e1; rw [E_succ] at e1
      rw [E_succ, ih (by omega)]
      by_contra hne
      have : 0 < G (k + 1) := by omega
      have := pos_C G this
      omega
  have := hg 7 le_rfl
  omega

theorem T_le (h2 : E G 7 ≤ 65536) : T G ≤ 135 := by
  have := N_le G 7; unfold T; omega

theorem vc_lt (v : ℕ) : vc G v < T G := by
  have := T_pos G h1; unfold vc; omega

/-- The group of a visit is the first whose visits end after it. -/
theorem grp_spec (v : ℕ) : grp G v < 8 ∧ vc G v < N G (grp G v) ∧ ∀ q < grp G v, N G q ≤ vc G v := by
  have hv := vc_lt G h1 v
  have hex : ∃ g, vc G v < N G g := ⟨7, hv⟩
  have hg := Nat.find_spec hex
  have hlt : ∀ q < Nat.find hex, N G q ≤ vc G v := fun q hq => by have := Nat.find_min hex hq; omega
  have h7 : Nat.find hex ≤ 7 := Nat.find_min' hex hv
  have e : grp G v = Nat.find hex := by
    unfold grp
    rw [Nat.count_eq_card_filter_range]
    have : (Finset.range 8).filter (fun q => N G q ≤ vc G v) = Finset.range (Nat.find hex) := by
      ext q
      simp only [Finset.mem_filter, Finset.mem_range]
      constructor
      · rintro ⟨_, hq⟩
        by_contra hn
        have := N_mono G (show Nat.find hex ≤ q by omega)
        omega
      · intro hq; exact ⟨by omega, hlt q hq⟩
    rw [this, Finset.card_range]
  rw [e]
  exact ⟨by omega, hg, hlt⟩

/-- The group of a visit, from the visits it has. -/
theorem grp_eq {v g : ℕ} (ha : vc G v < N G g) (hb : N G g - C G g ≤ vc G v) : grp G v = g := by
  obtain ⟨h8, hl, hq⟩ := grp_spec G h1 v
  rcases Nat.lt_trichotomy (grp G v) g with h | h | h
  · exfalso
    have : N G (grp G v) ≤ N G g - C G g := by
      cases g with
      | zero => omega
      | succ k =>
        have := N_mono G (show grp G v ≤ k by omega)
        have e : N G (k + 1) = N G k + C G (k + 1) := E_succ _ _
        omega
    omega
  · exact h
  · have := hq g h; omega

theorem grp_start (v : ℕ) : N G (grp G v) - C G (grp G v) ≤ vc G v := by
  obtain ⟨h8, hl, hq⟩ := grp_spec G h1 v
  generalize grp G v = g at *
  cases g with
  | zero =>
    have : N G 0 = C G 0 := E_zero _
    omega
  | succ k =>
    have e : N G (k + 1) = N G k + C G (k + 1) := E_succ _ _
    have := hq k (by omega)
    omega

theorem C_le_N (k : ℕ) : C G k ≤ N G k := le_E _ _

theorem C_grp_pos (v : ℕ) : 0 < C G (grp G v) := by
  have := grp_start G h1 v
  obtain ⟨h8, hl, hq⟩ := grp_spec G h1 v
  omega

/-- A visit's tile lies among those its group has rows in. -/
theorem tile_spec (v : ℕ) : St G (grp G v) / 512 ≤ tile G v ∧ tile G v * 512 < E G (grp G v) := by
  have ha := grp_start G h1 v
  obtain ⟨h8, hl, hq⟩ := grp_spec G h1 v
  have hc := C_grp_pos G h1 v
  have hC := C_of_pos G (C_pos G hc)
  have hn := C_le_N G h1 (grp G v)
  unfold tile
  omega

theorem tile_lt (h2 : E G 7 ≤ 65536) (v : ℕ) : tile G v < 128 := by
  obtain ⟨h8, hl, hq⟩ := grp_spec G h1 v
  have := (tile_spec G h1 v).2
  have := E_mono G (show grp G v ≤ 7 by omega)
  omega

/-- The rows a visit covers are its group's. -/
theorem covered (v r : ℕ) (hr : r < 512) (ha : lo G v ≤ r) (hb : r < hi G v) :
    St G (grp G v) ≤ tile G v * 512 + r ∧ tile G v * 512 + r < E G (grp G v) := by
  unfold lo at ha; unfold hi at hb
  split at hb <;> omega

omit h1 in
/-- Two groups one after the other in the visits: the later starts where the earlier ends. -/
theorem gap {g g' : ℕ} (hlt : g < g') (h : N G g = N G g' - C G g') : E G g = St G g' := by
  have key : ∀ d, ∀ k, k = g + d → k < g' → N G k = N G g ∧ E G k = E G g := by
    intro d
    induction d with
    | zero => intro k hk _; subst hk; exact ⟨rfl, rfl⟩
    | succ d ih =>
      intro k hk hk'
      obtain ⟨e1, e2⟩ := ih (g + d) rfl (by omega)
      subst hk
      have hN : N G (g + d + 1) = N G (g + d) + C G (g + d + 1) := E_succ _ _
      have hup : N G (g + d + 1) ≤ N G g := by
        rw [h]
        obtain ⟨j, rfl⟩ : ∃ j, g' = j + 1 := ⟨g' - 1, by omega⟩
        have e : N G (j + 1) = N G j + C G (j + 1) := E_succ _ _
        have := N_mono G (show g + d + 1 ≤ j by omega)
        omega
      have hC : C G (g + d + 1) = 0 := by omega
      have hG : G (g + d + 1) = 0 := by
        by_contra hne
        have := pos_C G (Nat.pos_of_ne_zero hne)
        omega
      refine ⟨?_, ?_⟩
      · show N G (g + d + 1) = _; omega
      · show E G (g + d + 1) = _; rw [E_succ]; omega
  obtain ⟨j, rfl⟩ : ∃ j, g' = j + 1 := ⟨g' - 1, by omega⟩
  rw [St_succ]
  exact ((key (j - g) j (by omega) (by omega)).2).symm

/-- From one visit to the next: the same group and the next tile, or the next group with rows. -/
theorem step (v : ℕ) (hv : v + 1 < T G) :
    (grp G (v + 1) = grp G v ∧ tile G (v + 1) = tile G v + 1) ∨
    (E G (grp G v) = St G (grp G (v + 1)) ∧ tile G (v + 1) = St G (grp G (v + 1)) / 512 ∧ tile G v = (E G (grp G v) + 511) / 512 - 1) := by
  have e0 : vc G v = v := by unfold vc; omega
  have e1 : vc G (v + 1) = v + 1 := by unfold vc; omega
  have a0 := grp_start G h1 v
  have a1 := grp_start G h1 (v + 1)
  obtain ⟨h80, hl0, hq0⟩ := grp_spec G h1 v
  obtain ⟨h81, hl1, hq1⟩ := grp_spec G h1 (v + 1)
  have c0 := C_of_pos G (C_pos G (C_grp_pos G h1 v))
  have c1 := C_of_pos G (C_pos G (C_grp_pos G h1 (v + 1)))
  have n0 := C_le_N G h1 (grp G v)
  have p0 := C_grp_pos G h1 v
  rw [e0] at a0 hl0
  rw [e1] at a1 hl1
  by_cases hn : v + 1 < N G (grp G v)
  · left
    have eg : grp G (v + 1) = grp G v := grp_eq G h1 (by rw [e1]; exact hn) (by rw [e1]; omega)
    refine ⟨eg, ?_⟩
    unfold tile; rw [eg, e0, e1]; omega
  · right
    have hne : grp G v < grp G (v + 1) := by
      by_contra hh
      have := N_mono G (show grp G (v + 1) ≤ grp G v by omega)
      omega
    have hN : N G (grp G v) = N G (grp G (v + 1)) - C G (grp G (v + 1)) := by
      have : N G (grp G v) ≤ N G (grp G (v + 1)) - C G (grp G (v + 1)) := by
        obtain ⟨j, hj⟩ : ∃ j, grp G (v + 1) = j + 1 := ⟨grp G (v + 1) - 1, by omega⟩
        rw [hj]
        have e : N G (j + 1) = N G j + C G (j + 1) := E_succ _ _
        have := N_mono G (show grp G v ≤ j by omega)
        omega
      omega
    have eE := gap G hne hN
    refine ⟨eE, ?_, ?_⟩
    · unfold tile; rw [e1]; omega
    · unfold tile; rw [e0]; omega

/-- After the last visit the group's end is the end of all rows. -/
theorem last_end (v : ℕ) (hv : T G - 1 ≤ v) : E G (grp G v) = E G 7 := by
  have e0 : vc G v = T G - 1 := by unfold vc; omega
  obtain ⟨h8, hl, hq⟩ := grp_spec G h1 v
  have hp := T_pos G h1
  have hN : N G (grp G v) = N G 7 := by
    have := N_mono G (show grp G v ≤ 7 by omega)
    unfold T at *; omega
  by_cases h7 : grp G v = 7
  · rw [h7]
  · have hC : C G 7 ≤ 0 := by
      have e : N G 7 = N G 6 + C G 7 := E_succ _ _
      have := N_mono G (show grp G v ≤ 6 by omega)
      omega
    have hG : G 7 = 0 := by
      by_contra hne
      have := pos_C G (Nat.pos_of_ne_zero hne)
      omega
    have := gap G (show grp G v < 7 by omega) (by omega)
    have := St_add G 7
    omega

theorem past (v : ℕ) (hv : T G ≤ v + 1) : grp G (v + 1) = grp G v ∧ tile G (v + 1) = tile G v := by
  have e : vc G (v + 1) = vc G v := by unfold vc; omega
  have eg : grp G (v + 1) = grp G v := by unfold grp; rw [e]
  exact ⟨eg, by unfold tile; rw [eg, e]⟩

/-- A row of the visited tile before the end of the visit's group is covered now, or the visit before was
    to the same tile and the row was before the end of that visit's group. -/
theorem before (v r : ℕ) (hr : r < 512) (hE : tile G v * 512 + r < E G (grp G v)) :
    (lo G v ≤ r ∧ r < hi G v) ∨
    (0 < v ∧ tile G (v - 1) = tile G v ∧ tile G v * 512 + r < E G (grp G (v - 1))) := by
  by_cases hT : v < T G
  · by_cases hS : St G (grp G v) ≤ tile G v * 512 + r
    · left
      refine ⟨by unfold lo; omega, ?_⟩
      unfold hi; rw [if_pos hT]; omega
    · right
      rcases Nat.eq_zero_or_pos v with h0 | hpos
      · exfalso
        subst h0
        have hv0 : vc G 0 = 0 := by unfold vc; omega
        have ha := grp_start G h1 0
        obtain ⟨h8, hl, hq⟩ := grp_spec G h1 0
        rw [hv0] at *
        rcases Nat.eq_zero_or_pos (grp G 0) with hg | hg
        · rw [hg, St_zero] at hS; omega
        · have e0 : N G 0 = 0 := by have := hq 0 hg; omega
          have hG0 : G 0 = 0 := by
            by_contra hne
            have := pos_C G (Nat.pos_of_ne_zero hne)
            have : N G 0 = C G 0 := E_zero _
            omega
          have := gap G hg (by omega)
          rw [E_zero] at this
          omega
      · obtain ⟨u, rfl⟩ : ∃ u, v = u + 1 := ⟨v - 1, by omega⟩
        rw [Nat.add_sub_cancel]
        rcases step G h1 u hT with ⟨eg, et⟩ | ⟨eE, et, et'⟩
        · exfalso
          have := (tile_spec G h1 u).1
          rw [eg] at hS
          omega
        · refine ⟨by omega, by omega, by omega⟩
  · right
    have hp := T_pos G h1
    obtain ⟨u, rfl⟩ : ∃ u, v = u + 1 := ⟨v - 1, by omega⟩
    obtain ⟨eg, et⟩ := past G h1 u (by omega)
    rw [Nat.add_sub_cancel]
    exact ⟨by omega, et.symm, by rw [← eg]; exact hE⟩

/-- When a tile is left, or at the last visit, all its rows are before the end of the visit's group. -/
theorem complete (h2 : E G 7 = 65536) (v r : ℕ) (hr : r < 512) (hv : 134 ≤ v ∨ tile G (v + 1) ≠ tile G v) :
    tile G v * 512 + r < E G (grp G v) := by
  have ht := tile_lt G h1 h2.le v
  by_cases hl : T G - 1 ≤ v
  · rw [last_end G h1 v hl, h2]; omega
  · have hT := T_le G h1 h2.le
    have hne : tile G (v + 1) ≠ tile G v := by
      rcases hv with h | h
      · omega
      · exact h
    have hs := (tile_spec G h1 v).2
    rcases step G h1 v (by omega) with ⟨eg, et⟩ | ⟨eE, et, et'⟩
    · have := (tile_spec G h1 (v + 1)).2
      rw [eg, et] at this
      omega
    · rw [← eE] at et
      omega

/-- Every tile is visited. -/
theorem visited (h2 : E G 7 = 65536) (i : ℕ) (hi : i < 128) : ∃ v < 135, tile G v = i := by
  have hex : ∃ g, i * 512 < E G g := ⟨7, by omega⟩
  have hg := Nat.find_spec hex
  have h7 : Nat.find hex ≤ 7 := Nat.find_min' hex (by omega)
  have hS : St G (Nat.find hex) ≤ i * 512 := by
    rcases Nat.eq_zero_or_pos (Nat.find hex) with h | h
    · rw [h, St_zero]; omega
    · have := Nat.find_min hex (show Nat.find hex - 1 < Nat.find hex by omega)
      obtain ⟨j, hj⟩ : ∃ j, Nat.find hex = j + 1 := ⟨Nat.find hex - 1, by omega⟩
      rw [hj, Nat.add_sub_cancel] at this
      rw [hj, St_succ]; omega
  generalize Nat.find hex = g at *
  have hp : 0 < G g := by have := St_add G g; omega
  have c0 := C_of_pos G hp
  have n0 := C_le_N G h1 g
  have hT : N G g ≤ T G := N_mono G h7
  have hT' := T_le G h1 h2.le
  have e : vc G (N G g - C G g + (i - St G g / 512)) = N G g - C G g + (i - St G g / 512) := by
    unfold vc; omega
  have eg : grp G (N G g - C G g + (i - St G g / 512)) = g := grp_eq G h1 (by rw [e]; omega) (by rw [e]; omega)
  refine ⟨N G g - C G g + (i - St G g / 512), by omega, ?_⟩
  unfold tile; rw [eg, e]; omega

end

end Cert.Visits
-- ==== Proof.Words.lean ====
/- Words that hold natural numbers: the host's operations at an entry whose number is known. -/
module

public import Idealize.ShloMosaic.Lib.Routing.Words

@[expose] public section

namespace Cert.Words

open Idealize.ShloMosaic Idealize.ShloMosaic.ValueIdx Idealize.ShloMosaic.Routing

theorem sub_ofNat {a b : ℕ} (h : b ≤ a) : BitVec.ofNat 32 a - BitVec.ofNat 32 b = BitVec.ofNat 32 (a - b) := by
  obtain ⟨d, rfl⟩ := Nat.exists_eq_add_of_le h
  rw [Nat.add_sub_cancel_left, BitVec.ofNat_add, BitVec.add_comm, BitVec.add_sub_cancel]

theorem toInt_ofNat {a : ℕ} (h : a < 2 ^ 31) : (BitVec.ofNat 32 a).toInt = a := by
  rw [BitVec.toInt_eq_toNat_of_lt (by rw [BitVec.toNat_ofNat]; omega), BitVec.toNat_ofNat, Nat.mod_eq_of_lt (by omega)]

theorem minsi_ofNat {a b : ℕ} (ha : a < 2 ^ 31) (hb : b < 2 ^ 31) :
    IntOp.minsi (BitVec.ofNat 32 a) (BitVec.ofNat 32 b) = BitVec.ofNat 32 (min a b) := by
  unfold IntOp.minsi BitVec.slt
  rw [toInt_ofNat ha, toInt_ofNat hb]
  by_cases h : a < b
  · rw [if_pos (by simpa using h), Nat.min_eq_left h.le]
  · rw [if_neg (by simpa using h), Nat.min_eq_right (by omega)]

/-- A difference clipped between 0 and 512. -/
theorem clip_ofNat {a b : ℕ} (ha : a < 2 ^ 30) (hb : b < 2 ^ 30) :
    IntOp.minsi 512#32 (IntOp.maxsi 0#32 (BitVec.ofNat 32 a - BitVec.ofNat 32 b)) = BitVec.ofNat 32 (min 512 (a - b)) := by
  have key : IntOp.maxsi 0#32 (BitVec.ofNat 32 a - BitVec.ofNat 32 b) = BitVec.ofNat 32 (a - b) := by
    have ht : (BitVec.ofNat 32 a - BitVec.ofNat 32 b).toInt = (a : Int) - b := by
      rw [BitVec.toInt_sub, toInt_ofNat (by omega), toInt_ofNat (by omega), Int.bmod_eq_of_le (by omega) (by omega)]
    unfold IntOp.maxsi BitVec.slt
    rw [ht]
    by_cases h : b < a
    · rw [sub_ofNat h.le]
      by_cases h' : ((a : Int) - b < (0#32 : BitVec 32).toInt)
      · exfalso; simp at h'; omega
      · split <;> first | rfl | (exfalso; simp_all; omega)
    · have e : a - b = 0 := by omega
      rw [e]
      by_cases h' : a = b
      · subst h'
        rw [BitVec.sub_self]; split <;> rfl
      · split
        · rename_i hh; simp at hh; first | rfl | (exfalso; omega)
        · rename_i hh; simp at hh; first | rfl | (exfalso; omega)
  rw [key]
  exact minsi_ofNat (a := 512) (by omega) (by omega)

/-- The gather `x[idx]` of a vector at a column of start indices: entry `t` is the operand's entry at
    `idx[t, 0]`, read signed and clamped. -/
theorem gather1 {α : Type} {n R : ℕ} (hN : 0 < n) (d : GatherDims (shape1 n) (shape2 R 1) (shape1 R))
    (h1 : d.offsetDims = []) (h2 : d.collapsedSliceDims = [0]) (h3 : d.operandBatchingDims = []) (h4 : d.startIndicesBatchingDims = [])
    (h5 : d.startIndexMap = [0]) (h6 : d.indexVectorDim = 1) (h7 : d.sliceSizes = ![1])
    (x : (shape1 n).Idx → α) (idx : IVec (shape2 R 1) 32) (t : Fin R) :
    Host.gather d x idx (ix1 t) = x (ix1 ⟨min (idx (ix2 t (0 : Fin 1))).toInt.toNat (n - 1), by omega⟩) := by
  obtain ⟨od, cs, ob, sb, sm, iv, ss, wf⟩ := d
  subst h1 h2 h3 h4 h5 h6 h7
  set d : GatherDims (shape1 n) (shape2 R 1) (shape1 R) := ⟨[], [0], [], [], [0], 1, ![1], wf⟩ with hd
  unfold Host.gather
  congr 1
  funext a
  obtain rfl : a = 0 := Subsingleton.elim _ _
  refine Fin.ext ?_
  show d.start (ix1 t) idx 0 + d.batchCoord (ix1 t) 0 + d.offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ d.startIndexMap from List.mem_singleton.mpr rfl)]
  have hsi : d.siIdx (ix1 t) ⟨List.idxOf (0 : Fin 1) d.startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi]
  rfl

end Cert.Words
-- ==== Proof.Given.lean ====
/- What the frames' precondition says: every group's size is at most 65536 and so is their sum, which is
   positive. -/
module

public import proofs.«01_k».proof.Pre_sizes_fit
public import proofs.«01_k».proof.Proof.Visits
public import proofs.«01_k».proof.Proof.Words

@[expose] public section

namespace Cert.Given

open Idealize.ShloMosaic Idealize.ShloMosaic.ValueIdx Idealize.ShloMosaic.Routing Cert.Visits

/-- The sizes as natural numbers. -/
def sizes (gs : IVec (shape1 8) 32) (k : ℕ) : ℕ := if h : k < 8 then (gs (ix1 ⟨k, h⟩)).toNat else 0

theorem and_one {a b : BitVec 1} (h : a &&& b = 1#1) : a = 1#1 ∧ b = 1#1 := by
  revert a b; decide

theorem ofBool_one (b : Bool) : BitVec.ofBool b = 1#1 ↔ b = true := by cases b <;> decide

theorem range_of (x : BitVec 32) (h : IntOp.cmpi .sge x 0#32 &&& IntOp.cmpi .sle x 65536#32 = 1#1) : x.toNat ≤ 65536 := by
  obtain ⟨ha, hb⟩ := and_one h
  rw [WordCmp.cmpi_sge_eq, ofBool_one, decide_eq_true_iff] at ha
  rw [WordCmp.cmpi_sle_eq, ofBool_one, decide_eq_true_iff] at hb
  have e0 : (0#32 : BitVec 32).toInt = 0 := by decide
  have e1 : (65536#32 : BitVec 32).toInt = 65536 := by decide
  rw [e0] at ha; rw [e1] at hb
  rw [BitVec.toInt_eq_toNat_cond] at ha hb
  split at ha <;> split at hb <;> omega

theorem sum_le (G : ℕ → ℕ) (h : ∀ k < 8, G k ≤ 65536) : E G 7 ≤ 524288 := by
  have e : E G 7 = G 0 + G 1 + G 2 + G 3 + G 4 + G 5 + G 6 + G 7 := by
    simp only [E_succ, E_zero]
  have := h 0 (by omega); have := h 1 (by omega); have := h 2 (by omega); have := h 3 (by omega)
  have := h 4 (by omega); have := h 5 (by omega); have := h 6 (by omega); have := h 7 (by omega)
  omega

theorem sum_word (gs : IVec (shape1 8) 32) (hr : (shape1 8).ReducesTo [0] shape0) (hu : 0 < shape0.numel) (j : shape0.Idx) :
    Host.reduce IntOp.addi gs (constantI shape0 32 0#32) hr hu j = BitVec.ofNat 32 (E (sizes gs) 7) := by
  obtain rfl : j = ix0 := funext fun a => a.elim0
  refine reduce_sum gs (sizes gs) (fun i => ?_) hr hu
  unfold sizes; rw [dif_pos i.isLt]
  exact ((BitVec.ofNat_toNat 32 _).trans (BitVec.setWidth_eq _)).symm

variable {F : FTy → Type} [FloatOps F]

theorem of_fit [Cert.Pre_sizes_fit.Facts] {a0 : FVec F Pre_sizes_fit.S65536x2048 .bf16} {gs : IVec (shape1 8) 32} {a2 : FVec F Pre_sizes_fit.S8x2816x2048 .fp8e4m3}
    {a3 : IVec Pre_sizes_fit.S8x2816x64 8} (e1 : (Pre_sizes_fit.fn a0 gs a2 a3).1 = fun _ => 1#1) (e2 : (Pre_sizes_fit.fn a0 gs a2 a3).2 = fun _ => 1#1) :
    1 ≤ E (sizes gs) 7 ∧ E (sizes gs) 7 ≤ 65536 := by
  have hk : ∀ k < 8, sizes gs k ≤ 65536 := fun k h => by
    unfold sizes; rw [dif_pos h]
    exact range_of _ (congrFun e1 (ix1 ⟨k, h⟩))
  have hs := sum_le _ hk
  have e := congrFun e2 ix0
  change IntOp.cmpi .sge (Host.reduce IntOp.addi gs (constantI shape0 32 0#32) _ _ ix0) 1#32 &&& IntOp.cmpi .sle (Host.reduce IntOp.addi gs (constantI shape0 32 0#32) _ _ ix0) 65536#32 = 1#1 at e
  rw [sum_word] at e
  obtain ⟨ha, hb⟩ := and_one e
  exact ⟨(WordCmp.cmpi_sge_ofNat_eq_one_iff (w := 32) (b := 1) (by omega) (by omega)).1 ha,
    (WordCmp.cmpi_sle_ofNat_eq_one_iff (w := 32) (b := 65536) (by omega) (by omega)).1 hb⟩

end Cert.Given
-- ==== Proof.GivenScales.lean ====
/- What the value claim's precondition says: the groups' sizes sum to 65536, and every weight scale is between
   1 and 254. -/
module

public import proofs.«01_k».proof.Pre_sizes_and_scales
public import proofs.«01_k».proof.Proof.Given

@[expose] public section

namespace Cert.Given

open Idealize.ShloMosaic Idealize.ShloMosaic.ValueIdx Idealize.ShloMosaic.Routing Cert.Visits
variable {F : FTy → Type} [FloatOps F]

theorem of_scales [Cert.Pre_sizes_and_scales.Facts] {a0 : FVec F Pre_sizes_fit.S65536x2048 .bf16} {gs : IVec (shape1 8) 32} {a2 : FVec F Pre_sizes_fit.S8x2816x2048 .fp8e4m3}
    {a3 : IVec Pre_sizes_fit.S8x2816x64 8} (e1 : (Pre_sizes_and_scales.fn a0 gs a2 a3).1 = fun _ => 1#1) (e2 : (Pre_sizes_and_scales.fn a0 gs a2 a3).2.1 = fun _ => 1#1)
    (e3 : (Pre_sizes_and_scales.fn a0 gs a2 a3).2.2 = fun _ => 1#1) :
    E (sizes gs) 7 = 65536 ∧ ∀ i, 1 ≤ (a3 i).toNat ∧ (a3 i).toNat ≤ 254 := by
  have hk : ∀ k < 8, sizes gs k ≤ 65536 := fun k h => by
    unfold sizes; rw [dif_pos h]
    exact range_of _ (congrFun e1 (ix1 ⟨k, h⟩))
  have hs := sum_le _ hk
  constructor
  · have e := congrFun e2 ix0
    change IntOp.cmpi .eq (Host.reduce IntOp.addi gs (constantI shape0 32 0#32) _ _ ix0) 65536#32 = 1#1 at e
    rw [sum_word] at e
    exact (WordCmp.cmpi_eq_ofNat_eq_one_iff (w := 32) (b := 65536) (by omega) (by omega)).1 e
  · intro i
    have e := congrFun e3 i
    change IntOp.cmpi .sge ((a3 i).setWidth 32) 1#32 &&& IntOp.cmpi .sle ((a3 i).setWidth 32) 254#32 = 1#1 at e
    have hl := (a3 i).isLt
    have ew : (a3 i).setWidth 32 = BitVec.ofNat 32 (a3 i).toNat := (BitVec.ofNat_toNat 32 _).symm
    rw [ew] at e
    obtain ⟨ha, hb⟩ := and_one e
    exact ⟨(WordCmp.cmpi_sge_ofNat_eq_one_iff (w := 32) (b := 1) (by omega) (by omega)).1 ha,
      (WordCmp.cmpi_sle_ofNat_eq_one_iff (w := 32) (b := 254) (by omega) (by omega)).1 hb⟩

end Cert.Given
-- ==== Proof.Kernel.Host.lean ====
/- The host operations before the kernel call: the call is reached with every buffer at what those
   operations leave, and none of them writes an argument. -/
module

public import proofs.«01_k».proof.Proof.Gen.Kernel.Launch
public import Idealize.ShloMosaic.Lib.Pipeline.FrameBody
public import Idealize.ShloMosaic.Lib.StableHlo.RunRead

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (m : (ℓ : Loc nD τ sig) → Buf (Elt F) ℓ)

/-- The host operations, stretch by stretch. -/
abbrev opss : List (List (HloOp τ sig (Elt F))) :=
  [hostOps0, hostOps0_1, hostOps0_2, hostOps0_3, hostOps0_4, hostOps0_5, hostOps0_6, hostOps0_7, hostOps0_8,
    hostOps0_9, hostOps0_10, hostOps0_11, hostOps0_12, hostOps0_13]

/-- What the buffers hold when the kernel is called. -/
def V (c : Dev nD) (b : Ref sig .tc) : Buf (Elt F) ((c : Thread nD τ).loc b) :=
  StableHlo.after opss.flatten (fun b => m (c, b)) b

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
    hostOps0_8_sub, hostOps0_9_sub, hostOps0_10_sub, hostOps0_11_sub, hostOps0_12_sub, hostOps0_13_sub⟩

theorem opss_fresh : (opss (F := F)).Forall fun ops => ops.Forall fun op => op.fresh = ∅ := by
  refine ⟨?_, ?_, ?_, ?_, ?_, ?_, ?_, ?_, ?_, ?_, ?_, ?_, ?_, ?_⟩ <;>
    simp only [List.forall_iff_forall_mem, List.mem_cons, List.not_mem_nil, or_false, forall_eq_or_imp, forall_eq] <;>
    (repeat' constructor)

/-- @main runs the host operations, then the kernel. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main opss opss_sub opss_fresh fun c => (main_chain c).trans rfl

theorem V_main_arg0 (c : Dev nD) : V m c main_arg0 = m ((c : Thread nD τ).loc main_arg0) := by
  unfold V; after_reads_simp
theorem V_main_arg1 (c : Dev nD) : V m c main_arg1 = m ((c : Thread nD τ).loc main_arg1) := by
  unfold V; after_reads_simp
theorem V_main_arg2 (c : Dev nD) : V m c main_arg2 = m ((c : Thread nD τ).loc main_arg2) := by
  unfold V; after_reads_simp
theorem V_main_arg3 (c : Dev nD) : V m c main_arg3 = m ((c : Thread nD τ).loc main_arg3) := by
  unfold V; after_reads_simp

end Cert.Kernel.Hand
-- ==== Proof.Kernel.Tail.lean ====
/- One grid point of the kernel after the weight block has been rebuilt: the activations are rounded
   (second loop) and the eleven products are stored, whole or masked, or nothing is done. `tail` is
   that part of the printed body; `tailRun_full` and `tailRun_masked` run it on any buffers and find
   the pieces it stores, and `tail_dead` says that it does nothing when the row range is empty. -/
module

public import proofs.«01_k».proof.Proof.Gen.Kernel.Loops
public import proofs.«01_k».proof.Proof.Gen.Kernel.Launch
public import Idealize.ShloMosaic.Lib.Pipeline.FrameBody
public import Idealize.ShloMosaic.Lib.Tactic

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
/-- The printed body from the test of the row range on. -/
noncomputable def tail (i : grid0.Coords) (arg1 : Memref sig .tc .smem S135 .i32) (harg1 : arg1.IsWhole) (arg2 : Memref sig .tc .smem S135 .i32) (harg2 : arg2.IsWhole) (arg3 : Memref sig .tc .smem S135 .i32) (harg3 : arg3.IsWhole) (arg4 : Memref sig .tc .smem S135 .i32) (harg4 : arg4.IsWhole) (arg5 : Memref sig .tc .vmem S512x2048 .bf16) (harg5 : arg5.IsWhole) (arg6 : Memref sig .tc .vmem S1x2816x2048 .fp8e4m3) (harg6 : arg6.IsWhole) (arg7 : Memref sig .tc .vmem S1x2816x64 .i8) (harg7 : arg7.IsWhole) (arg8 : Memref sig .tc .vmem S512x2816 .bf16) (harg8 : arg8.IsWhole) (arg9 : Memref sig .tc .vmem S2816x2048 .bf16) (harg9 : arg9.IsWhole) (arg10 : Memref sig .tc .vmem S512x2048 .bf16) (harg10 : arg10.IsWhole) (v3 v5 : Elt F .i32) :
    Prog (TpuEff nD τ sig (Elt F) Λ₀ .tc) PUnit := do
  if k0_h2 : k0_cond2 v3 v5 = 1#1 then do
    Scf.Loop.for k0_t2_loop k0_t2_ok ⟨⟩ (k0_t2_body i arg1 harg1 arg2 harg2 arg3 harg3 arg4 harg4 arg5 harg5 arg6 harg6 arg7 harg7 arg8 harg8 arg9 harg9 arg10 harg10)
    if k0_h3 : k0_cond3 v3 v5 = 1#1 then do
      let v49 : FVec F S512x256 .f32 ← k0_part29 i arg1 harg1 arg2 harg2 arg3 harg3 arg4 harg4 arg5 harg5 arg6 harg6 arg7 harg7 arg8 harg8 arg9 harg9 arg10 harg10
      let v72 : Vec F S512x2048 .bf16 ← k0_part30 i arg1 harg1 arg2 harg2 arg3 harg3 arg4 harg4 arg5 harg5 arg6 harg6 arg7 harg7 arg8 harg8 arg9 harg9 arg10 harg10 v49
      let v73 : Vec F S256x2048 .bf16 ← Prog.lift (.load arg9 (Rect.unit (s := S2816x2048) ![2304, 0] S256x2048.size inb_S2816x2048_S256x2048_2304_0).toLoadRect (View.loadsAt_vmem h_S256x2048))
      let v76 : Vec F S512x256 .bf16 ← Prog.lift (.load arg8 (Rect.unit (s := S512x2816) ![0, 2304] S512x256.size inb_S512x2816_S512x256_0_2304).toLoadRect (View.loadsAt_vmem h_S512x256))
      Prog.lift (.store arg8 (Rect.unit (s := S512x2816) ![0, 2304] S512x256.size inb_S512x2816_S512x256_0_2304) (k0_pay3 v72 v73) Finset.univ (View.stores_vmem h_S512x256 (harg8.storeExact_slice rfl _ packedbf16_S512x2816_S512x256_0_2304) (fun _ => rfl)) (.inl rfl))
      let v77 : Vec F S512x2048 .bf16 ← Prog.lift (.load arg10 (Rect.unit (s := S512x2048) ![0, 0] S512x2048.size inb_S512x2048_S512x2048_0_0).toLoadRect (View.loadsAt_vmem h_S512x2048))
      let v78 : Vec F S256x2048 .bf16 ← Prog.lift (.load arg9 (Rect.unit (s := S2816x2048) ![2560, 0] S256x2048.size inb_S2816x2048_S256x2048_2560_0).toLoadRect (View.loadsAt_vmem h_S256x2048))
      let v81 : Vec F S512x256 .bf16 ← Prog.lift (.load arg8 (Rect.unit (s := S512x2816) ![0, 2560] S512x256.size inb_S512x2816_S512x256_0_2560).toLoadRect (View.loadsAt_vmem h_S512x256))
      Prog.lift (.store arg8 (Rect.unit (s := S512x2816) ![0, 2560] S512x256.size inb_S512x2816_S512x256_0_2560) (k0_pay4 v77 v78) Finset.univ (View.stores_vmem h_S512x256 (harg8.storeExact_slice rfl _ packedbf16_S512x2816_S512x256_0_2560) (fun _ => rfl)) (.inl rfl))
      pure ⟨⟩
    else do
      pure ⟨⟩
    if k0_h4 : k0_cond4 v3 v5 = 1#1 then do
      let ⟨v59, v60⟩ : Σ' (v59 : FVec F S512x256 .f32), IVec S512x256 32 ← k0_part31 i arg1 harg1 arg2 harg2 arg3 harg3 arg4 harg4 arg5 harg5 arg6 harg6 arg7 harg7 arg8 harg8 arg9 harg9 arg10 harg10 v3 v5
      let v99 : FVec F S512x256 .f32 ← k0_part32 i arg1 harg1 arg2 harg2 arg3 harg3 arg4 harg4 arg5 harg5 arg6 harg6 arg7 harg7 arg8 harg8 arg9 harg9 arg10 harg10 v3 v5 v59 v60
      let v132 : Vec F S512x2048 .bf16 ← k0_part33 i arg1 harg1 arg2 harg2 arg3 harg3 arg4 harg4 arg5 harg5 arg6 harg6 arg7 harg7 arg8 harg8 arg9 harg9 arg10 harg10 v3 v5 v99
      let ⟨v164, v165, v168, v169⟩ : Σ' (v164 : FVec F S512x256 .f32) (v165 : IVec S512x256 32) (v168 : FVec F S512x256 .f32), IVec S512x256 32 ← k0_part34 i arg1 harg1 arg2 harg2 arg3 harg3 arg4 harg4 arg5 harg5 arg6 harg6 arg7 harg7 arg8 harg8 arg9 harg9 arg10 harg10 v3 v5 v132
      let v176 : Vec F S512x256 .bf16 ← Prog.lift (.load arg8 (Rect.unit (s := S512x2816) ![0, 2304] S512x256.size inb_S512x2816_S512x256_0_2304).toLoadRect (View.loadsAt_vmem h_S512x256))
      Prog.lift (.store arg8 (Rect.unit (s := S512x2816) ![0, 2304] S512x256.size inb_S512x2816_S512x256_0_2304) (k0_pay5 v5 v164 v165 v168 v169) Finset.univ (View.stores_vmem h_S512x256 (harg8.storeExact_slice rfl _ packedbf16_S512x2816_S512x256_0_2304) (fun _ => rfl)) (.inl rfl))
      let v177 : Vec F S512x2048 .bf16 ← Prog.lift (.load arg10 (Rect.unit (s := S512x2048) ![0, 0] S512x2048.size inb_S512x2048_S512x2048_0_0).toLoadRect (View.loadsAt_vmem h_S512x2048))
      let v178 : Vec F S256x2048 .bf16 ← Prog.lift (.load arg9 (Rect.unit (s := S2816x2048) ![2560, 0] S256x2048.size inb_S2816x2048_S256x2048_2560_0).toLoadRect (View.loadsAt_vmem h_S256x2048))
      let v181 : Vec F S512x256 .bf16 ← Prog.lift (.load arg8 (Rect.unit (s := S512x2816) ![0, 2560] S512x256.size inb_S512x2816_S512x256_0_2560).toLoadRect (View.loadsAt_vmem h_S512x256))
      let v191 : Vec F S512x256 .bf16 ← Prog.lift (.load arg8 (Rect.unit (s := S512x2816) ![0, 2560] S512x256.size inb_S512x2816_S512x256_0_2560).toLoadRect (View.loadsAt_vmem h_S512x256))
      Prog.lift (.store arg8 (Rect.unit (s := S512x2816) ![0, 2560] S512x256.size inb_S512x2816_S512x256_0_2560) (k0_pay6 v3 v5 v177 v178 v181) Finset.univ (View.stores_vmem h_S512x256 (harg8.storeExact_slice rfl _ packedbf16_S512x2816_S512x256_0_2560) (fun _ => rfl)) (.inl rfl))
      pure ⟨⟩
    else do
      pure ⟨⟩
    pure ⟨⟩
  else do
    pure ⟨⟩
  pure ⟨⟩

/-- With an empty row range the body does nothing more. -/
theorem tail_dead (i : grid0.Coords) (arg1 : Memref sig .tc .smem S135 .i32) (harg1 : arg1.IsWhole) (arg2 : Memref sig .tc .smem S135 .i32) (harg2 : arg2.IsWhole) (arg3 : Memref sig .tc .smem S135 .i32) (harg3 : arg3.IsWhole) (arg4 : Memref sig .tc .smem S135 .i32) (harg4 : arg4.IsWhole) (arg5 : Memref sig .tc .vmem S512x2048 .bf16) (harg5 : arg5.IsWhole) (arg6 : Memref sig .tc .vmem S1x2816x2048 .fp8e4m3) (harg6 : arg6.IsWhole) (arg7 : Memref sig .tc .vmem S1x2816x64 .i8) (harg7 : arg7.IsWhole) (arg8 : Memref sig .tc .vmem S512x2816 .bf16) (harg8 : arg8.IsWhole) (arg9 : Memref sig .tc .vmem S2816x2048 .bf16) (harg9 : arg9.IsWhole) (arg10 : Memref sig .tc .vmem S512x2048 .bf16) (harg10 : arg10.IsWhole) (v3 v5 : Elt F .i32) (h : ¬ k0_cond2 v3 v5 = 1#1) :
    tail (F := F) i arg1 harg1 arg2 harg2 arg3 harg3 arg4 harg4 arg5 harg5 arg6 harg6 arg7 harg7 arg8 harg8 arg9 harg9 arg10 harg10 v3 v5 = pure ⟨⟩ := by
  unfold tail; rw [dif_neg h]

set_option maxHeartbeats 4000000 in
/-- A full tile: the pieces stored into the output's buffer and into the rounded activations. -/
noncomputable def tailRun_full (c : Dev nD) (i : grid0.Coords) (arg1 : Memref sig .tc .smem S135 .i32) (harg1 : arg1.IsWhole) (arg2 : Memref sig .tc .smem S135 .i32) (harg2 : arg2.IsWhole) (arg3 : Memref sig .tc .smem S135 .i32) (harg3 : arg3.IsWhole) (arg4 : Memref sig .tc .smem S135 .i32) (harg4 : arg4.IsWhole) (arg5 : Memref sig .tc .vmem S512x2048 .bf16) (harg5 : arg5.IsWhole) (arg6 : Memref sig .tc .vmem S1x2816x2048 .fp8e4m3) (harg6 : arg6.IsWhole) (arg7 : Memref sig .tc .vmem S1x2816x64 .i8) (harg7 : arg7.IsWhole) (arg8 : Memref sig .tc .vmem S512x2816 .bf16) (harg8 : arg8.IsWhole) (arg9 : Memref sig .tc .vmem S2816x2048 .bf16) (harg9 : arg9.IsWhole) (arg10 : Memref sig .tc .vmem S512x2048 .bf16) (harg10 : arg10.IsWhole) (v3 v5 : Elt F .i32)
    (h2 : k0_cond2 v3 v5 = 1#1) (h3 : k0_cond3 v3 v5 = 1#1) (h4 : ¬ k0_cond4 v3 v5 = 1#1)
    (x5 : Vec F S512x2048 .bf16) (g9 : BufTy.Contents (Elt F) arg9.view.ty) (g10 : BufTy.Contents (Elt F) arg10.view.ty) :
    Σ' (LO : List (View.Piece (Elt F) S512x2816 .bf16)), { LX : List (View.Piece (Elt F) S512x2048 .bf16) //
      ∀ (E : Set ℕ) (f8 : BufTy.Contents (Elt F) arg8.view.ty) (K : PUnit → sProp 𝕄),
        iprop((arg5.view.loc (c : Thread nD τ) ↦[arg5.view.set]{fullShare} harg5.unread x5)
            ∗ (arg8.view.loc (c : Thread nD τ) ↦[arg8.view.set]{fullShare} f8)
            ∗ (arg9.view.loc (c : Thread nD τ) ↦[arg9.view.set]{fullShare} g9)
            ∗ (arg10.view.loc (c : Thread nD τ) ↦[arg10.view.set]{fullShare} g10)
            ∗ (iprop((arg5.view.loc (c : Thread nD τ) ↦[arg5.view.set]{fullShare} harg5.unread x5)
                ∗ (arg8.view.loc (c : Thread nD τ) ↦[arg8.view.set]{fullShare} arg8.view.writes (Elt F) f8 LO)
                ∗ (arg9.view.loc (c : Thread nD τ) ↦[arg9.view.set]{fullShare} g9)
                ∗ (arg10.view.loc (c : Thread nD τ) ↦[arg10.view.set]{fullShare} arg10.view.writes (Elt F) g10 LX)) -∗ K ⟨⟩))
          ⊢ wp frame (wpE (defs₀ (F := F)) Variants.none c none) E (tail i arg1 harg1 arg2 harg2 arg3 harg3 arg4 harg4 arg5 harg5 arg6 harg6 arg7 harg7 arg8 harg8 arg9 harg9 arg10 harg10 v3 v5) K } := by
  refine ⟨?_, ?_, fun E f8 K => ?run⟩
  case run =>
    unfold tail
    iintro ⟨H5, H8, H9, H10, Hk⟩
    sl_exec (disch := first | sl_exact h2 | sl_exact h3 | sl_exact h4)
    sl_step
    iapply Hk
    isplitl [H5]; · iexact H5
    isplitl [H8]; · iexact H8
    isplitl [H9]; · iexact H9
    iexact H10

set_option maxHeartbeats 4000000 in
/-- A tile shared by several visits: the rows outside the range keep what the output's buffer held. -/
noncomputable def tailRun_masked (c : Dev nD) (i : grid0.Coords) (arg1 : Memref sig .tc .smem S135 .i32) (harg1 : arg1.IsWhole) (arg2 : Memref sig .tc .smem S135 .i32) (harg2 : arg2.IsWhole) (arg3 : Memref sig .tc .smem S135 .i32) (harg3 : arg3.IsWhole) (arg4 : Memref sig .tc .smem S135 .i32) (harg4 : arg4.IsWhole) (arg5 : Memref sig .tc .vmem S512x2048 .bf16) (harg5 : arg5.IsWhole) (arg6 : Memref sig .tc .vmem S1x2816x2048 .fp8e4m3) (harg6 : arg6.IsWhole) (arg7 : Memref sig .tc .vmem S1x2816x64 .i8) (harg7 : arg7.IsWhole) (arg8 : Memref sig .tc .vmem S512x2816 .bf16) (harg8 : arg8.IsWhole) (arg9 : Memref sig .tc .vmem S2816x2048 .bf16) (harg9 : arg9.IsWhole) (arg10 : Memref sig .tc .vmem S512x2048 .bf16) (harg10 : arg10.IsWhole) (v3 v5 : Elt F .i32)
    (h2 : k0_cond2 v3 v5 = 1#1) (h3 : ¬ k0_cond3 v3 v5 = 1#1) (h4 : k0_cond4 v3 v5 = 1#1)
    (x5 : Vec F S512x2048 .bf16) (g8 : BufTy.Contents (Elt F) arg8.view.ty) (g9 : BufTy.Contents (Elt F) arg9.view.ty) (g10 : BufTy.Contents (Elt F) arg10.view.ty) :
    Σ' (LO : List (View.Piece (Elt F) S512x2816 .bf16)), { LX : List (View.Piece (Elt F) S512x2048 .bf16) //
      ∀ (E : Set ℕ) (K : PUnit → sProp 𝕄),
        iprop((arg5.view.loc (c : Thread nD τ) ↦[arg5.view.set]{fullShare} harg5.unread x5)
            ∗ (arg8.view.loc (c : Thread nD τ) ↦[arg8.view.set]{fullShare} g8)
            ∗ (arg9.view.loc (c : Thread nD τ) ↦[arg9.view.set]{fullShare} g9)
            ∗ (arg10.view.loc (c : Thread nD τ) ↦[arg10.view.set]{fullShare} g10)
            ∗ (iprop((arg5.view.loc (c : Thread nD τ) ↦[arg5.view.set]{fullShare} harg5.unread x5)
                ∗ (arg8.view.loc (c : Thread nD τ) ↦[arg8.view.set]{fullShare} arg8.view.writes (Elt F) g8 LO)
                ∗ (arg9.view.loc (c : Thread nD τ) ↦[arg9.view.set]{fullShare} g9)
                ∗ (arg10.view.loc (c : Thread nD τ) ↦[arg10.view.set]{fullShare} arg10.view.writes (Elt F) g10 LX)) -∗ K ⟨⟩))
          ⊢ wp frame (wpE (defs₀ (F := F)) Variants.none c none) E (tail i arg1 harg1 arg2 harg2 arg3 harg3 arg4 harg4 arg5 harg5 arg6 harg6 arg7 harg7 arg8 harg8 arg9 harg9 arg10 harg10 v3 v5) K } := by
  refine ⟨?_, ?_, fun E K => ?run⟩
  case run =>
    unfold tail
    iintro ⟨H5, H8, H9, H10, Hk⟩
    sl_exec (disch := first | sl_exact h2 | sl_exact h3 | sl_exact h4)
    sl_step
    iapply Hk
    isplitl [H5]; · iexact H5
    isplitl [H8]; · iexact H8
    isplitl [H9]; · iexact H9
    iexact H10

end Cert.Kernel.Hand
-- ==== Proof.Kernel.Body.lean ====
/- One grid point of the kernel up to the test of the row range: the four table words are read and,
   at the first point and wherever the group changes, the weight block is rebuilt by the first loop.
   Each lemma reduces the whole body to its tail, with the rebuilt block in place. -/
module

public import proofs.«01_k».proof.Proof.Kernel.Tail

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
/-- The one word a table holds at an offset, as the body reads it. -/
abbrev word (M : Memref sig .tc .smem S135 .i32) (X : BufTy.Contents (Elt F) M.view.ty) (o : Fin 1 → Nat)
    (h : ∀ a, o a + S1.size a ≤ S135.size a) : BitVec 32 :=
  M.view.readAt (Elt F) (Rect.unit (s := S135) o S1.size h).toLoadRect X (Shape.Idx.first (Nat.lt_of_lt_of_eq Nat.zero_lt_one numel1_S1.symm))

/-- The body's test whether the weight block has to be rebuilt. -/
abbrev condR (i : grid0.Coords) (g g' : BitVec 32) : Prop :=
  Scalar.cmpi .ne (Scalar.extui (Scalar.ori (Scalar.cmpi .eq (BitVec.ofNat 32 (i 0).val) 0#32) (Scalar.cmpi .ne g g')) : BitVec 32) 0#32 = 1#1

/-- The whole body, its tail named. -/
noncomputable def whole (i : grid0.Coords) (arg1 : Memref sig .tc .smem S135 .i32) (harg1 : arg1.IsWhole) (arg2 : Memref sig .tc .smem S135 .i32) (harg2 : arg2.IsWhole) (arg3 : Memref sig .tc .smem S135 .i32) (harg3 : arg3.IsWhole) (arg4 : Memref sig .tc .smem S135 .i32) (harg4 : arg4.IsWhole) (arg5 : Memref sig .tc .vmem S512x2048 .bf16) (harg5 : arg5.IsWhole) (arg6 : Memref sig .tc .vmem S1x2816x2048 .fp8e4m3) (harg6 : arg6.IsWhole) (arg7 : Memref sig .tc .vmem S1x2816x64 .i8) (harg7 : arg7.IsWhole) (arg8 : Memref sig .tc .vmem S512x2816 .bf16) (harg8 : arg8.IsWhole) (arg9 : Memref sig .tc .vmem S2816x2048 .bf16) (harg9 : arg9.IsWhole) (arg10 : Memref sig .tc .vmem S512x2048 .bf16) (harg10 : arg10.IsWhole) : Prog (TpuEff nD τ sig (Elt F) Λ₀ .tc) PUnit := do
  let arg0 : BitVec 32 := BitVec.ofNat 32 (i 0).val
  let v3 : Elt F .i32 ← smemLoad arg3 (Rect.unit (s := S135) (k0_off1 i) S1.size (k0_off1_inb i)) numel1_S1 rfl
  let v5 : Elt F .i32 ← smemLoad arg4 (Rect.unit (s := S135) (k0_off1 i) S1.size (k0_off1_inb i)) numel1_S1 rfl
  let v6 : BitVec 1 := Scalar.cmpi .eq arg0 0#32
  let v8 : Elt F .i32 ← smemLoad arg2 (Rect.unit (s := S135) (k0_off1 i) S1.size (k0_off1_inb i)) numel1_S1 rfl
  let v10 : Elt F .i32 ← smemLoad arg2 (Rect.unit (s := S135) (k0_off2 i) S1.size (k0_off2_inb i)) numel1_S1 rfl
  let v11 : BitVec 1 := Scalar.cmpi .ne v8 v10
  let v12 : BitVec 1 := Scalar.ori v6 v11
  let v13 : BitVec 32 := Scalar.extui v12
  let v14 : BitVec 1 := Scalar.cmpi .ne v13 0#32
  if v14 = 1#1 then do
    Scf.Loop.for k0_t1_loop k0_t1_ok ⟨⟩ (k0_t1_body i arg1 harg1 arg2 harg2 arg3 harg3 arg4 harg4 arg5 harg5 arg6 harg6 arg7 harg7 arg8 harg8 arg9 harg9 arg10 harg10)
    pure ⟨⟩
  else do
    pure ⟨⟩
  tail i arg1 harg1 arg2 harg2 arg3 harg3 arg4 harg4 arg5 harg5 arg6 harg6 arg7 harg7 arg8 harg8 arg9 harg9 arg10 harg10 v3 v5

set_option maxRecDepth 65536 in
theorem whole_eq : cc0_mx_gmm_skel (F := F) = whole (F := F) := rfl

section
variable (c : Dev nD) (i : grid0.Coords) (arg1 : Memref sig .tc .smem S135 .i32) (harg1 : arg1.IsWhole) (arg2 : Memref sig .tc .smem S135 .i32) (harg2 : arg2.IsWhole) (arg3 : Memref sig .tc .smem S135 .i32) (harg3 : arg3.IsWhole) (arg4 : Memref sig .tc .smem S135 .i32) (harg4 : arg4.IsWhole) (arg5 : Memref sig .tc .vmem S512x2048 .bf16) (harg5 : arg5.IsWhole) (arg6 : Memref sig .tc .vmem S1x2816x2048 .fp8e4m3) (harg6 : arg6.IsWhole) (arg7 : Memref sig .tc .vmem S1x2816x64 .i8) (harg7 : arg7.IsWhole) (arg8 : Memref sig .tc .vmem S512x2816 .bf16) (harg8 : arg8.IsWhole) (arg9 : Memref sig .tc .vmem S2816x2048 .bf16) (harg9 : arg9.IsWhole) (arg10 : Memref sig .tc .vmem S512x2048 .bf16) (harg10 : arg10.IsWhole)
    (X2 : BufTy.Contents (Elt F) arg2.view.ty) (X3 : BufTy.Contents (Elt F) arg3.view.ty) (X4 : BufTy.Contents (Elt F) arg4.view.ty)
    (g6 : BufTy.Contents (Elt F) arg6.view.ty) (g7 : BufTy.Contents (Elt F) arg7.view.ty) (g9 : BufTy.Contents (Elt F) arg9.view.ty)

set_option maxHeartbeats 4000000 in
/-- The body where the block is rebuilt. -/
theorem body_rebuild (h : condR i (word arg2 X2 (k0_off1 i) (k0_off1_inb i)) (word arg2 X2 (k0_off2 i) (k0_off2_inb i)))
    (E : Set ℕ) (K : PUnit → sProp 𝕄) :
    iprop((arg2.view.loc (c : Thread nD τ) ↦[arg2.view.set]{fullShare.right} X2)
        ∗ (arg3.view.loc (c : Thread nD τ) ↦[arg3.view.set]{fullShare.right} X3)
        ∗ (arg4.view.loc (c : Thread nD τ) ↦[arg4.view.set]{fullShare.right} X4)
        ∗ (arg6.view.loc (c : Thread nD τ) ↦[arg6.view.set]{fullShare} g6)
        ∗ (arg7.view.loc (c : Thread nD τ) ↦[arg7.view.set]{fullShare} g7)
        ∗ (arg9.view.loc (c : Thread nD τ) ↦[arg9.view.set]{fullShare} g9)
        ∗ (iprop((arg2.view.loc (c : Thread nD τ) ↦[arg2.view.set]{fullShare.right} X2)
            ∗ (arg3.view.loc (c : Thread nD τ) ↦[arg3.view.set]{fullShare.right} X3)
            ∗ (arg4.view.loc (c : Thread nD τ) ↦[arg4.view.set]{fullShare.right} X4)
            ∗ (arg6.view.loc (c : Thread nD τ) ↦[arg6.view.set]{fullShare} g6)
            ∗ (arg7.view.loc (c : Thread nD τ) ↦[arg7.view.set]{fullShare} g7)
            ∗ (arg9.view.loc (c : Thread nD τ) ↦[arg9.view.set]{fullShare} arg9.view.writes (Elt F) g9
                (pb_k0_t1 (F := F) Variants.none c none i arg1 harg1 arg2 harg2 arg3 harg3 arg4 harg4 arg5 harg5 arg6 harg6 arg7 harg7 arg8 harg8 arg9 harg9 arg10 harg10 g6 g7 k0_t1_loop.trips)))
            -∗ wp frame (wpE (defs₀ (F := F)) Variants.none c none) E
              (tail i arg1 harg1 arg2 harg2 arg3 harg3 arg4 harg4 arg5 harg5 arg6 harg6 arg7 harg7 arg8 harg8 arg9 harg9 arg10 harg10 (word arg3 X3 (k0_off1 i) (k0_off1_inb i)) (word arg4 X4 (k0_off1 i) (k0_off1_inb i))) K))
      ⊢ wp frame (wpE (defs₀ (F := F)) Variants.none c none) E (cc0_mx_gmm i arg1 harg1 arg2 harg2 arg3 harg3 arg4 harg4 arg5 harg5 arg6 harg6 arg7 harg7 arg8 harg8 arg9 harg9 arg10 harg10) K := by
  rw [cc0_mx_gmm_eq_skeleton, whole_eq]; unfold whole
  iintro ⟨H2, H3, H4, H6, H7, H9, Hk⟩
  sl_exec (disch := first | sl_exact h)
  iapply Hk
  isplitl [H2]; · iexact H2
  isplitl [H3]; · iexact H3
  isplitl [H4]; · iexact H4
  isplitl [H6]; · iexact H6
  isplitl [H7]; · iexact H7
  iexact H9

set_option maxHeartbeats 4000000 in
/-- The body where the block is kept. -/
theorem body_keep (h : ¬ condR i (word arg2 X2 (k0_off1 i) (k0_off1_inb i)) (word arg2 X2 (k0_off2 i) (k0_off2_inb i)))
    (E : Set ℕ) (K : PUnit → sProp 𝕄) :
    iprop((arg2.view.loc (c : Thread nD τ) ↦[arg2.view.set]{fullShare.right} X2)
        ∗ (arg3.view.loc (c : Thread nD τ) ↦[arg3.view.set]{fullShare.right} X3)
        ∗ (arg4.view.loc (c : Thread nD τ) ↦[arg4.view.set]{fullShare.right} X4)
        ∗ (iprop((arg2.view.loc (c : Thread nD τ) ↦[arg2.view.set]{fullShare.right} X2)
            ∗ (arg3.view.loc (c : Thread nD τ) ↦[arg3.view.set]{fullShare.right} X3)
            ∗ (arg4.view.loc (c : Thread nD τ) ↦[arg4.view.set]{fullShare.right} X4))
            -∗ wp frame (wpE (defs₀ (F := F)) Variants.none c none) E
              (tail i arg1 harg1 arg2 harg2 arg3 harg3 arg4 harg4 arg5 harg5 arg6 harg6 arg7 harg7 arg8 harg8 arg9 harg9 arg10 harg10 (word arg3 X3 (k0_off1 i) (k0_off1_inb i)) (word arg4 X4 (k0_off1 i) (k0_off1_inb i))) K))
      ⊢ wp frame (wpE (defs₀ (F := F)) Variants.none c none) E (cc0_mx_gmm i arg1 harg1 arg2 harg2 arg3 harg3 arg4 harg4 arg5 harg5 arg6 harg6 arg7 harg7 arg8 harg8 arg9 harg9 arg10 harg10) K := by
  rw [cc0_mx_gmm_eq_skeleton, whole_eq]; unfold whole
  iintro ⟨H2, H3, H4, Hk⟩
  sl_exec (disch := first | sl_exact h)
  iapply Hk
  isplitl [H2]; · iexact H2
  isplitl [H3]; · iexact H3
  iexact H4
end

end Cert.Kernel.Hand
-- ==== Proof.Kernel.Setup.lean ====
/- The kernel call as a pipeline at the tables the host operations computed: the tables, the blocks
   the windows stage, and the buffers the body is handed. -/
module

public import proofs.«01_k».proof.Proof.Kernel.Host
public import proofs.«01_k».proof.Proof.Kernel.Body

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (m : (ℓ : Loc nD τ sig) → Buf (Elt F) ℓ)

/-- The tables' contents when the kernel is called. -/
def tbl : pre0.Contents (Elt F) := fun j => V m (0 : Dev nD) (pre0.ref j)
theorem V_pre (c : Dev nD) (j : Fin 4) : V m c (pre0.ref j) = tbl m j := by
  obtain rfl : c = 0 := Subsingleton.elim _ _; rfl
/-- The call's side condition of its tables: every block lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The four tables as the body is handed them. -/
abbrev tM0 : Memref sig .tc .smem S135 .i32 := Memref.whole main_v53
abbrev tM1 : Memref sig .tc .smem S135 .i32 := Memref.whole main_v29
abbrev tM2 : Memref sig .tc .smem S135 .i32 := Memref.whole main_v64
abbrev tM3 : Memref sig .tc .smem S135 .i32 := Memref.whole main_v76

/-- A table held at half the share: the call keeps the other half. -/
abbrev tPt (c : Dev nD) (M : Memref sig .tc .smem S135 .i32) (f : BufTy.Contents (Elt F) M.view.ty) : sProp 𝕄 :=
  M.view.loc (c : Thread nD τ) ↦[M.view.set]{fullShare.right} f

theorem PhiT_eq (c : Dev nD) : (Pipeline.ΦT pre0 (tbl m) c : sProp 𝕄)
    = iprop(tPt c tM0 (tbl m 0) ∗ tPt c tM1 (tbl m 1) ∗ tPt c tM2 (tbl m 2) ∗ tPt c tM3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  simp only [tPt, (Memref.isWhole_whole main_v53).set_eq_univ, (Memref.isWhole_whole main_v29).set_eq_univ, (Memref.isWhole_whole main_v64).set_eq_univ, (Memref.isWhole_whole main_v76).set_eq_univ]
  rfl

/-- Window `w`'s block at point `t`, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Each window's staging buffer at point `t`. -/
abbrev ms_0 (hO : Ok m) (t : Fin (cfgM m hO).N) : Memref sig .tc .vmem S512x2048 .bf16 := spec0_0.stage ((cfgM m hO).slots t 0)
abbrev hs_0 (hO : Ok m) (t : Fin (cfgM m hO).N) : (ms_0 m hO t).IsWhole := hstage0_0 (((cfgM m hO).slots t 0).cast nbuf0_0)
abbrev ms_1 (hO : Ok m) (t : Fin (cfgM m hO).N) : Memref sig .tc .vmem S1x2816x2048 .fp8e4m3 := spec0_1.stage ((cfgM m hO).slots t 1)
abbrev hs_1 (hO : Ok m) (t : Fin (cfgM m hO).N) : (ms_1 m hO t).IsWhole := hstage0_1 (((cfgM m hO).slots t 1).cast nbuf0_1)
abbrev ms_2 (hO : Ok m) (t : Fin (cfgM m hO).N) : Memref sig .tc .vmem S1x2816x64 .i8 := spec0_2.stage ((cfgM m hO).slots t 2)
abbrev hs_2 (hO : Ok m) (t : Fin (cfgM m hO).N) : (ms_2 m hO t).IsWhole := hstage0_2 (((cfgM m hO).slots t 2).cast nbuf0_2)
abbrev ms_3 (hO : Ok m) (t : Fin (cfgM m hO).N) : Memref sig .tc .vmem S512x2816 .bf16 := spec0_3.stage ((cfgM m hO).slots t 3)
abbrev hs_3 (hO : Ok m) (t : Fin (cfgM m hO).N) : (ms_3 m hO t).IsWhole := hstage0_3 (((cfgM m hO).slots t 3).cast nbuf0_3)
/-- The rebuilt weight block and the rounded activations. -/
abbrev sM0 : Memref sig .tc .vmem S2816x2048 .bf16 := Memref.whole cc0_scratch0
abbrev sM1 : Memref sig .tc .vmem S512x2048 .bf16 := Memref.whole cc0_scratch1

theorem PhiA_eq (c : Dev nD) :
    (Pipeline.ΦA spec0 c : sProp 𝕄)
      = iprop(iprop((∃ d, owns (c : Thread nD τ) sM0 fullShare d) ∗ (∃ d, owns (c : Thread nD τ) sM1 fullShare d)) ∗ (∃ r, prngReg c r)) := by
  unfold Pipeline.ΦA; rw [scopedRest0_eq]; simp only [sM0, sM1, owns_whole]; try rfl

/-- The body as the pipeline calls it at point `t`. -/
abbrev bodyAt (hO : Ok m) (t : Fin (cfgM m hO).N) : Prog (TpuEff nD τ sig (Elt F) Λ₀ .tc) PUnit :=
  cc0_mx_gmm (grid0.coords t) tM0 (Memref.isWhole_whole _) tM1 (Memref.isWhole_whole _) tM2 (Memref.isWhole_whole _) tM3 (Memref.isWhole_whole _)
    (ms_0 m hO t) (hs_0 m hO t) (ms_1 m hO t) (hs_1 m hO t) (ms_2 m hO t) (hs_2 m hO t) (ms_3 m hO t) (hs_3 m hO t)
    sM0 (Memref.isWhole_whole _) sM1 (Memref.isWhole_whole _)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The tests for a whole and for a shared tile exclude each other, and one of them holds. -/
theorem cond4_iff (v3 v5 : BitVec 32) : k0_cond4 v3 v5 = 1#1 ↔ ¬ k0_cond3 v3 v5 = 1#1 := by
  unfold k0_cond4 k0_cond3
  dsimp only
  generalize Scalar.andi (Scalar.cmpi .eq v3 0#32) (Scalar.cmpi .eq v5 512#32) = b
  revert b; decide

end Cert.Kernel.Hand
-- ==== Proof.Kernel.Reads.lean ====
/- What the host operations leave in the buffers of the visit tables, each from the buffers it is
   computed from: the ends and starts of the groups, the tiles they begin in, the numbers of visits,
   and per visit the group, the tile and the row range. -/
module

public import proofs.«01_k».proof.Proof.Kernel.Host

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (m : (ℓ : Loc nD τ sig) → Buf (Elt F) ℓ) (c : Dev nD)

/-- Floor division by 512, as the host computes it. -/
def fd (x : IVec S8 32) : IVec S8 32 :=
  select (andi (cmpi .ne (signi x) (broadcastInDim S8 ![] bcast_S_S8 (signi (constantI S_ 32 512#32))))
      (cmpi .ne (Host.remsi x (broadcastInDim S8 ![] bcast_S_S8 (constantI S_ 32 512#32))) (broadcastInDim S8 ![] bcast_S_S8 (constantI S_ 32 0#32))))
    (subi (Host.divsi x (broadcastInDim S8 ![] bcast_S_S8 (constantI S_ 32 512#32))) (broadcastInDim S8 ![] bcast_S_S8 (constantI S_ 32 1#32)))
    (Host.divsi x (broadcastInDim S8 ![] bcast_S_S8 (constantI S_ 32 512#32)))

/-- Running sums. -/
def csum (x : IVec S8 32) : IVec S8 32 :=
  Host.reduceWindow IntOp.addi ![8] ![1] ![7] ![0] x (broadcastInDim S_ ![] bcast_S_S_ (constantI S_ 32 0#32)) reduceWindows_S8_S8_w8s1p7_0 h_S_

/-- The entries of `x` at the positions `g`, a negative one counted from the end. -/
def gat (x : IVec S8 32) (g : IVec S135 32) : IVec S135 32 :=
  Host.gather gather_S8_S135x1_S135_n_0_n_n_0_1_1 x (broadcastInDim S135x1 ![0] bcast_S135_S135x1_0
    (select (cmpi .slt g (broadcastInDim S135 ![] bcast_S_S135 (constantI S_ 32 0#32))) (addi g (broadcastInDim S135 ![] bcast_S_S135 (constantI S_ 32 8#32))) g))

/-- Between 0 and 512. -/
def clip (x : IVec S135 32) : IVec S135 32 :=
  minsi (broadcastInDim S135 ![] bcast_S_S135 (constantI S_ 32 512#32)) (maxsi (broadcastInDim S135 ![] bcast_S_S135 (constantI S_ 32 0#32)) x)

/-- The last entry of `x`. -/
def last (x : IVec S8 32) : IVec S_ 32 := shapeCast S_ (extractStridedSlice S1 ![7] x slices_S8_S1_7) shapeCasts_S1_S_

set_option maxHeartbeats 800000
/-- The operations after a stretch of the line read what those before it left. -/
theorem V_cut (k : ℕ) (b : Ref sig .tc) :
    V m c b = StableHlo.after (opss.drop k).flatten (StableHlo.after (opss.take k).flatten fun b => m (c, b)) b := by
  have e : ∀ (l₁ l₂ : List (HloOp τ sig (Elt F))) W, StableHlo.after (l₁ ++ l₂) W = StableHlo.after l₂ (StableHlo.after l₁ W) := by
    intro l₁; induction l₁ with
    | nil => intros; rfl
    | cons op l ih => intro l₂ W; exact ih l₂ _
  unfold V; rw [← e, ← List.flatten_append, List.take_append_drop]

theorem V_v0 : V m c main_v0 = csum (V m c main_arg1) := by
  simp only [V_cut m c 0]
  generalize (StableHlo.after _ fun b => m (c, b)) = W
  after_reads_simp
  try simp -implicitDefEqProofs only [StableHlo.TRef.toBuf, StableHlo.TRef.ofBuf, cast_cast, cast_eq, id]
  try rfl
theorem V_v1 : V m c main_v1 = subi (V m c main_v0) (V m c main_arg1) := by
  simp only [V_cut m c 1]
  generalize (StableHlo.after _ fun b => m (c, b)) = W
  after_reads_simp
  try simp -implicitDefEqProofs only [StableHlo.TRef.toBuf, StableHlo.TRef.ofBuf, cast_cast, cast_eq, id]
  try rfl
theorem V_v2 : V m c main_v2 = fd (V m c main_v1) := by
  simp only [V_cut m c 1]
  generalize (StableHlo.after _ fun b => m (c, b)) = W
  after_reads_simp
  try simp -implicitDefEqProofs only [StableHlo.TRef.toBuf, StableHlo.TRef.ofBuf, cast_cast, cast_eq, id]
  try rfl
theorem V_v9 : V m c main_v9 = fd (subi (addi (V m c main_v0) (broadcastInDim S8 ![] bcast_S_S8 (constantI S_ 32 512#32))) (broadcastInDim S8 ![] bcast_S_S8 (constantI S_ 32 1#32))) := by
  simp only [V_cut m c 3]
  generalize (StableHlo.after _ fun b => m (c, b)) = W
  after_reads_simp
  try simp -implicitDefEqProofs only [StableHlo.TRef.toBuf, StableHlo.TRef.ofBuf, cast_cast, cast_eq, id]
  try rfl
theorem V_v11 : V m c main_v11 = select (cmpi .sgt (V m c main_arg1) (broadcastInDim S8 ![] bcast_S_S8 (constantI S_ 32 0#32))) (subi (V m c main_v9) (V m c main_v2)) (broadcastInDim S8 ![] bcast_S_S8 (constantI S_ 32 0#32)) := by
  simp only [V_cut m c 3]
  generalize (StableHlo.after _ fun b => m (c, b)) = W
  after_reads_simp
  try simp -implicitDefEqProofs only [StableHlo.TRef.toBuf, StableHlo.TRef.ofBuf, cast_cast, cast_eq, id]
  try rfl
theorem V_v12 : V m c main_v12 = csum (V m c main_v11) := by
  simp only [V_cut m c 7]
  generalize (StableHlo.after _ fun b => m (c, b)) = W
  after_reads_simp
  try simp -implicitDefEqProofs only [StableHlo.TRef.toBuf, StableHlo.TRef.ofBuf, cast_cast, cast_eq, id]
  try rfl
theorem V_v17 : V m c main_v17 = cmpi .slt (iotaInDim S135 32 0) (broadcastInDim S135 ![] bcast_S_S135 (last (V m c main_v12))) := by
  simp only [V_cut m c 8]
  generalize (StableHlo.after _ fun b => m (c, b)) = W
  after_reads_simp
  try simp -implicitDefEqProofs only [StableHlo.TRef.toBuf, StableHlo.TRef.ofBuf, cast_cast, cast_eq, id]
  try rfl
theorem V_v22 : V m c main_v22 = minsi (iotaInDim S135 32 0) (broadcastInDim S135 ![] bcast_S_S135 (subi (last (V m c main_v12)) (constantI S_ 32 1#32))) := by
  simp only [V_cut m c 8]
  generalize (StableHlo.after _ fun b => m (c, b)) = W
  after_reads_simp
  try simp -implicitDefEqProofs only [StableHlo.TRef.toBuf, StableHlo.TRef.ofBuf, cast_cast, cast_eq, id]
  try rfl
theorem V_v29 : V m c main_v29 = Host.reduce IntOp.addi (extui 32 (cmpi .sge
    (broadcastInDim S135x8 ![0, 1] bcast_S135x1_S135x8_0_1 (broadcastInDim S135x1 ![0] bcast_S135_S135x1_0 (V m c main_v22)))
    (broadcastInDim S135x8 ![0, 1] bcast_S1x8_S135x8_0_1 (broadcastInDim S1x8 ![1] bcast_S8_S1x8_1 (V m c main_v12)))) natLt_1_32)
    (constantI S_ 32 0#32) reducesTo_S135x8_S135_d1 h_S_ := by
  simp only [V_cut m c 8]
  generalize (StableHlo.after _ fun b => m (c, b)) = W
  after_reads_simp
  try simp -implicitDefEqProofs only [StableHlo.TRef.toBuf, StableHlo.TRef.ofBuf, cast_cast, cast_eq, id]
  try rfl
theorem V_v53 : V m c main_v53 = subi (addi (gat (V m c main_v2) (V m c main_v29)) (V m c main_v22))
    (subi (gat (V m c main_v12) (V m c main_v29)) (gat (V m c main_v11) (V m c main_v29))) := by
  simp only [V_cut m c 8]
  generalize (StableHlo.after _ fun b => m (c, b)) = W
  after_reads_simp
  try simp -implicitDefEqProofs only [StableHlo.TRef.toBuf, StableHlo.TRef.ofBuf, cast_cast, cast_eq, id]
  try rfl
theorem V_v63 : V m c main_v63 = subi (gat (V m c main_v1) (V m c main_v29)) (muli (V m c main_v53) (broadcastInDim S135 ![] bcast_S_S135 (constantI S_ 32 512#32))) := by
  simp only [V_cut m c 8]
  generalize (StableHlo.after _ fun b => m (c, b)) = W
  after_reads_simp
  try simp -implicitDefEqProofs only [StableHlo.TRef.toBuf, StableHlo.TRef.ofBuf, cast_cast, cast_eq, id]
  try rfl
theorem V_v64 : V m c main_v64 = clip (V m c main_v63) := by
  simp only [V_cut m c 8]
  generalize (StableHlo.after _ fun b => m (c, b)) = W
  after_reads_simp
  try simp -implicitDefEqProofs only [StableHlo.TRef.toBuf, StableHlo.TRef.ofBuf, cast_cast, cast_eq, id]
  try rfl
theorem V_v74 : V m c main_v74 = subi (gat (V m c main_v0) (V m c main_v29)) (muli (V m c main_v53) (broadcastInDim S135 ![] bcast_S_S135 (constantI S_ 32 512#32))) := by
  simp only [V_cut m c 10]
  generalize (StableHlo.after _ fun b => m (c, b)) = W
  after_reads_simp
  try simp -implicitDefEqProofs only [StableHlo.TRef.toBuf, StableHlo.TRef.ofBuf, cast_cast, cast_eq, id]
  try rfl
theorem V_v76 : V m c main_v76 = select (V m c main_v17) (clip (V m c main_v74)) (broadcastInDim S135 ![] bcast_S_S135 (constantI S_ 32 0#32)) := by
  simp only [V_cut m c 10]
  generalize (StableHlo.after _ fun b => m (c, b)) = W
  after_reads_simp
  try simp -implicitDefEqProofs only [StableHlo.TRef.toBuf, StableHlo.TRef.ofBuf, cast_cast, cast_eq, id]
  try rfl

end Cert.Kernel.Hand
-- ==== Proof.Kernel.Tables.lean ====
/- The visit tables' entries as natural numbers, from the sizes of the groups. -/
module

public import proofs.«01_k».proof.Proof.Kernel.Reads
public import proofs.«01_k».proof.Proof.Visits
public import proofs.«01_k».proof.Proof.Words

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
open Idealize.ShloMosaic.Routing Idealize.ShloMosaic.ValueIdx Cert.Visits

variable (m : (ℓ : Loc nD τ sig) → Buf (Elt F) ℓ) (c : Dev nD)

/-! The buffers, as arrays of words. -/
def x_arg1 : IVec S8 32 := V m c main_arg1
def x_v0 : IVec S8 32 := V m c main_v0
def x_v1 : IVec S8 32 := V m c main_v1
def x_v2 : IVec S8 32 := V m c main_v2
def x_v9 : IVec S8 32 := V m c main_v9
def x_v11 : IVec S8 32 := V m c main_v11
def x_v12 : IVec S8 32 := V m c main_v12
def x_v17 : IVec S135 1 := V m c main_v17
def x_v22 : IVec S135 32 := V m c main_v22
def x_v29 : IVec S135 32 := V m c main_v29
def x_v53 : IVec S135 32 := V m c main_v53
def x_v63 : IVec S135 32 := V m c main_v63
def x_v64 : IVec S135 32 := V m c main_v64
def x_v74 : IVec S135 32 := V m c main_v74
def x_v76 : IVec S135 32 := V m c main_v76

theorem X_v0 : x_v0 m c = csum (x_arg1 m c) := V_v0 m c
theorem X_v1 : x_v1 m c = subi (x_v0 m c) (x_arg1 m c) := V_v1 m c
theorem X_v2 : x_v2 m c = fd (x_v1 m c) := V_v2 m c
theorem X_v9 : x_v9 m c = fd (subi (addi (x_v0 m c) (broadcastInDim S8 ![] bcast_S_S8 (constantI S_ 32 512#32))) (broadcastInDim S8 ![] bcast_S_S8 (constantI S_ 32 1#32))) := V_v9 m c
theorem X_v11 : x_v11 m c = select (cmpi .sgt (x_arg1 m c) (broadcastInDim S8 ![] bcast_S_S8 (constantI S_ 32 0#32))) (subi (x_v9 m c) (x_v2 m c)) (broadcastInDim S8 ![] bcast_S_S8 (constantI S_ 32 0#32)) := V_v11 m c
theorem X_v12 : x_v12 m c = csum (x_v11 m c) := V_v12 m c
theorem X_v17 : x_v17 m c = cmpi .slt (iotaInDim S135 32 0) (broadcastInDim S135 ![] bcast_S_S135 (last (x_v12 m c))) := V_v17 m c
theorem X_v22 : x_v22 m c = minsi (iotaInDim S135 32 0) (broadcastInDim S135 ![] bcast_S_S135 (subi (last (x_v12 m c)) (constantI S_ 32 1#32))) := V_v22 m c
theorem X_v29 : x_v29 m c = Host.reduce IntOp.addi (extui 32 (cmpi .sge
    (broadcastInDim S135x8 ![0, 1] bcast_S135x1_S135x8_0_1 (broadcastInDim S135x1 ![0] bcast_S135_S135x1_0 (x_v22 m c)))
    (broadcastInDim S135x8 ![0, 1] bcast_S1x8_S135x8_0_1 (broadcastInDim S1x8 ![1] bcast_S8_S1x8_1 (x_v12 m c)))) natLt_1_32)
    (constantI S_ 32 0#32) reducesTo_S135x8_S135_d1 h_S_ := V_v29 m c
theorem X_v53 : x_v53 m c = subi (addi (gat (x_v2 m c) (x_v29 m c)) (x_v22 m c))
    (subi (gat (x_v12 m c) (x_v29 m c)) (gat (x_v11 m c) (x_v29 m c))) := V_v53 m c
theorem X_v63 : x_v63 m c = subi (gat (x_v1 m c) (x_v29 m c)) (muli (x_v53 m c) (broadcastInDim S135 ![] bcast_S_S135 (constantI S_ 32 512#32))) := V_v63 m c
theorem X_v64 : x_v64 m c = clip (x_v63 m c) := V_v64 m c
theorem X_v74 : x_v74 m c = subi (gat (x_v0 m c) (x_v29 m c)) (muli (x_v53 m c) (broadcastInDim S135 ![] bcast_S_S135 (constantI S_ 32 512#32))) := V_v74 m c
theorem X_v76 : x_v76 m c = select (x_v17 m c) (clip (x_v74 m c)) (broadcastInDim S135 ![] bcast_S_S135 (constantI S_ 32 0#32)) := V_v76 m c

/-- The size of group `k`. -/
def sz (k : ℕ) : ℕ := if h : k < 8 then ((m ((c : Thread nD τ).loc main_arg1) : IVec S8 32) (ix1 ⟨k, h⟩)).toNat else 0

theorem at_arg1 (k : Fin 8) : x_arg1 m c (ix1 k) = BitVec.ofNat 32 (sz m c k.val) := by
  rw [show x_arg1 m c = _ from V_main_arg1 m c]; unfold sz; rw [dif_pos k.isLt]; exact ((BitVec.ofNat_toNat 32 _).trans (BitVec.setWidth_eq _)).symm

section
variable (h1 : 1 ≤ E (sz m c) 7) (h2 : E (sz m c) 7 ≤ 65536)
include h2

theorem E_le (k : ℕ) (hk : k < 8) : E (sz m c) k ≤ 65536 := (E_mono _ (show k ≤ 7 by omega)).trans h2

omit h2 in
theorem at_v0 (k : Fin 8) : x_v0 m c (ix1 k) = BitVec.ofNat 32 (E (sz m c) k.val) := by
  rw [X_v0]
  exact cumsum1 (Nm1 := 7) rfl _ (sz m c) (at_arg1 m c) _ (bc0 _ _ _) _ _ k

omit h2 in
theorem at_v1 (k : Fin 8) : x_v1 m c (ix1 k) = BitVec.ofNat 32 (St (sz m c) k.val) := by
  rw [X_v1]
  refine (congrArg₂ _ (at_v0 m c k) (at_arg1 m c k)).trans ?_
  exact Cert.Words.sub_ofNat (le_E _ _)

theorem at_v2 (k : Fin 8) : x_v2 m c (ix1 k) = BitVec.ofNat 32 (St (sz m c) k.val / 512) := by
  rw [X_v2]
  have := E_le m c h2 k.val k.isLt
  have := St_add (sz m c) k.val
  exact pyDiv_ap bcast_S_S8 _ (constantI S_ 32 512#32) (ix1 k) (at_v1 m c k) rfl (by omega) (by omega) (by omega)

theorem at_v9 (k : Fin 8) : x_v9 m c (ix1 k) = BitVec.ofNat 32 ((E (sz m c) k.val + 511) / 512) := by
  rw [X_v9]
  have := E_le m c h2 k.val k.isLt
  refine pyDiv_ap bcast_S_S8 _ (constantI S_ 32 512#32) (ix1 k) ?_ rfl (a := E (sz m c) k.val + 511) (by omega) (by omega) (by omega)
  refine (congrArg (· + 512#32 - 1#32) (at_v0 m c k)).trans ?_
  show BitVec.ofNat 32 _ + BitVec.ofNat 32 512 - BitVec.ofNat 32 1 = _
  rw [← BitVec.ofNat_add, Cert.Words.sub_ofNat (by omega)]
  rfl

theorem at_v11 (k : Fin 8) : x_v11 m c (ix1 k) = BitVec.ofNat 32 (C (sz m c) k.val) := by
  rw [X_v11]
  have hE := E_le m c h2 k.val k.isLt
  have hS := St_add (sz m c) k.val
  show (if IntOp.cmpi .sgt (x_arg1 m c (ix1 k)) 0#32 = 1 then x_v9 m c (ix1 k) - x_v2 m c (ix1 k) else 0#32) = _
  rw [at_arg1, at_v9 m c h2, at_v2 m c h2, Cert.Words.sub_ofNat (by omega)]
  unfold C
  by_cases h : 0 < sz m c k.val
  · rw [if_pos h, if_pos]; exact (WordCmp.cmpi_sgt_ofNat_eq_one_iff (w := 32) (by omega) (b := 0) (by omega)).2 h
  · rw [if_neg h, if_neg]; exact fun e => h ((WordCmp.cmpi_sgt_ofNat_eq_one_iff (w := 32) (by omega) (b := 0) (by omega)).1 e)

theorem at_v12 (k : Fin 8) : x_v12 m c (ix1 k) = BitVec.ofNat 32 (N (sz m c) k.val) := by
  rw [X_v12]
  exact cumsum1 (Nm1 := 7) rfl _ (C (sz m c)) (at_v11 m c h2) _ (bc0 _ _ _) _ _ k

theorem at_last : last (x_v12 m c) ValueIdx.ix0 = BitVec.ofNat 32 (T (sz m c)) := by
  refine Eq.trans ?_ (at_v12 m c h2 ⟨7, by omega⟩)
  refine Eq.trans ?_ (slice1 (m := 8) (n := 1) 7 (x_v12 m c) slices_S8_S1_7 (0 : Fin 1) (by decide))
  unfold last shapeCast
  exact congrArg _ (funext fun a => by match a with | ⟨0, _⟩ => exact Subsingleton.elim (α := Fin 1) _ _)

include h1

theorem N_lt (k : ℕ) (hk : k < 8) : N (sz m c) k ≤ 135 := (N_mono _ (show k ≤ 7 by omega)).trans (T_le _ h1 h2)

omit h1 in
theorem at_v17 (h1 : 1 ≤ E (sz m c) 7) (p : Fin 135) : x_v17 m c (ix1 p) = 1#1 ↔ p.val < T (sz m c) := by
  rw [X_v17]
  have e : broadcastInDim S135 ![] bcast_S_S135 (last (x_v12 m c)) (ix1 p) = BitVec.ofNat 32 (T (sz m c)) := (bc0 _ _ _).trans (at_last m c h2)
  show IntOp.cmpi .slt (BitVec.ofNat 32 p.val) _ = 1#1 ↔ _
  rw [e]
  have := T_le _ h1 h2
  exact WordCmp.cmpi_slt_ofNat_eq_one_iff (w := 32) (by omega) (by omega)

theorem at_v22 (p : Fin 135) : x_v22 m c (ix1 p) = BitVec.ofNat 32 (vc (sz m c) p.val) := by
  rw [X_v22]
  have e : broadcastInDim S135 ![] bcast_S_S135 (subi (last (x_v12 m c)) (constantI S_ 32 1#32)) (ix1 p) = BitVec.ofNat 32 (T (sz m c) - 1) := by
    refine (bc0 _ _ _).trans ((congrArg (· - 1#32) (at_last m c h2)).trans ?_)
    exact Cert.Words.sub_ofNat (b := 1) (T_pos _ h1)
  show IntOp.minsi (BitVec.ofNat 32 p.val) _ = _
  rw [e]
  have := T_le _ h1 h2
  exact Cert.Words.minsi_ofNat (by omega) (by omega)

theorem at_v29 (p : Fin 135) : x_v29 m c (ix1 p) = BitVec.ofNat 32 (grp (sz m c) p.val) := by
  rw [X_v29]
  refine reduce_count (by omega) _ natLt_1_32 _ _ p (fun q => N (sz m c) q ≤ vc (sz m c) p.val) fun q => ?_
  show IntOp.cmpi .sge (broadcastInDim S135x8 ![0, 1] bcast_S135x1_S135x8_0_1 (broadcastInDim S135x1 ![0] bcast_S135_S135x1_0 (x_v22 m c)) (ix2 p q))
    (broadcastInDim S135x8 ![0, 1] bcast_S1x8_S135x8_0_1 (broadcastInDim S1x8 ![1] bcast_S8_S1x8_1 (x_v12 m c)) (ix2 p q)) = 1#1 ↔ _
  rw [show broadcastInDim S135x8 ![0, 1] bcast_S135x1_S135x8_0_1 (broadcastInDim S135x1 ![0] bcast_S135_S135x1_0 (x_v22 m c)) (ix2 p q) = _ from (bcRows _ _ _ p q).trans (at_v22 m c h1 h2 p),
    show broadcastInDim S135x8 ![0, 1] bcast_S1x8_S135x8_0_1 (broadcastInDim S1x8 ![1] bcast_S8_S1x8_1 (x_v12 m c)) (ix2 p q) = _ from (bcCols _ _ _ p q).trans (at_v12 m c h2 q)]
  have := T_le _ h1 h2
  have := vc_lt _ h1 p.val
  have := N_lt m c h1 h2 q.val q.isLt
  exact WordCmp.cmpi_sge_ofNat_eq_one_iff (w := 32) (by omega) (by omega)

omit h1 h2 in
/-- An entry gathered at an index that is known. -/
theorem gat_at (x : IVec S8 32) (f : ℕ → ℕ) (hx : ∀ k : Fin 8, x (ix1 k) = BitVec.ofNat 32 (f k.val)) (y : IVec S135 32) (p : Fin 135)
    {g : ℕ} (hg : g < 8) (hy : y (ix1 p) = BitVec.ofNat 32 g) : gat x y (ix1 p) = BitVec.ofNat 32 (f g) := by
  unfold gat
  refine (Cert.Words.gather1 (n := 8) (by decide) gather_S8_S135x1_S135_n_0_n_n_0_1_1 rfl rfl rfl rfl rfl rfl rfl x _ p).trans ?_
  have e : ∀ y : IVec S135 32, broadcastInDim S135x1 ![0] bcast_S135_S135x1_0 y (ix2 p (0 : Fin 1)) = y (ix1 p) := fun y => bcCol _ _ p
  have ei : (select (cmpi .slt y (broadcastInDim S135 ![] bcast_S_S135 (constantI S_ 32 0#32)))
      (addi y (broadcastInDim S135 ![] bcast_S_S135 (constantI S_ 32 8#32))) y) (ix1 p) = BitVec.ofNat 32 g := by
    show (if IntOp.cmpi .slt (y (ix1 p)) 0#32 = 1 then _ else y (ix1 p)) = _
    rw [hy]
    exact if_neg fun e => absurd ((WordCmp.cmpi_slt_ofNat_eq_one_iff (w := 32) (by omega) (b := 0) (by omega)).1 e) (by omega)
  refine Eq.trans (congrArg x (congrArg ix1 (Fin.ext ?_))) (hx ⟨g, hg⟩)
  refine (congrArg (fun w : BitVec 32 => min w.toInt.toNat (8 - 1)) ((e _).trans ei)).trans ?_
  show min (BitVec.toInt (BitVec.ofNat 32 g)).toNat (8 - 1) = g
  rw [Cert.Words.toInt_ofNat (by omega)]
  show min g 7 = g
  omega

theorem at_gat (x : IVec S8 32) (f : ℕ → ℕ) (hx : ∀ k : Fin 8, x (ix1 k) = BitVec.ofNat 32 (f k.val)) (p : Fin 135) :
    gat x (x_v29 m c) (ix1 p) = BitVec.ofNat 32 (f (grp (sz m c) p.val)) :=
  gat_at x f hx _ p (grp_spec _ h1 p.val).1 (at_v29 m c h1 h2 p)

theorem at_v53 (p : Fin 135) : x_v53 m c (ix1 p) = BitVec.ofNat 32 (tile (sz m c) p.val) := by
  rw [X_v53]
  show gat (x_v2 m c) (x_v29 m c) (ix1 p) + x_v22 m c (ix1 p) - (gat (x_v12 m c) (x_v29 m c) (ix1 p) - gat (x_v11 m c) (x_v29 m c) (ix1 p)) = _
  have hN : N (sz m c) (grp (sz m c) p.val) - C (sz m c) (grp (sz m c) p.val) ≤ _ := grp_start _ h1 p.val
  rw [at_gat m c h1 h2 _ (fun k => St (sz m c) k / 512) (at_v2 m c h2), at_gat m c h1 h2 _ (N (sz m c)) (at_v12 m c h2),
    at_gat m c h1 h2 _ (C (sz m c)) (at_v11 m c h2), at_v22 m c h1 h2, Cert.Words.sub_ofNat (C_le_N _ h1 _), ← BitVec.ofNat_add,
    Cert.Words.sub_ofNat (by omega)]
  rfl

omit h1 h2 in
theorem at_clip (x : IVec S135 32) (p : Fin 135) {a b : ℕ} (hx : x (ix1 p) = BitVec.ofNat 32 a - BitVec.ofNat 32 b) (ha : a < 2 ^ 30) (hb : b < 2 ^ 30) :
    clip x (ix1 p) = BitVec.ofNat 32 (min 512 (a - b)) := by
  show IntOp.minsi 512#32 (IntOp.maxsi 0#32 (x (ix1 p))) = _
  rw [hx]; exact Cert.Words.clip_ofNat ha hb

theorem at_v64 (p : Fin 135) : x_v64 m c (ix1 p) = BitVec.ofNat 32 (lo (sz m c) p.val) := by
  rw [X_v64]
  have ht := tile_lt _ h1 h2 p.val
  have hg := (grp_spec _ h1 p.val).1
  have hE := E_le m c h2 _ hg
  have hS := St_add (sz m c) (grp (sz m c) p.val)
  refine at_clip _ p ?_ (a := St (sz m c) (grp (sz m c) p.val)) (b := tile (sz m c) p.val * 512) (by omega) (by omega)
  rw [X_v63]
  show gat (x_v1 m c) (x_v29 m c) (ix1 p) - x_v53 m c (ix1 p) * BitVec.ofNat 32 512 = _
  rw [at_gat m c h1 h2 _ (St (sz m c)) (at_v1 m c), at_v53 m c h1 h2, ← BitVec.ofNat_mul]

theorem at_v76 (p : Fin 135) : x_v76 m c (ix1 p) = BitVec.ofNat 32 (hi (sz m c) p.val) := by
  rw [X_v76]
  have ht := tile_lt _ h1 h2 p.val
  have hg := (grp_spec _ h1 p.val).1
  have hE := E_le m c h2 _ hg
  have e : clip (x_v74 m c) (ix1 p) = BitVec.ofNat 32 (min 512 (E (sz m c) (grp (sz m c) p.val) - tile (sz m c) p.val * 512)) := by
    refine at_clip _ p ?_ (by omega) (by omega)
    rw [X_v74]
    show gat (x_v0 m c) (x_v29 m c) (ix1 p) - x_v53 m c (ix1 p) * BitVec.ofNat 32 512 = _
    rw [at_gat m c h1 h2 _ (E (sz m c)) (at_v0 m c), at_v53 m c h1 h2, ← BitVec.ofNat_mul]
  show (if x_v17 m c (ix1 p) = 1 then clip (x_v74 m c) (ix1 p) else 0#32) = _
  rw [e]
  unfold hi
  by_cases h : p.val < T (sz m c)
  · rw [if_pos h, if_pos]; exact (at_v17 m c h2 h1 p).2 h
  · rw [if_neg h, if_neg]; exact fun e => h ((at_v17 m c h2 h1 p).1 e)
end

end Cert.Kernel.Hand
-- ==== Proof.Kernel.Okay.lean ====
/- The call's side condition holds: every tile and every group in the tables is one of the array's. -/
module

public import proofs.«01_k».proof.Proof.Kernel.Setup
public import proofs.«01_k».proof.Proof.Kernel.Tables

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
open Idealize.ShloMosaic.ValueIdx Cert.Visits

variable (m : (ℓ : Loc nD τ sig) → Buf (Elt F) ℓ)

theorem off_val (i : grid0.Coords) : k0_off1 i 0 = (i 0).val := by
  have h : (i 0).val < 135 := (i 0).isLt
  show (Scalar.indexCast (BitVec.ofNat 32 (i 0).val)).toNat = _
  unfold Scalar.indexCast
  simp
  omega

/-- A coordinate of the grid, as a position in the tables. -/
abbrev pos (i : grid0.Coords) : Fin 135 := ⟨(i 0).val, (i 0).isLt⟩

/-- The entry of a table that a block's index map reads. -/
theorem entry (X : IVec S135 32) (i : grid0.Coords) :
    X ((Rect.unit (s := S135) (k0_off1 i) S1.size (k0_off1_inb i)).emb (Shape.Idx.first (numel1_S1.symm ▸ Nat.one_pos))) = X (ix1 (pos i)) := by
  refine congrArg X (funext fun a => Fin.ext ?_)
  match a with
  | ⟨0, _⟩ =>
    show k0_off1 i 0 + 1 * 0 = (i 0).val
    rw [off_val, Nat.mul_zero, Nat.add_zero]

theorem tr0 (i : grid0.Coords) : cc0_transform_0 k0_off1_inb numel1_S1 (tbl m) i = ![(x_v53 m 0 (ix1 (pos i))).toNat, 0] := by
  unfold cc0_transform_0
  exact congrArg (fun w : BitVec 32 => (![w.toNat, 0] : Fin 2 → ℕ)) (entry (x_v53 m 0) i)
theorem tr1 (i : grid0.Coords) : cc0_transform_1 k0_off1_inb numel1_S1 (tbl m) i = ![(x_v29 m 0 (ix1 (pos i))).toNat, 0, 0] := by
  unfold cc0_transform_1
  exact congrArg (fun w : BitVec 32 => (![w.toNat, 0, 0] : Fin 3 → ℕ)) (entry (x_v29 m 0) i)
theorem tr2 (i : grid0.Coords) : cc0_transform_2 k0_off1_inb numel1_S1 (tbl m) i = ![(x_v29 m 0 (ix1 (pos i))).toNat, 0, 0] := by
  unfold cc0_transform_2
  exact congrArg (fun w : BitVec 32 => (![w.toNat, 0, 0] : Fin 3 → ℕ)) (entry (x_v29 m 0) i)
theorem tr3 (i : grid0.Coords) : cc0_transform_3 k0_off1_inb numel1_S1 (tbl m) i = ![(x_v53 m 0 (ix1 (pos i))).toNat, 0] := by
  unfold cc0_transform_3
  exact congrArg (fun w : BitVec 32 => (![w.toNat, 0] : Fin 2 → ℕ)) (entry (x_v53 m 0) i)

section
variable (h1 : 1 ≤ E (sz m 0) 7) (h2 : E (sz m 0) 7 ≤ 65536)
include h1 h2

theorem tile_nat (p : Fin 135) : (x_v53 m 0 (ix1 p)).toNat = tile (sz m 0) p.val := by
  have := tile_lt _ h1 h2 p.val
  rw [at_v53 m 0 h1 h2, BitVec.toNat_ofNat, Nat.mod_eq_of_lt (by omega)]
theorem grp_nat (p : Fin 135) : (x_v29 m 0 (ix1 p)).toNat = grp (sz m 0) p.val := by
  have := (grp_spec _ h1 p.val).1
  rw [at_v29 m 0 h1 h2, BitVec.toNat_ofNat, Nat.mod_eq_of_lt (by omega)]

theorem ok_of : Ok m := by
  have ht := fun p : Fin 135 => tile_lt _ h1 h2 p.val
  have hg := fun p : Fin 135 => (grp_spec _ h1 p.val).1
  refine ⟨fun i => ?_, fun i => ?_, fun i => ?_, fun i => ?_⟩
  · refine ⟨?_, .inr (.inl (.inr ⟨by decide, rfl, .inl ⟨?_, ?_⟩⟩))⟩
    · rw [tr0, tile_nat m h1 h2]
      intro a
      have := ht (pos i)
      match a with
      | ⟨0, _⟩ => show (tile _ _ + 1) * 512 ≤ 65536; omega
      | ⟨1, _⟩ => show (0 + 1) * 2048 ≤ 2048; omega
    · exact Dvd.dvd.mul_left (show 2 ∣ 512 by decide) _
    · show 2 ∣ 512; decide
  · refine ⟨?_, .inr (.inr ⟨by decide, rfl, ?_, rfl⟩)⟩
    · rw [tr1, grp_nat m h1 h2]
      intro a
      have := hg (pos i)
      match a with
      | ⟨0, _⟩ => show (grp _ _ + 1) * 1 ≤ 8; omega
      | ⟨1, _⟩ => show (0 + 1) * 2816 ≤ 2816; omega
      | ⟨2, _⟩ => show (0 + 1) * 2048 ≤ 2048; omega
    · show cc0_transform_1 k0_off1_inb numel1_S1 (tbl m) i 1 * 2816 = 0
      rw [tr1]; rfl
  · refine ⟨?_, .inr (.inr ⟨by decide, rfl, ?_, rfl⟩)⟩
    · rw [tr2, grp_nat m h1 h2]
      intro a
      have := hg (pos i)
      match a with
      | ⟨0, _⟩ => show (grp _ _ + 1) * 1 ≤ 8; omega
      | ⟨1, _⟩ => show (0 + 1) * 2816 ≤ 2816; omega
      | ⟨2, _⟩ => show (0 + 1) * 64 ≤ 64; omega
    · show cc0_transform_2 k0_off1_inb numel1_S1 (tbl m) i 1 * 2816 = 0
      rw [tr2]; rfl
  · refine ⟨?_, .inr (.inl (.inr ⟨by decide, rfl, .inl ⟨?_, ?_⟩⟩))⟩
    · rw [tr3, tile_nat m h1 h2]
      intro a
      have := ht (pos i)
      match a with
      | ⟨0, _⟩ => show (tile _ _ + 1) * 512 ≤ 65536; omega
      | ⟨1, _⟩ => show (0 + 1) * 2816 ≤ 2816; omega
    · exact Dvd.dvd.mul_left (show 2 ∣ 512 by decide) _
    · show 2 ∣ 512; decide
end

end Cert.Kernel.Hand
-- ==== Proof.Kernel.Frame.lean ====
/- The frame of the program: it terminates without a fault, its arguments end unchanged and every
   semaphore counter is back at zero, whenever the tables place every block inside its array. Nothing
   is stated here of what the output holds. -/
module

public import proofs.«01_k».proof.Proof.Kernel.Setup
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

/-- The window of which nothing is stated: the output. -/
def forgets : Fin 4 → Bool := fun w => w.val == 3

/-- The arrays as the call finds them; each input's buffer at its block after every point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem before_0 (hO : Ok m) (c : Dev nD) (t : Fin (cfgM m hO).N) (d) : (dats m hO 0 c).before 0 t d = iblk m hO c 0 t :=
  before_0_of m hO (dats m hO 0 c) (A_eq m hO c 0) (after_0 m hO c) t d
theorem before_1 (hO : Ok m) (c : Dev nD) (t : Fin (cfgM m hO).N) (d) : (dats m hO 0 c).before 1 t d = iblk m hO c 1 t :=
  before_1_of m hO (dats m hO 0 c) (A_eq m hO c 1) (after_1 m hO c) t d
theorem before_2 (hO : Ok m) (c : Dev nD) (t : Fin (cfgM m hO).N) (d) : (dats m hO 0 c).before 2 t d = iblk m hO c 2 t :=
  before_2_of m hO (dats m hO 0 c) (A_eq m hO c 2) (after_2 m hO c) t d

section
variable (c : Dev nD) (i : grid0.Coords) (arg1 : Memref sig .tc .smem S135 .i32) (harg1 : arg1.IsWhole) (arg2 : Memref sig .tc .smem S135 .i32) (harg2 : arg2.IsWhole) (arg3 : Memref sig .tc .smem S135 .i32) (harg3 : arg3.IsWhole) (arg4 : Memref sig .tc .smem S135 .i32) (harg4 : arg4.IsWhole) (arg5 : Memref sig .tc .vmem S512x2048 .bf16) (harg5 : arg5.IsWhole) (arg6 : Memref sig .tc .vmem S1x2816x2048 .fp8e4m3) (harg6 : arg6.IsWhole) (arg7 : Memref sig .tc .vmem S1x2816x64 .i8) (harg7 : arg7.IsWhole) (arg8 : Memref sig .tc .vmem S512x2816 .bf16) (harg8 : arg8.IsWhole) (arg9 : Memref sig .tc .vmem S2816x2048 .bf16) (harg9 : arg9.IsWhole) (arg10 : Memref sig .tc .vmem S512x2048 .bf16) (harg10 : arg10.IsWhole) (v3 v5 : BitVec 32) (x5 : Vec F S512x2048 .bf16)

/-- The tail keeps the activations' block and leaves the output's buffer and the two scratch buffers at some contents. -/
theorem tail_any (E : Set ℕ) (K : PUnit → sProp 𝕄) :
    iprop((arg5.view.loc (c : Thread nD τ) ↦[arg5.view.set]{fullShare} harg5.unread x5)
        ∗ (∃ d, owns (c : Thread nD τ) arg8 fullShare d) ∗ (∃ d, owns (c : Thread nD τ) arg9 fullShare d) ∗ (∃ d, owns (c : Thread nD τ) arg10 fullShare d)
        ∗ (iprop((arg5.view.loc (c : Thread nD τ) ↦[arg5.view.set]{fullShare} harg5.unread x5)
            ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (tail i arg1 harg1 arg2 harg2 arg3 harg3 arg4 harg4 arg5 harg5 arg6 harg6 arg7 harg7 arg8 harg8 arg9 harg9 arg10 harg10 v3 v5) K := by
  unfold owns
  iintro ⟨H5, ⟨%d8, %f8, -, H8⟩, ⟨%d9, %f9, -, H9⟩, ⟨%d10, %f10, -, H10⟩, Hk⟩
  by_cases h2 : k0_cond2 v3 v5 = 1#1
  · by_cases h3 : k0_cond3 v3 v5 = 1#1
    · iapply ((tailRun_full c i arg1 harg1 arg2 harg2 arg3 harg3 arg4 harg4 arg5 harg5 arg6 harg6 arg7 harg7 arg8 harg8 arg9 harg9 arg10 harg10 v3 v5 h2 h3 (fun h => (cond4_iff v3 v5).mp h h3) x5 f9 f10).2.2 E f8 K)
      isplitl [H5]; · iexact H5
      isplitl [H8]; · iexact H8
      isplitl [H9]; · iexact H9
      isplitl [H10]; · iexact H10
      iintro ⟨H5, H8, H9, H10⟩
      iapply Hk
      isplitl [H5]; · iexact H5
      isplitl [H8]
      · iexists _, _; isplitr; swap; · iexact H8
        ipureintro; rfl
      isplitl [H9]
      · iexists _, _; isplitr; swap; · iexact H9
        ipureintro; rfl
      iexists _, _; isplitr; swap; · iexact H10
      ipureintro; rfl
    · iapply ((tailRun_masked c i arg1 harg1 arg2 harg2 arg3 harg3 arg4 harg4 arg5 harg5 arg6 harg6 arg7 harg7 arg8 harg8 arg9 harg9 arg10 harg10 v3 v5 h2 h3 ((cond4_iff v3 v5).mpr h3) x5 f8 f9 f10).2.2 E K)
      isplitl [H5]; · iexact H5
      isplitl [H8]; · iexact H8
      isplitl [H9]; · iexact H9
      isplitl [H10]; · iexact H10
      iintro ⟨H5, H8, H9, H10⟩
      iapply Hk
      isplitl [H5]; · iexact H5
      isplitl [H8]
      · iexists _, _; isplitr; swap; · iexact H8
        ipureintro; rfl
      isplitl [H9]
      · iexists _, _; isplitr; swap; · iexact H9
        ipureintro; rfl
      iexists _, _; isplitr; swap; · iexact H10
      ipureintro; rfl
  · rw [tail_dead i arg1 harg1 arg2 harg2 arg3 harg3 arg4 harg4 arg5 harg5 arg6 harg6 arg7 harg7 arg8 harg8 arg9 harg9 arg10 harg10 v3 v5 h2]
    sl_step
    iapply Hk
    isplitl [H5]; · iexact H5
    isplitl [H8]
    · iexists _, _; isplitr; swap; · iexact H8
      ipureintro; rfl
    isplitl [H9]
    · iexists _, _; isplitr; swap; · iexact H9
      ipureintro; rfl
    iexists _, _; isplitr; swap; · iexact H10
    ipureintro; rfl
end

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare d))

def bodyPost (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ (∃ d, owns (c : Thread nD τ) (ms_3 m hO t) fullShare d))

set_option maxHeartbeats 3200000 in
/-- The body at any point, from the blocks in place to the blocks in place. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost
  simp only [before_0, before_1, before_2]
  rw [show (dats m hO 0 c).owesAt () t.succ = (dats m hO 0 c).owesAt () t.castSucc from rfl,
    after_0, after_1, after_2]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiT_eq, PhiA_eq]
  iintro ⟨⟨⟨⟨HS0, HS1⟩, Hg⟩, HT0, HT1, HT2, HT3⟩, Ho, ⟨%d0, H0⟩, ⟨%d1, H1⟩, ⟨%d2, H2⟩, H3⟩
  generalize iblk m hO c 0 t = x0
  generalize iblk m hO c 1 t = x1
  generalize iblk m hO c 2 t = x2
  unfold owns
  icases H0 with ⟨%f0, %hf0, H0⟩
  icases H1 with ⟨%f1, %hf1, H1⟩
  icases H2 with ⟨%f2, %hf2, H2⟩
  icases HS0 with ⟨%e0, %g0, -, HS0⟩
  obtain rfl := (hs_0 m hO t).eq_unread hf0
  by_cases hR : condR (grid0.coords t) (word tM1 (tbl m 1) (k0_off1 (grid0.coords t)) (k0_off1_inb (grid0.coords t))) (word tM1 (tbl m 1) (k0_off2 (grid0.coords t)) (k0_off2_inb (grid0.coords t)))
  · iapply (body_rebuild c (grid0.coords t) tM0 _ tM1 _ tM2 _ tM3 _ (ms_0 m hO t) _ (ms_1 m hO t) _ (ms_2 m hO t) _ (ms_3 m hO t) _ sM0 _ sM1 _ (tbl m 1) (tbl m 2) (tbl m 3) f1 f2 g0 hR Set.univ _)
    isplitl [HT1]; · iexact HT1
    isplitl [HT2]; · iexact HT2
    isplitl [HT3]; · iexact HT3
    isplitl [H1]; · iexact H1
    isplitl [H2]; · iexact H2
    isplitl [HS0]; · iexact HS0
    iintro ⟨HT1, HT2, HT3, H1, H2, HS0⟩
    iapply (tail_any c (grid0.coords t) tM0 _ tM1 _ tM2 _ tM3 _ (ms_0 m hO t) _ (ms_1 m hO t) _ (ms_2 m hO t) _ (ms_3 m hO t) _ sM0 _ sM1 _ _ _ x0 Set.univ _)
    isplitl [H0]; · iexact H0
    unfold owns
    isplitl [H3]; · iexact H3
    isplitl [HS0]
    · iexists _, _; isplitr; swap; · iexact HS0
      ipureintro; rfl
    isplitl [HS1]; · iexact HS1
    iintro ⟨H0, H3, HS0, HS1⟩
    isplitl [HS0 HS1 Hg HT0 HT1 HT2 HT3]
    · isplitl [HS0 HS1 Hg]
      · isplitl [HS0 HS1]
        · isplitl [HS0]; · iexact HS0
          iexact HS1
        iexact Hg
      isplitl [HT0]; · iexact HT0
      isplitl [HT1]; · iexact HT1
      isplitl [HT2]; · iexact HT2
      iexact HT3
    isplitl [Ho]; · iexact Ho
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    iexact H3
  · iapply (body_keep c (grid0.coords t) tM0 _ tM1 _ tM2 _ tM3 _ (ms_0 m hO t) _ (ms_1 m hO t) _ (ms_2 m hO t) _ (ms_3 m hO t) _ sM0 _ sM1 _ (tbl m 1) (tbl m 2) (tbl m 3) hR Set.univ _)
    isplitl [HT1]; · iexact HT1
    isplitl [HT2]; · iexact HT2
    isplitl [HT3]; · iexact HT3
    iintro ⟨HT1, HT2, HT3⟩
    iapply (tail_any c (grid0.coords t) tM0 _ tM1 _ tM2 _ tM3 _ (ms_0 m hO t) _ (ms_1 m hO t) _ (ms_2 m hO t) _ (ms_3 m hO t) _ sM0 _ sM1 _ _ _ x0 Set.univ _)
    isplitl [H0]; · iexact H0
    unfold owns
    isplitl [H3]; · iexact H3
    isplitl [HS0]
    · iexists _, _; isplitr; swap; · iexact HS0
      ipureintro; rfl
    isplitl [HS1]; · iexact HS1
    iintro ⟨H0, H3, HS0, HS1⟩
    isplitl [HS0 HS1 Hg HT0 HT1 HT2 HT3]
    · isplitl [HS0 HS1 Hg]
      · isplitl [HS0 HS1]
        · isplitl [HS0]; · iexact HS0
          iexact HS1
        iexact Hg
      isplitl [HT0]; · iexact HT0
      isplitl [HT1]; · iexact HT1
      isplitl [HT2]; · iexact HT2
      iexact HT3
    isplitl [Ho]; · iexact Ho
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    iexact H3

theorem body_obligation (hO : Ok m) (c : Dev nD) : BodyObligation (dats (F := F) m hO 0 c) (defs₀ (F := F)) Variants.none () Set.univ forgets := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  dsimp only [dats]; exact Idealize.SL.BI.Entails.refl _
theorem hout (hO : Ok m) (c : Dev nD) : (dats m hO 0 c).Φ (Fin.last (cfgM m hO).N) ⊢ Pipeline.ΦA spec0 c := by
  dsimp only [dats]
  iintro ⟨H, -⟩
  iexact H

set_option backward.isDefEq.respectTransparency.types false in
set_option maxHeartbeats 4000000 in
/-- The run, with the counters at zero. -/
theorem run_main (hO : Ok m) : θ_run defs (onTc (τ := τ) (main (F := F))) (s₀ m ρ) (fun r => (Pipeline.RDat.FramePost ((Pipeline.pin pcfgs fun _ => adm m hO) 0) (fun c => (dats m hO 0 c).toRForget forgets) (V m)) r ∧ r.2.sem = fun _ => 0) :=
  Pipeline.θ_run_frameP_track_forget (Q' := _) pcfgs (fun _ => adm m hO) (dats m hO) (0 : Fin 1) launch0 defs₀ Variants.none forgets m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

set_option maxHeartbeats 4000000 in
/-- THE FRAME, under the side condition of the tables. -/
theorem frame_all (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(Pipeline.RDat.FramePost.arr_in h.1 c 0 rfl).trans ((A_eq m hO c 0).trans (V_main_arg0 m c)),
      ((h.1 c).2 main_arg1 (by decide : main_arg1 ∈ Pipeline.restRefs sig spec0)).trans (V_main_arg1 m c),
      (Pipeline.RDat.FramePost.arr_in h.1 c 1 rfl).trans ((A_eq m hO c 1).trans (V_main_arg2 m c)),
      (Pipeline.RDat.FramePost.arr_in h.1 c 2 rfl).trans ((A_eq m hO c 2).trans (V_main_arg3 m c))⟩, h.2⟩) (run_main m ρ hO)

end Cert.Kernel.Hand
-- ==== Proof.KernelIdeal.Host.lean ====
/- The host operations before the kernel call: the call is reached with every buffer at what those
   operations leave, and none of them writes an argument. -/
module

public import proofs.«01_k».proof.Proof.Gen.KernelIdeal.Launch
public import Idealize.ShloMosaic.Lib.Pipeline.FrameBody
public import Idealize.ShloMosaic.Lib.StableHlo.RunRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (m : (ℓ : Loc nD τ sig) → Buf (Elt F) ℓ)

/-- The host operations, stretch by stretch. -/
abbrev opss : List (List (HloOp τ sig (Elt F))) :=
  [hostOps0, hostOps0_1, hostOps0_2, hostOps0_3, hostOps0_4, hostOps0_5, hostOps0_6, hostOps0_7, hostOps0_8,
    hostOps0_9, hostOps0_10, hostOps0_11, hostOps0_12, hostOps0_13]

/-- What the buffers hold when the kernel is called. -/
def V (c : Dev nD) (b : Ref sig .tc) : Buf (Elt F) ((c : Thread nD τ).loc b) :=
  StableHlo.after opss.flatten (fun b => m (c, b)) b

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
    hostOps0_8_sub, hostOps0_9_sub, hostOps0_10_sub, hostOps0_11_sub, hostOps0_12_sub, hostOps0_13_sub⟩

theorem opss_fresh : (opss (F := F)).Forall fun ops => ops.Forall fun op => op.fresh = ∅ := by
  refine ⟨?_, ?_, ?_, ?_, ?_, ?_, ?_, ?_, ?_, ?_, ?_, ?_, ?_, ?_⟩ <;>
    simp only [List.forall_iff_forall_mem, List.mem_cons, List.not_mem_nil, or_false, forall_eq_or_imp, forall_eq] <;>
    (repeat' constructor)

/-- @main runs the host operations, then the kernel. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main opss opss_sub opss_fresh fun c => (main_chain c).trans rfl

theorem V_main_arg0 (c : Dev nD) : V m c main_arg0 = m ((c : Thread nD τ).loc main_arg0) := by
  unfold V; after_reads_simp
theorem V_main_arg1 (c : Dev nD) : V m c main_arg1 = m ((c : Thread nD τ).loc main_arg1) := by
  unfold V; after_reads_simp
theorem V_main_arg2 (c : Dev nD) : V m c main_arg2 = m ((c : Thread nD τ).loc main_arg2) := by
  unfold V; after_reads_simp
theorem V_main_arg3 (c : Dev nD) : V m c main_arg3 = m ((c : Thread nD τ).loc main_arg3) := by
  unfold V; after_reads_simp

end Cert.KernelIdeal.Hand
-- ==== Proof.KernelIdeal.Tail.lean ====
/- One grid point of the kernel after the weight block has been rebuilt: the activations are rounded
   (second loop) and the eleven products are stored, whole or masked, or nothing is done. `tail` is
   that part of the printed body; `tailRun_full` and `tailRun_masked` run it on any buffers and find
   the pieces it stores, and `tail_dead` says that it does nothing when the row range is empty. -/
module

public import proofs.«01_k».proof.Proof.Gen.KernelIdeal.Loops
public import proofs.«01_k».proof.Proof.Gen.KernelIdeal.Launch
public import Idealize.ShloMosaic.Lib.Pipeline.FrameBody
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
/-- The printed body from the test of the row range on. -/
noncomputable def tail (i : grid0.Coords) (arg1 : Memref sig .tc .smem S135 .i32) (harg1 : arg1.IsWhole) (arg2 : Memref sig .tc .smem S135 .i32) (harg2 : arg2.IsWhole) (arg3 : Memref sig .tc .smem S135 .i32) (harg3 : arg3.IsWhole) (arg4 : Memref sig .tc .smem S135 .i32) (harg4 : arg4.IsWhole) (arg5 : Memref sig .tc .vmem S512x2048 .bf16) (harg5 : arg5.IsWhole) (arg6 : Memref sig .tc .vmem S1x2816x2048 .fp8e4m3) (harg6 : arg6.IsWhole) (arg7 : Memref sig .tc .vmem S1x2816x64 .i8) (harg7 : arg7.IsWhole) (arg8 : Memref sig .tc .vmem S512x2816 .bf16) (harg8 : arg8.IsWhole) (arg9 : Memref sig .tc .vmem S2816x2048 .bf16) (harg9 : arg9.IsWhole) (arg10 : Memref sig .tc .vmem S512x2048 .bf16) (harg10 : arg10.IsWhole) (v3 v5 : Elt F .i32) :
    Prog (TpuEff nD τ sig (Elt F) Λ₀ .tc) PUnit := do
  if k0_h2 : k0_cond2 v3 v5 = 1#1 then do
    Scf.Loop.for k0_t2_loop k0_t2_ok ⟨⟩ (k0_t2_body i arg1 harg1 arg2 harg2 arg3 harg3 arg4 harg4 arg5 harg5 arg6 harg6 arg7 harg7 arg8 harg8 arg9 harg9 arg10 harg10)
    if k0_h3 : k0_cond3 v3 v5 = 1#1 then do
      let v49 : FVec F S512x256 .f32 ← k0_part29 i arg1 harg1 arg2 harg2 arg3 harg3 arg4 harg4 arg5 harg5 arg6 harg6 arg7 harg7 arg8 harg8 arg9 harg9 arg10 harg10
      let v72 : Vec F S512x2048 .bf16 ← k0_part30 i arg1 harg1 arg2 harg2 arg3 harg3 arg4 harg4 arg5 harg5 arg6 harg6 arg7 harg7 arg8 harg8 arg9 harg9 arg10 harg10 v49
      let v73 : Vec F S256x2048 .bf16 ← Prog.lift (.load arg9 (Rect.unit (s := S2816x2048) ![2304, 0] S256x2048.size inb_S2816x2048_S256x2048_2304_0).toLoadRect (View.loadsAt_vmem h_S256x2048))
      let v76 : Vec F S512x256 .bf16 ← Prog.lift (.load arg8 (Rect.unit (s := S512x2816) ![0, 2304] S512x256.size inb_S512x2816_S512x256_0_2304).toLoadRect (View.loadsAt_vmem h_S512x256))
      Prog.lift (.store arg8 (Rect.unit (s := S512x2816) ![0, 2304] S512x256.size inb_S512x2816_S512x256_0_2304) (k0_pay3 v72 v73) Finset.univ (View.stores_vmem h_S512x256 (harg8.storeExact_slice rfl _ packedbf16_S512x2816_S512x256_0_2304) (fun _ => rfl)) (.inl rfl))
      let v77 : Vec F S512x2048 .bf16 ← Prog.lift (.load arg10 (Rect.unit (s := S512x2048) ![0, 0] S512x2048.size inb_S512x2048_S512x2048_0_0).toLoadRect (View.loadsAt_vmem h_S512x2048))
      let v78 : Vec F S256x2048 .bf16 ← Prog.lift (.load arg9 (Rect.unit (s := S2816x2048) ![2560, 0] S256x2048.size inb_S2816x2048_S256x2048_2560_0).toLoadRect (View.loadsAt_vmem h_S256x2048))
      let v81 : Vec F S512x256 .bf16 ← Prog.lift (.load arg8 (Rect.unit (s := S512x2816) ![0, 2560] S512x256.size inb_S512x2816_S512x256_0_2560).toLoadRect (View.loadsAt_vmem h_S512x256))
      Prog.lift (.store arg8 (Rect.unit (s := S512x2816) ![0, 2560] S512x256.size inb_S512x2816_S512x256_0_2560) (k0_pay4 v77 v78) Finset.univ (View.stores_vmem h_S512x256 (harg8.storeExact_slice rfl _ packedbf16_S512x2816_S512x256_0_2560) (fun _ => rfl)) (.inl rfl))
      pure ⟨⟩
    else do
      pure ⟨⟩
    if k0_h4 : k0_cond4 v3 v5 = 1#1 then do
      let ⟨v59, v60⟩ : Σ' (v59 : FVec F S512x256 .f32), IVec S512x256 32 ← k0_part31 i arg1 harg1 arg2 harg2 arg3 harg3 arg4 harg4 arg5 harg5 arg6 harg6 arg7 harg7 arg8 harg8 arg9 harg9 arg10 harg10 v3 v5
      let v99 : FVec F S512x256 .f32 ← k0_part32 i arg1 harg1 arg2 harg2 arg3 harg3 arg4 harg4 arg5 harg5 arg6 harg6 arg7 harg7 arg8 harg8 arg9 harg9 arg10 harg10 v3 v5 v59 v60
      let v132 : Vec F S512x2048 .bf16 ← k0_part33 i arg1 harg1 arg2 harg2 arg3 harg3 arg4 harg4 arg5 harg5 arg6 harg6 arg7 harg7 arg8 harg8 arg9 harg9 arg10 harg10 v3 v5 v99
      let ⟨v164, v165, v168, v169⟩ : Σ' (v164 : FVec F S512x256 .f32) (v165 : IVec S512x256 32) (v168 : FVec F S512x256 .f32), IVec S512x256 32 ← k0_part34 i arg1 harg1 arg2 harg2 arg3 harg3 arg4 harg4 arg5 harg5 arg6 harg6 arg7 harg7 arg8 harg8 arg9 harg9 arg10 harg10 v3 v5 v132
      let v176 : Vec F S512x256 .bf16 ← Prog.lift (.load arg8 (Rect.unit (s := S512x2816) ![0, 2304] S512x256.size inb_S512x2816_S512x256_0_2304).toLoadRect (View.loadsAt_vmem h_S512x256))
      Prog.lift (.store arg8 (Rect.unit (s := S512x2816) ![0, 2304] S512x256.size inb_S512x2816_S512x256_0_2304) (k0_pay5 v5 v164 v165 v168 v169) Finset.univ (View.stores_vmem h_S512x256 (harg8.storeExact_slice rfl _ packedbf16_S512x2816_S512x256_0_2304) (fun _ => rfl)) (.inl rfl))
      let v177 : Vec F S512x2048 .bf16 ← Prog.lift (.load arg10 (Rect.unit (s := S512x2048) ![0, 0] S512x2048.size inb_S512x2048_S512x2048_0_0).toLoadRect (View.loadsAt_vmem h_S512x2048))
      let v178 : Vec F S256x2048 .bf16 ← Prog.lift (.load arg9 (Rect.unit (s := S2816x2048) ![2560, 0] S256x2048.size inb_S2816x2048_S256x2048_2560_0).toLoadRect (View.loadsAt_vmem h_S256x2048))
      let v181 : Vec F S512x256 .bf16 ← Prog.lift (.load arg8 (Rect.unit (s := S512x2816) ![0, 2560] S512x256.size inb_S512x2816_S512x256_0_2560).toLoadRect (View.loadsAt_vmem h_S512x256))
      let v191 : Vec F S512x256 .bf16 ← Prog.lift (.load arg8 (Rect.unit (s := S512x2816) ![0, 2560] S512x256.size inb_S512x2816_S512x256_0_2560).toLoadRect (View.loadsAt_vmem h_S512x256))
      Prog.lift (.store arg8 (Rect.unit (s := S512x2816) ![0, 2560] S512x256.size inb_S512x2816_S512x256_0_2560) (k0_pay6 v3 v5 v177 v178 v181) Finset.univ (View.stores_vmem h_S512x256 (harg8.storeExact_slice rfl _ packedbf16_S512x2816_S512x256_0_2560) (fun _ => rfl)) (.inl rfl))
      pure ⟨⟩
    else do
      pure ⟨⟩
    pure ⟨⟩
  else do
    pure ⟨⟩
  pure ⟨⟩

/-- With an empty row range the body does nothing more. -/
theorem tail_dead (i : grid0.Coords) (arg1 : Memref sig .tc .smem S135 .i32) (harg1 : arg1.IsWhole) (arg2 : Memref sig .tc .smem S135 .i32) (harg2 : arg2.IsWhole) (arg3 : Memref sig .tc .smem S135 .i32) (harg3 : arg3.IsWhole) (arg4 : Memref sig .tc .smem S135 .i32) (harg4 : arg4.IsWhole) (arg5 : Memref sig .tc .vmem S512x2048 .bf16) (harg5 : arg5.IsWhole) (arg6 : Memref sig .tc .vmem S1x2816x2048 .fp8e4m3) (harg6 : arg6.IsWhole) (arg7 : Memref sig .tc .vmem S1x2816x64 .i8) (harg7 : arg7.IsWhole) (arg8 : Memref sig .tc .vmem S512x2816 .bf16) (harg8 : arg8.IsWhole) (arg9 : Memref sig .tc .vmem S2816x2048 .bf16) (harg9 : arg9.IsWhole) (arg10 : Memref sig .tc .vmem S512x2048 .bf16) (harg10 : arg10.IsWhole) (v3 v5 : Elt F .i32) (h : ¬ k0_cond2 v3 v5 = 1#1) :
    tail (F := F) i arg1 harg1 arg2 harg2 arg3 harg3 arg4 harg4 arg5 harg5 arg6 harg6 arg7 harg7 arg8 harg8 arg9 harg9 arg10 harg10 v3 v5 = pure ⟨⟩ := by
  unfold tail; rw [dif_neg h]

set_option maxHeartbeats 4000000 in
/-- A full tile: the pieces stored into the output's buffer and into the rounded activations. -/
noncomputable def tailRun_full (c : Dev nD) (i : grid0.Coords) (arg1 : Memref sig .tc .smem S135 .i32) (harg1 : arg1.IsWhole) (arg2 : Memref sig .tc .smem S135 .i32) (harg2 : arg2.IsWhole) (arg3 : Memref sig .tc .smem S135 .i32) (harg3 : arg3.IsWhole) (arg4 : Memref sig .tc .smem S135 .i32) (harg4 : arg4.IsWhole) (arg5 : Memref sig .tc .vmem S512x2048 .bf16) (harg5 : arg5.IsWhole) (arg6 : Memref sig .tc .vmem S1x2816x2048 .fp8e4m3) (harg6 : arg6.IsWhole) (arg7 : Memref sig .tc .vmem S1x2816x64 .i8) (harg7 : arg7.IsWhole) (arg8 : Memref sig .tc .vmem S512x2816 .bf16) (harg8 : arg8.IsWhole) (arg9 : Memref sig .tc .vmem S2816x2048 .bf16) (harg9 : arg9.IsWhole) (arg10 : Memref sig .tc .vmem S512x2048 .bf16) (harg10 : arg10.IsWhole) (v3 v5 : Elt F .i32)
    (h2 : k0_cond2 v3 v5 = 1#1) (h3 : k0_cond3 v3 v5 = 1#1) (h4 : ¬ k0_cond4 v3 v5 = 1#1)
    (x5 : Vec F S512x2048 .bf16) (g9 : BufTy.Contents (Elt F) arg9.view.ty) (g10 : BufTy.Contents (Elt F) arg10.view.ty) :
    Σ' (LO : List (View.Piece (Elt F) S512x2816 .bf16)), { LX : List (View.Piece (Elt F) S512x2048 .bf16) //
      ∀ (E : Set ℕ) (f8 : BufTy.Contents (Elt F) arg8.view.ty) (K : PUnit → sProp 𝕄),
        iprop((arg5.view.loc (c : Thread nD τ) ↦[arg5.view.set]{fullShare} harg5.unread x5)
            ∗ (arg8.view.loc (c : Thread nD τ) ↦[arg8.view.set]{fullShare} f8)
            ∗ (arg9.view.loc (c : Thread nD τ) ↦[arg9.view.set]{fullShare} g9)
            ∗ (arg10.view.loc (c : Thread nD τ) ↦[arg10.view.set]{fullShare} g10)
            ∗ (iprop((arg5.view.loc (c : Thread nD τ) ↦[arg5.view.set]{fullShare} harg5.unread x5)
                ∗ (arg8.view.loc (c : Thread nD τ) ↦[arg8.view.set]{fullShare} arg8.view.writes (Elt F) f8 LO)
                ∗ (arg9.view.loc (c : Thread nD τ) ↦[arg9.view.set]{fullShare} g9)
                ∗ (arg10.view.loc (c : Thread nD τ) ↦[arg10.view.set]{fullShare} arg10.view.writes (Elt F) g10 LX)) -∗ K ⟨⟩))
          ⊢ wp frame (wpE (defs₀ (F := F)) Variants.none c none) E (tail i arg1 harg1 arg2 harg2 arg3 harg3 arg4 harg4 arg5 harg5 arg6 harg6 arg7 harg7 arg8 harg8 arg9 harg9 arg10 harg10 v3 v5) K } := by
  refine ⟨?_, ?_, fun E f8 K => ?run⟩
  case run =>
    unfold tail
    iintro ⟨H5, H8, H9, H10, Hk⟩
    sl_exec (disch := first | sl_exact h2 | sl_exact h3 | sl_exact h4)
    sl_step
    iapply Hk
    isplitl [H5]; · iexact H5
    isplitl [H8]; · iexact H8
    isplitl [H9]; · iexact H9
    iexact H10

set_option maxHeartbeats 4000000 in
/-- A tile shared by several visits: the rows outside the range keep what the output's buffer held. -/
noncomputable def tailRun_masked (c : Dev nD) (i : grid0.Coords) (arg1 : Memref sig .tc .smem S135 .i32) (harg1 : arg1.IsWhole) (arg2 : Memref sig .tc .smem S135 .i32) (harg2 : arg2.IsWhole) (arg3 : Memref sig .tc .smem S135 .i32) (harg3 : arg3.IsWhole) (arg4 : Memref sig .tc .smem S135 .i32) (harg4 : arg4.IsWhole) (arg5 : Memref sig .tc .vmem S512x2048 .bf16) (harg5 : arg5.IsWhole) (arg6 : Memref sig .tc .vmem S1x2816x2048 .fp8e4m3) (harg6 : arg6.IsWhole) (arg7 : Memref sig .tc .vmem S1x2816x64 .i8) (harg7 : arg7.IsWhole) (arg8 : Memref sig .tc .vmem S512x2816 .bf16) (harg8 : arg8.IsWhole) (arg9 : Memref sig .tc .vmem S2816x2048 .bf16) (harg9 : arg9.IsWhole) (arg10 : Memref sig .tc .vmem S512x2048 .bf16) (harg10 : arg10.IsWhole) (v3 v5 : Elt F .i32)
    (h2 : k0_cond2 v3 v5 = 1#1) (h3 : ¬ k0_cond3 v3 v5 = 1#1) (h4 : k0_cond4 v3 v5 = 1#1)
    (x5 : Vec F S512x2048 .bf16) (g8 : BufTy.Contents (Elt F) arg8.view.ty) (g9 : BufTy.Contents (Elt F) arg9.view.ty) (g10 : BufTy.Contents (Elt F) arg10.view.ty) :
    Σ' (LO : List (View.Piece (Elt F) S512x2816 .bf16)), { LX : List (View.Piece (Elt F) S512x2048 .bf16) //
      ∀ (E : Set ℕ) (K : PUnit → sProp 𝕄),
        iprop((arg5.view.loc (c : Thread nD τ) ↦[arg5.view.set]{fullShare} harg5.unread x5)
            ∗ (arg8.view.loc (c : Thread nD τ) ↦[arg8.view.set]{fullShare} g8)
            ∗ (arg9.view.loc (c : Thread nD τ) ↦[arg9.view.set]{fullShare} g9)
            ∗ (arg10.view.loc (c : Thread nD τ) ↦[arg10.view.set]{fullShare} g10)
            ∗ (iprop((arg5.view.loc (c : Thread nD τ) ↦[arg5.view.set]{fullShare} harg5.unread x5)
                ∗ (arg8.view.loc (c : Thread nD τ) ↦[arg8.view.set]{fullShare} arg8.view.writes (Elt F) g8 LO)
                ∗ (arg9.view.loc (c : Thread nD τ) ↦[arg9.view.set]{fullShare} g9)
                ∗ (arg10.view.loc (c : Thread nD τ) ↦[arg10.view.set]{fullShare} arg10.view.writes (Elt F) g10 LX)) -∗ K ⟨⟩))
          ⊢ wp frame (wpE (defs₀ (F := F)) Variants.none c none) E (tail i arg1 harg1 arg2 harg2 arg3 harg3 arg4 harg4 arg5 harg5 arg6 harg6 arg7 harg7 arg8 harg8 arg9 harg9 arg10 harg10 v3 v5) K } := by
  refine ⟨?_, ?_, fun E K => ?run⟩
  case run =>
    unfold tail
    iintro ⟨H5, H8, H9, H10, Hk⟩
    sl_exec (disch := first | sl_exact h2 | sl_exact h3 | sl_exact h4)
    sl_step
    iapply Hk
    isplitl [H5]; · iexact H5
    isplitl [H8]; · iexact H8
    isplitl [H9]; · iexact H9
    iexact H10

end Cert.KernelIdeal.Hand
-- ==== Proof.KernelIdeal.Body.lean ====
/- One grid point of the kernel up to the test of the row range: the four table words are read and,
   at the first point and wherever the group changes, the weight block is rebuilt by the first loop.
   Each lemma reduces the whole body to its tail, with the rebuilt block in place. -/
module

public import proofs.«01_k».proof.Proof.KernelIdeal.Tail

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
/-- The one word a table holds at an offset, as the body reads it. -/
abbrev word (M : Memref sig .tc .smem S135 .i32) (X : BufTy.Contents (Elt F) M.view.ty) (o : Fin 1 → Nat)
    (h : ∀ a, o a + S1.size a ≤ S135.size a) : BitVec 32 :=
  M.view.readAt (Elt F) (Rect.unit (s := S135) o S1.size h).toLoadRect X (Shape.Idx.first (Nat.lt_of_lt_of_eq Nat.zero_lt_one numel1_S1.symm))

/-- The body's test whether the weight block has to be rebuilt. -/
abbrev condR (i : grid0.Coords) (g g' : BitVec 32) : Prop :=
  Scalar.cmpi .ne (Scalar.extui (Scalar.ori (Scalar.cmpi .eq (BitVec.ofNat 32 (i 0).val) 0#32) (Scalar.cmpi .ne g g')) : BitVec 32) 0#32 = 1#1

/-- The whole body, its tail named. -/
noncomputable def whole (i : grid0.Coords) (arg1 : Memref sig .tc .smem S135 .i32) (harg1 : arg1.IsWhole) (arg2 : Memref sig .tc .smem S135 .i32) (harg2 : arg2.IsWhole) (arg3 : Memref sig .tc .smem S135 .i32) (harg3 : arg3.IsWhole) (arg4 : Memref sig .tc .smem S135 .i32) (harg4 : arg4.IsWhole) (arg5 : Memref sig .tc .vmem S512x2048 .bf16) (harg5 : arg5.IsWhole) (arg6 : Memref sig .tc .vmem S1x2816x2048 .fp8e4m3) (harg6 : arg6.IsWhole) (arg7 : Memref sig .tc .vmem S1x2816x64 .i8) (harg7 : arg7.IsWhole) (arg8 : Memref sig .tc .vmem S512x2816 .bf16) (harg8 : arg8.IsWhole) (arg9 : Memref sig .tc .vmem S2816x2048 .bf16) (harg9 : arg9.IsWhole) (arg10 : Memref sig .tc .vmem S512x2048 .bf16) (harg10 : arg10.IsWhole) : Prog (TpuEff nD τ sig (Elt F) Λ₀ .tc) PUnit := do
  let arg0 : BitVec 32 := BitVec.ofNat 32 (i 0).val
  let v3 : Elt F .i32 ← smemLoad arg3 (Rect.unit (s := S135) (k0_off1 i) S1.size (k0_off1_inb i)) numel1_S1 rfl
  let v5 : Elt F .i32 ← smemLoad arg4 (Rect.unit (s := S135) (k0_off1 i) S1.size (k0_off1_inb i)) numel1_S1 rfl
  let v6 : BitVec 1 := Scalar.cmpi .eq arg0 0#32
  let v8 : Elt F .i32 ← smemLoad arg2 (Rect.unit (s := S135) (k0_off1 i) S1.size (k0_off1_inb i)) numel1_S1 rfl
  let v10 : Elt F .i32 ← smemLoad arg2 (Rect.unit (s := S135) (k0_off2 i) S1.size (k0_off2_inb i)) numel1_S1 rfl
  let v11 : BitVec 1 := Scalar.cmpi .ne v8 v10
  let v12 : BitVec 1 := Scalar.ori v6 v11
  let v13 : BitVec 32 := Scalar.extui v12
  let v14 : BitVec 1 := Scalar.cmpi .ne v13 0#32
  if v14 = 1#1 then do
    Scf.Loop.for k0_t1_loop k0_t1_ok ⟨⟩ (k0_t1_body i arg1 harg1 arg2 harg2 arg3 harg3 arg4 harg4 arg5 harg5 arg6 harg6 arg7 harg7 arg8 harg8 arg9 harg9 arg10 harg10)
    pure ⟨⟩
  else do
    pure ⟨⟩
  tail i arg1 harg1 arg2 harg2 arg3 harg3 arg4 harg4 arg5 harg5 arg6 harg6 arg7 harg7 arg8 harg8 arg9 harg9 arg10 harg10 v3 v5

set_option maxRecDepth 65536 in
theorem whole_eq : cc0_mx_gmm_skel (F := F) = whole (F := F) := rfl

section
variable (c : Dev nD) (i : grid0.Coords) (arg1 : Memref sig .tc .smem S135 .i32) (harg1 : arg1.IsWhole) (arg2 : Memref sig .tc .smem S135 .i32) (harg2 : arg2.IsWhole) (arg3 : Memref sig .tc .smem S135 .i32) (harg3 : arg3.IsWhole) (arg4 : Memref sig .tc .smem S135 .i32) (harg4 : arg4.IsWhole) (arg5 : Memref sig .tc .vmem S512x2048 .bf16) (harg5 : arg5.IsWhole) (arg6 : Memref sig .tc .vmem S1x2816x2048 .fp8e4m3) (harg6 : arg6.IsWhole) (arg7 : Memref sig .tc .vmem S1x2816x64 .i8) (harg7 : arg7.IsWhole) (arg8 : Memref sig .tc .vmem S512x2816 .bf16) (harg8 : arg8.IsWhole) (arg9 : Memref sig .tc .vmem S2816x2048 .bf16) (harg9 : arg9.IsWhole) (arg10 : Memref sig .tc .vmem S512x2048 .bf16) (harg10 : arg10.IsWhole)
    (X2 : BufTy.Contents (Elt F) arg2.view.ty) (X3 : BufTy.Contents (Elt F) arg3.view.ty) (X4 : BufTy.Contents (Elt F) arg4.view.ty)
    (g6 : BufTy.Contents (Elt F) arg6.view.ty) (g7 : BufTy.Contents (Elt F) arg7.view.ty) (g9 : BufTy.Contents (Elt F) arg9.view.ty)

set_option maxHeartbeats 4000000 in
/-- The body where the block is rebuilt. -/
theorem body_rebuild (h : condR i (word arg2 X2 (k0_off1 i) (k0_off1_inb i)) (word arg2 X2 (k0_off2 i) (k0_off2_inb i)))
    (E : Set ℕ) (K : PUnit → sProp 𝕄) :
    iprop((arg2.view.loc (c : Thread nD τ) ↦[arg2.view.set]{fullShare.right} X2)
        ∗ (arg3.view.loc (c : Thread nD τ) ↦[arg3.view.set]{fullShare.right} X3)
        ∗ (arg4.view.loc (c : Thread nD τ) ↦[arg4.view.set]{fullShare.right} X4)
        ∗ (arg6.view.loc (c : Thread nD τ) ↦[arg6.view.set]{fullShare} g6)
        ∗ (arg7.view.loc (c : Thread nD τ) ↦[arg7.view.set]{fullShare} g7)
        ∗ (arg9.view.loc (c : Thread nD τ) ↦[arg9.view.set]{fullShare} g9)
        ∗ (iprop((arg2.view.loc (c : Thread nD τ) ↦[arg2.view.set]{fullShare.right} X2)
            ∗ (arg3.view.loc (c : Thread nD τ) ↦[arg3.view.set]{fullShare.right} X3)
            ∗ (arg4.view.loc (c : Thread nD τ) ↦[arg4.view.set]{fullShare.right} X4)
            ∗ (arg6.view.loc (c : Thread nD τ) ↦[arg6.view.set]{fullShare} g6)
            ∗ (arg7.view.loc (c : Thread nD τ) ↦[arg7.view.set]{fullShare} g7)
            ∗ (arg9.view.loc (c : Thread nD τ) ↦[arg9.view.set]{fullShare} arg9.view.writes (Elt F) g9
                (pb_k0_t1 (F := F) Variants.none c none i arg1 harg1 arg2 harg2 arg3 harg3 arg4 harg4 arg5 harg5 arg6 harg6 arg7 harg7 arg8 harg8 arg9 harg9 arg10 harg10 g6 g7 k0_t1_loop.trips)))
            -∗ wp frame (wpE (defs₀ (F := F)) Variants.none c none) E
              (tail i arg1 harg1 arg2 harg2 arg3 harg3 arg4 harg4 arg5 harg5 arg6 harg6 arg7 harg7 arg8 harg8 arg9 harg9 arg10 harg10 (word arg3 X3 (k0_off1 i) (k0_off1_inb i)) (word arg4 X4 (k0_off1 i) (k0_off1_inb i))) K))
      ⊢ wp frame (wpE (defs₀ (F := F)) Variants.none c none) E (cc0_mx_gmm i arg1 harg1 arg2 harg2 arg3 harg3 arg4 harg4 arg5 harg5 arg6 harg6 arg7 harg7 arg8 harg8 arg9 harg9 arg10 harg10) K := by
  rw [cc0_mx_gmm_eq_skeleton, whole_eq]; unfold whole
  iintro ⟨H2, H3, H4, H6, H7, H9, Hk⟩
  sl_exec (disch := first | sl_exact h)
  iapply Hk
  isplitl [H2]; · iexact H2
  isplitl [H3]; · iexact H3
  isplitl [H4]; · iexact H4
  isplitl [H6]; · iexact H6
  isplitl [H7]; · iexact H7
  iexact H9

set_option maxHeartbeats 4000000 in
/-- The body where the block is kept. -/
theorem body_keep (h : ¬ condR i (word arg2 X2 (k0_off1 i) (k0_off1_inb i)) (word arg2 X2 (k0_off2 i) (k0_off2_inb i)))
    (E : Set ℕ) (K : PUnit → sProp 𝕄) :
    iprop((arg2.view.loc (c : Thread nD τ) ↦[arg2.view.set]{fullShare.right} X2)
        ∗ (arg3.view.loc (c : Thread nD τ) ↦[arg3.view.set]{fullShare.right} X3)
        ∗ (arg4.view.loc (c : Thread nD τ) ↦[arg4.view.set]{fullShare.right} X4)
        ∗ (iprop((arg2.view.loc (c : Thread nD τ) ↦[arg2.view.set]{fullShare.right} X2)
            ∗ (arg3.view.loc (c : Thread nD τ) ↦[arg3.view.set]{fullShare.right} X3)
            ∗ (arg4.view.loc (c : Thread nD τ) ↦[arg4.view.set]{fullShare.right} X4))
            -∗ wp frame (wpE (defs₀ (F := F)) Variants.none c none) E
              (tail i arg1 harg1 arg2 harg2 arg3 harg3 arg4 harg4 arg5 harg5 arg6 harg6 arg7 harg7 arg8 harg8 arg9 harg9 arg10 harg10 (word arg3 X3 (k0_off1 i) (k0_off1_inb i)) (word arg4 X4 (k0_off1 i) (k0_off1_inb i))) K))
      ⊢ wp frame (wpE (defs₀ (F := F)) Variants.none c none) E (cc0_mx_gmm i arg1 harg1 arg2 harg2 arg3 harg3 arg4 harg4 arg5 harg5 arg6 harg6 arg7 harg7 arg8 harg8 arg9 harg9 arg10 harg10) K := by
  rw [cc0_mx_gmm_eq_skeleton, whole_eq]; unfold whole
  iintro ⟨H2, H3, H4, Hk⟩
  sl_exec (disch := first | sl_exact h)
  iapply Hk
  isplitl [H2]; · iexact H2
  isplitl [H3]; · iexact H3
  iexact H4
end

end Cert.KernelIdeal.Hand
-- ==== Proof.KernelIdeal.Setup.lean ====
/- The kernel call as a pipeline at the tables the host operations computed: the tables, the blocks
   the windows stage, and the buffers the body is handed. -/
module

public import proofs.«01_k».proof.Proof.KernelIdeal.Host
public import proofs.«01_k».proof.Proof.KernelIdeal.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (m : (ℓ : Loc nD τ sig) → Buf (Elt F) ℓ)

/-- The tables' contents when the kernel is called. -/
def tbl : pre0.Contents (Elt F) := fun j => V m (0 : Dev nD) (pre0.ref j)
theorem V_pre (c : Dev nD) (j : Fin 4) : V m c (pre0.ref j) = tbl m j := by
  obtain rfl : c = 0 := Subsingleton.elim _ _; rfl
/-- The call's side condition of its tables: every block lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The four tables as the body is handed them. -/
abbrev tM0 : Memref sig .tc .smem S135 .i32 := Memref.whole main_v53
abbrev tM1 : Memref sig .tc .smem S135 .i32 := Memref.whole main_v29
abbrev tM2 : Memref sig .tc .smem S135 .i32 := Memref.whole main_v64
abbrev tM3 : Memref sig .tc .smem S135 .i32 := Memref.whole main_v76

/-- A table held at half the share: the call keeps the other half. -/
abbrev tPt (c : Dev nD) (M : Memref sig .tc .smem S135 .i32) (f : BufTy.Contents (Elt F) M.view.ty) : sProp 𝕄 :=
  M.view.loc (c : Thread nD τ) ↦[M.view.set]{fullShare.right} f

theorem PhiT_eq (c : Dev nD) : (Pipeline.ΦT pre0 (tbl m) c : sProp 𝕄)
    = iprop(tPt c tM0 (tbl m 0) ∗ tPt c tM1 (tbl m 1) ∗ tPt c tM2 (tbl m 2) ∗ tPt c tM3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  simp only [tPt, (Memref.isWhole_whole main_v53).set_eq_univ, (Memref.isWhole_whole main_v29).set_eq_univ, (Memref.isWhole_whole main_v64).set_eq_univ, (Memref.isWhole_whole main_v76).set_eq_univ]
  rfl

/-- Window `w`'s block at point `t`, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Each window's staging buffer at point `t`. -/
abbrev ms_0 (hO : Ok m) (t : Fin (cfgM m hO).N) : Memref sig .tc .vmem S512x2048 .bf16 := spec0_0.stage ((cfgM m hO).slots t 0)
abbrev hs_0 (hO : Ok m) (t : Fin (cfgM m hO).N) : (ms_0 m hO t).IsWhole := hstage0_0 (((cfgM m hO).slots t 0).cast nbuf0_0)
abbrev ms_1 (hO : Ok m) (t : Fin (cfgM m hO).N) : Memref sig .tc .vmem S1x2816x2048 .fp8e4m3 := spec0_1.stage ((cfgM m hO).slots t 1)
abbrev hs_1 (hO : Ok m) (t : Fin (cfgM m hO).N) : (ms_1 m hO t).IsWhole := hstage0_1 (((cfgM m hO).slots t 1).cast nbuf0_1)
abbrev ms_2 (hO : Ok m) (t : Fin (cfgM m hO).N) : Memref sig .tc .vmem S1x2816x64 .i8 := spec0_2.stage ((cfgM m hO).slots t 2)
abbrev hs_2 (hO : Ok m) (t : Fin (cfgM m hO).N) : (ms_2 m hO t).IsWhole := hstage0_2 (((cfgM m hO).slots t 2).cast nbuf0_2)
abbrev ms_3 (hO : Ok m) (t : Fin (cfgM m hO).N) : Memref sig .tc .vmem S512x2816 .bf16 := spec0_3.stage ((cfgM m hO).slots t 3)
abbrev hs_3 (hO : Ok m) (t : Fin (cfgM m hO).N) : (ms_3 m hO t).IsWhole := hstage0_3 (((cfgM m hO).slots t 3).cast nbuf0_3)
/-- The rebuilt weight block and the rounded activations. -/
abbrev sM0 : Memref sig .tc .vmem S2816x2048 .bf16 := Memref.whole cc0_scratch0
abbrev sM1 : Memref sig .tc .vmem S512x2048 .bf16 := Memref.whole cc0_scratch1

theorem PhiA_eq (c : Dev nD) :
    (Pipeline.ΦA spec0 c : sProp 𝕄)
      = iprop(iprop((∃ d, owns (c : Thread nD τ) sM0 fullShare d) ∗ (∃ d, owns (c : Thread nD τ) sM1 fullShare d)) ∗ (∃ r, prngReg c r)) := by
  unfold Pipeline.ΦA; rw [scopedRest0_eq]; simp only [sM0, sM1, owns_whole]; try rfl

/-- The body as the pipeline calls it at point `t`. -/
abbrev bodyAt (hO : Ok m) (t : Fin (cfgM m hO).N) : Prog (TpuEff nD τ sig (Elt F) Λ₀ .tc) PUnit :=
  cc0_mx_gmm (grid0.coords t) tM0 (Memref.isWhole_whole _) tM1 (Memref.isWhole_whole _) tM2 (Memref.isWhole_whole _) tM3 (Memref.isWhole_whole _)
    (ms_0 m hO t) (hs_0 m hO t) (ms_1 m hO t) (hs_1 m hO t) (ms_2 m hO t) (hs_2 m hO t) (ms_3 m hO t) (hs_3 m hO t)
    sM0 (Memref.isWhole_whole _) sM1 (Memref.isWhole_whole _)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The tests for a whole and for a shared tile exclude each other, and one of them holds. -/
theorem cond4_iff (v3 v5 : BitVec 32) : k0_cond4 v3 v5 = 1#1 ↔ ¬ k0_cond3 v3 v5 = 1#1 := by
  unfold k0_cond4 k0_cond3
  dsimp only
  generalize Scalar.andi (Scalar.cmpi .eq v3 0#32) (Scalar.cmpi .eq v5 512#32) = b
  revert b; decide

end Cert.KernelIdeal.Hand
-- ==== Proof.KernelIdeal.Reads.lean ====
/- What the host operations leave in the buffers of the visit tables, each from the buffers it is
   computed from: the ends and starts of the groups, the tiles they begin in, the numbers of visits,
   and per visit the group, the tile and the row range. -/
module

public import proofs.«01_k».proof.Proof.KernelIdeal.Host

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (m : (ℓ : Loc nD τ sig) → Buf (Elt F) ℓ) (c : Dev nD)

/-- Floor division by 512, as the host computes it. -/
def fd (x : IVec S8 32) : IVec S8 32 :=
  select (andi (cmpi .ne (signi x) (broadcastInDim S8 ![] bcast_S_S8 (signi (constantI S_ 32 512#32))))
      (cmpi .ne (Host.remsi x (broadcastInDim S8 ![] bcast_S_S8 (constantI S_ 32 512#32))) (broadcastInDim S8 ![] bcast_S_S8 (constantI S_ 32 0#32))))
    (subi (Host.divsi x (broadcastInDim S8 ![] bcast_S_S8 (constantI S_ 32 512#32))) (broadcastInDim S8 ![] bcast_S_S8 (constantI S_ 32 1#32)))
    (Host.divsi x (broadcastInDim S8 ![] bcast_S_S8 (constantI S_ 32 512#32)))

/-- Running sums. -/
def csum (x : IVec S8 32) : IVec S8 32 :=
  Host.reduceWindow IntOp.addi ![8] ![1] ![7] ![0] x (broadcastInDim S_ ![] bcast_S_S_ (constantI S_ 32 0#32)) reduceWindows_S8_S8_w8s1p7_0 h_S_

/-- The entries of `x` at the positions `g`, a negative one counted from the end. -/
def gat (x : IVec S8 32) (g : IVec S135 32) : IVec S135 32 :=
  Host.gather gather_S8_S135x1_S135_n_0_n_n_0_1_1 x (broadcastInDim S135x1 ![0] bcast_S135_S135x1_0
    (select (cmpi .slt g (broadcastInDim S135 ![] bcast_S_S135 (constantI S_ 32 0#32))) (addi g (broadcastInDim S135 ![] bcast_S_S135 (constantI S_ 32 8#32))) g))

/-- Between 0 and 512. -/
def clip (x : IVec S135 32) : IVec S135 32 :=
  minsi (broadcastInDim S135 ![] bcast_S_S135 (constantI S_ 32 512#32)) (maxsi (broadcastInDim S135 ![] bcast_S_S135 (constantI S_ 32 0#32)) x)

/-- The last entry of `x`. -/
def last (x : IVec S8 32) : IVec S_ 32 := shapeCast S_ (extractStridedSlice S1 ![7] x slices_S8_S1_7) shapeCasts_S1_S_

set_option maxHeartbeats 800000
/-- The operations after a stretch of the line read what those before it left. -/
theorem V_cut (k : ℕ) (b : Ref sig .tc) :
    V m c b = StableHlo.after (opss.drop k).flatten (StableHlo.after (opss.take k).flatten fun b => m (c, b)) b := by
  have e : ∀ (l₁ l₂ : List (HloOp τ sig (Elt F))) W, StableHlo.after (l₁ ++ l₂) W = StableHlo.after l₂ (StableHlo.after l₁ W) := by
    intro l₁; induction l₁ with
    | nil => intros; rfl
    | cons op l ih => intro l₂ W; exact ih l₂ _
  unfold V; rw [← e, ← List.flatten_append, List.take_append_drop]

theorem V_v0 : V m c main_v0 = csum (V m c main_arg1) := by
  simp only [V_cut m c 0]
  generalize (StableHlo.after _ fun b => m (c, b)) = W
  after_reads_simp
  try simp -implicitDefEqProofs only [StableHlo.TRef.toBuf, StableHlo.TRef.ofBuf, cast_cast, cast_eq, id]
  try rfl
theorem V_v1 : V m c main_v1 = subi (V m c main_v0) (V m c main_arg1) := by
  simp only [V_cut m c 1]
  generalize (StableHlo.after _ fun b => m (c, b)) = W
  after_reads_simp
  try simp -implicitDefEqProofs only [StableHlo.TRef.toBuf, StableHlo.TRef.ofBuf, cast_cast, cast_eq, id]
  try rfl
theorem V_v2 : V m c main_v2 = fd (V m c main_v1) := by
  simp only [V_cut m c 1]
  generalize (StableHlo.after _ fun b => m (c, b)) = W
  after_reads_simp
  try simp -implicitDefEqProofs only [StableHlo.TRef.toBuf, StableHlo.TRef.ofBuf, cast_cast, cast_eq, id]
  try rfl
theorem V_v9 : V m c main_v9 = fd (subi (addi (V m c main_v0) (broadcastInDim S8 ![] bcast_S_S8 (constantI S_ 32 512#32))) (broadcastInDim S8 ![] bcast_S_S8 (constantI S_ 32 1#32))) := by
  simp only [V_cut m c 3]
  generalize (StableHlo.after _ fun b => m (c, b)) = W
  after_reads_simp
  try simp -implicitDefEqProofs only [StableHlo.TRef.toBuf, StableHlo.TRef.ofBuf, cast_cast, cast_eq, id]
  try rfl
theorem V_v11 : V m c main_v11 = select (cmpi .sgt (V m c main_arg1) (broadcastInDim S8 ![] bcast_S_S8 (constantI S_ 32 0#32))) (subi (V m c main_v9) (V m c main_v2)) (broadcastInDim S8 ![] bcast_S_S8 (constantI S_ 32 0#32)) := by
  simp only [V_cut m c 3]
  generalize (StableHlo.after _ fun b => m (c, b)) = W
  after_reads_simp
  try simp -implicitDefEqProofs only [StableHlo.TRef.toBuf, StableHlo.TRef.ofBuf, cast_cast, cast_eq, id]
  try rfl
theorem V_v12 : V m c main_v12 = csum (V m c main_v11) := by
  simp only [V_cut m c 7]
  generalize (StableHlo.after _ fun b => m (c, b)) = W
  after_reads_simp
  try simp -implicitDefEqProofs only [StableHlo.TRef.toBuf, StableHlo.TRef.ofBuf, cast_cast, cast_eq, id]
  try rfl
theorem V_v17 : V m c main_v17 = cmpi .slt (iotaInDim S135 32 0) (broadcastInDim S135 ![] bcast_S_S135 (last (V m c main_v12))) := by
  simp only [V_cut m c 8]
  generalize (StableHlo.after _ fun b => m (c, b)) = W
  after_reads_simp
  try simp -implicitDefEqProofs only [StableHlo.TRef.toBuf, StableHlo.TRef.ofBuf, cast_cast, cast_eq, id]
  try rfl
theorem V_v22 : V m c main_v22 = minsi (iotaInDim S135 32 0) (broadcastInDim S135 ![] bcast_S_S135 (subi (last (V m c main_v12)) (constantI S_ 32 1#32))) := by
  simp only [V_cut m c 8]
  generalize (StableHlo.after _ fun b => m (c, b)) = W
  after_reads_simp
  try simp -implicitDefEqProofs only [StableHlo.TRef.toBuf, StableHlo.TRef.ofBuf, cast_cast, cast_eq, id]
  try rfl
theorem V_v29 : V m c main_v29 = Host.reduce IntOp.addi (extui 32 (cmpi .sge
    (broadcastInDim S135x8 ![0, 1] bcast_S135x1_S135x8_0_1 (broadcastInDim S135x1 ![0] bcast_S135_S135x1_0 (V m c main_v22)))
    (broadcastInDim S135x8 ![0, 1] bcast_S1x8_S135x8_0_1 (broadcastInDim S1x8 ![1] bcast_S8_S1x8_1 (V m c main_v12)))) natLt_1_32)
    (constantI S_ 32 0#32) reducesTo_S135x8_S135_d1 h_S_ := by
  simp only [V_cut m c 8]
  generalize (StableHlo.after _ fun b => m (c, b)) = W
  after_reads_simp
  try simp -implicitDefEqProofs only [StableHlo.TRef.toBuf, StableHlo.TRef.ofBuf, cast_cast, cast_eq, id]
  try rfl
theorem V_v53 : V m c main_v53 = subi (addi (gat (V m c main_v2) (V m c main_v29)) (V m c main_v22))
    (subi (gat (V m c main_v12) (V m c main_v29)) (gat (V m c main_v11) (V m c main_v29))) := by
  simp only [V_cut m c 8]
  generalize (StableHlo.after _ fun b => m (c, b)) = W
  after_reads_simp
  try simp -implicitDefEqProofs only [StableHlo.TRef.toBuf, StableHlo.TRef.ofBuf, cast_cast, cast_eq, id]
  try rfl
theorem V_v63 : V m c main_v63 = subi (gat (V m c main_v1) (V m c main_v29)) (muli (V m c main_v53) (broadcastInDim S135 ![] bcast_S_S135 (constantI S_ 32 512#32))) := by
  simp only [V_cut m c 8]
  generalize (StableHlo.after _ fun b => m (c, b)) = W
  after_reads_simp
  try simp -implicitDefEqProofs only [StableHlo.TRef.toBuf, StableHlo.TRef.ofBuf, cast_cast, cast_eq, id]
  try rfl
theorem V_v64 : V m c main_v64 = clip (V m c main_v63) := by
  simp only [V_cut m c 8]
  generalize (StableHlo.after _ fun b => m (c, b)) = W
  after_reads_simp
  try simp -implicitDefEqProofs only [StableHlo.TRef.toBuf, StableHlo.TRef.ofBuf, cast_cast, cast_eq, id]
  try rfl
theorem V_v74 : V m c main_v74 = subi (gat (V m c main_v0) (V m c main_v29)) (muli (V m c main_v53) (broadcastInDim S135 ![] bcast_S_S135 (constantI S_ 32 512#32))) := by
  simp only [V_cut m c 10]
  generalize (StableHlo.after _ fun b => m (c, b)) = W
  after_reads_simp
  try simp -implicitDefEqProofs only [StableHlo.TRef.toBuf, StableHlo.TRef.ofBuf, cast_cast, cast_eq, id]
  try rfl
theorem V_v76 : V m c main_v76 = select (V m c main_v17) (clip (V m c main_v74)) (broadcastInDim S135 ![] bcast_S_S135 (constantI S_ 32 0#32)) := by
  simp only [V_cut m c 10]
  generalize (StableHlo.after _ fun b => m (c, b)) = W
  after_reads_simp
  try simp -implicitDefEqProofs only [StableHlo.TRef.toBuf, StableHlo.TRef.ofBuf, cast_cast, cast_eq, id]
  try rfl

end Cert.KernelIdeal.Hand
-- ==== Proof.KernelIdeal.Tables.lean ====
/- The visit tables' entries as natural numbers, from the sizes of the groups. -/
module

public import proofs.«01_k».proof.Proof.KernelIdeal.Reads
public import proofs.«01_k».proof.Proof.Visits
public import proofs.«01_k».proof.Proof.Words

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.Routing Idealize.ShloMosaic.ValueIdx Cert.Visits

variable (m : (ℓ : Loc nD τ sig) → Buf (Elt F) ℓ) (c : Dev nD)

/-! The buffers, as arrays of words. -/
def x_arg1 : IVec S8 32 := V m c main_arg1
def x_v0 : IVec S8 32 := V m c main_v0
def x_v1 : IVec S8 32 := V m c main_v1
def x_v2 : IVec S8 32 := V m c main_v2
def x_v9 : IVec S8 32 := V m c main_v9
def x_v11 : IVec S8 32 := V m c main_v11
def x_v12 : IVec S8 32 := V m c main_v12
def x_v17 : IVec S135 1 := V m c main_v17
def x_v22 : IVec S135 32 := V m c main_v22
def x_v29 : IVec S135 32 := V m c main_v29
def x_v53 : IVec S135 32 := V m c main_v53
def x_v63 : IVec S135 32 := V m c main_v63
def x_v64 : IVec S135 32 := V m c main_v64
def x_v74 : IVec S135 32 := V m c main_v74
def x_v76 : IVec S135 32 := V m c main_v76

theorem X_v0 : x_v0 m c = csum (x_arg1 m c) := V_v0 m c
theorem X_v1 : x_v1 m c = subi (x_v0 m c) (x_arg1 m c) := V_v1 m c
theorem X_v2 : x_v2 m c = fd (x_v1 m c) := V_v2 m c
theorem X_v9 : x_v9 m c = fd (subi (addi (x_v0 m c) (broadcastInDim S8 ![] bcast_S_S8 (constantI S_ 32 512#32))) (broadcastInDim S8 ![] bcast_S_S8 (constantI S_ 32 1#32))) := V_v9 m c
theorem X_v11 : x_v11 m c = select (cmpi .sgt (x_arg1 m c) (broadcastInDim S8 ![] bcast_S_S8 (constantI S_ 32 0#32))) (subi (x_v9 m c) (x_v2 m c)) (broadcastInDim S8 ![] bcast_S_S8 (constantI S_ 32 0#32)) := V_v11 m c
theorem X_v12 : x_v12 m c = csum (x_v11 m c) := V_v12 m c
theorem X_v17 : x_v17 m c = cmpi .slt (iotaInDim S135 32 0) (broadcastInDim S135 ![] bcast_S_S135 (last (x_v12 m c))) := V_v17 m c
theorem X_v22 : x_v22 m c = minsi (iotaInDim S135 32 0) (broadcastInDim S135 ![] bcast_S_S135 (subi (last (x_v12 m c)) (constantI S_ 32 1#32))) := V_v22 m c
theorem X_v29 : x_v29 m c = Host.reduce IntOp.addi (extui 32 (cmpi .sge
    (broadcastInDim S135x8 ![0, 1] bcast_S135x1_S135x8_0_1 (broadcastInDim S135x1 ![0] bcast_S135_S135x1_0 (x_v22 m c)))
    (broadcastInDim S135x8 ![0, 1] bcast_S1x8_S135x8_0_1 (broadcastInDim S1x8 ![1] bcast_S8_S1x8_1 (x_v12 m c)))) natLt_1_32)
    (constantI S_ 32 0#32) reducesTo_S135x8_S135_d1 h_S_ := V_v29 m c
theorem X_v53 : x_v53 m c = subi (addi (gat (x_v2 m c) (x_v29 m c)) (x_v22 m c))
    (subi (gat (x_v12 m c) (x_v29 m c)) (gat (x_v11 m c) (x_v29 m c))) := V_v53 m c
theorem X_v63 : x_v63 m c = subi (gat (x_v1 m c) (x_v29 m c)) (muli (x_v53 m c) (broadcastInDim S135 ![] bcast_S_S135 (constantI S_ 32 512#32))) := V_v63 m c
theorem X_v64 : x_v64 m c = clip (x_v63 m c) := V_v64 m c
theorem X_v74 : x_v74 m c = subi (gat (x_v0 m c) (x_v29 m c)) (muli (x_v53 m c) (broadcastInDim S135 ![] bcast_S_S135 (constantI S_ 32 512#32))) := V_v74 m c
theorem X_v76 : x_v76 m c = select (x_v17 m c) (clip (x_v74 m c)) (broadcastInDim S135 ![] bcast_S_S135 (constantI S_ 32 0#32)) := V_v76 m c

/-- The size of group `k`. -/
def sz (k : ℕ) : ℕ := if h : k < 8 then ((m ((c : Thread nD τ).loc main_arg1) : IVec S8 32) (ix1 ⟨k, h⟩)).toNat else 0

theorem at_arg1 (k : Fin 8) : x_arg1 m c (ix1 k) = BitVec.ofNat 32 (sz m c k.val) := by
  rw [show x_arg1 m c = _ from V_main_arg1 m c]; unfold sz; rw [dif_pos k.isLt]; exact ((BitVec.ofNat_toNat 32 _).trans (BitVec.setWidth_eq _)).symm

section
variable (h1 : 1 ≤ E (sz m c) 7) (h2 : E (sz m c) 7 ≤ 65536)
include h2

theorem E_le (k : ℕ) (hk : k < 8) : E (sz m c) k ≤ 65536 := (E_mono _ (show k ≤ 7 by omega)).trans h2

omit h2 in
theorem at_v0 (k : Fin 8) : x_v0 m c (ix1 k) = BitVec.ofNat 32 (E (sz m c) k.val) := by
  rw [X_v0]
  exact cumsum1 (Nm1 := 7) rfl _ (sz m c) (at_arg1 m c) _ (bc0 _ _ _) _ _ k

omit h2 in
theorem at_v1 (k : Fin 8) : x_v1 m c (ix1 k) = BitVec.ofNat 32 (St (sz m c) k.val) := by
  rw [X_v1]
  refine (congrArg₂ _ (at_v0 m c k) (at_arg1 m c k)).trans ?_
  exact Cert.Words.sub_ofNat (le_E _ _)

theorem at_v2 (k : Fin 8) : x_v2 m c (ix1 k) = BitVec.ofNat 32 (St (sz m c) k.val / 512) := by
  rw [X_v2]
  have := E_le m c h2 k.val k.isLt
  have := St_add (sz m c) k.val
  exact pyDiv_ap bcast_S_S8 _ (constantI S_ 32 512#32) (ix1 k) (at_v1 m c k) rfl (by omega) (by omega) (by omega)

theorem at_v9 (k : Fin 8) : x_v9 m c (ix1 k) = BitVec.ofNat 32 ((E (sz m c) k.val + 511) / 512) := by
  rw [X_v9]
  have := E_le m c h2 k.val k.isLt
  refine pyDiv_ap bcast_S_S8 _ (constantI S_ 32 512#32) (ix1 k) ?_ rfl (a := E (sz m c) k.val + 511) (by omega) (by omega) (by omega)
  refine (congrArg (· + 512#32 - 1#32) (at_v0 m c k)).trans ?_
  show BitVec.ofNat 32 _ + BitVec.ofNat 32 512 - BitVec.ofNat 32 1 = _
  rw [← BitVec.ofNat_add, Cert.Words.sub_ofNat (by omega)]
  rfl

theorem at_v11 (k : Fin 8) : x_v11 m c (ix1 k) = BitVec.ofNat 32 (C (sz m c) k.val) := by
  rw [X_v11]
  have hE := E_le m c h2 k.val k.isLt
  have hS := St_add (sz m c) k.val
  show (if IntOp.cmpi .sgt (x_arg1 m c (ix1 k)) 0#32 = 1 then x_v9 m c (ix1 k) - x_v2 m c (ix1 k) else 0#32) = _
  rw [at_arg1, at_v9 m c h2, at_v2 m c h2, Cert.Words.sub_ofNat (by omega)]
  unfold C
  by_cases h : 0 < sz m c k.val
  · rw [if_pos h, if_pos]; exact (WordCmp.cmpi_sgt_ofNat_eq_one_iff (w := 32) (by omega) (b := 0) (by omega)).2 h
  · rw [if_neg h, if_neg]; exact fun e => h ((WordCmp.cmpi_sgt_ofNat_eq_one_iff (w := 32) (by omega) (b := 0) (by omega)).1 e)

theorem at_v12 (k : Fin 8) : x_v12 m c (ix1 k) = BitVec.ofNat 32 (N (sz m c) k.val) := by
  rw [X_v12]
  exact cumsum1 (Nm1 := 7) rfl _ (C (sz m c)) (at_v11 m c h2) _ (bc0 _ _ _) _ _ k

theorem at_last : last (x_v12 m c) ValueIdx.ix0 = BitVec.ofNat 32 (T (sz m c)) := by
  refine Eq.trans ?_ (at_v12 m c h2 ⟨7, by omega⟩)
  refine Eq.trans ?_ (slice1 (m := 8) (n := 1) 7 (x_v12 m c) slices_S8_S1_7 (0 : Fin 1) (by decide))
  unfold last shapeCast
  exact congrArg _ (funext fun a => by match a with | ⟨0, _⟩ => exact Subsingleton.elim (α := Fin 1) _ _)

include h1

theorem N_lt (k : ℕ) (hk : k < 8) : N (sz m c) k ≤ 135 := (N_mono _ (show k ≤ 7 by omega)).trans (T_le _ h1 h2)

omit h1 in
theorem at_v17 (h1 : 1 ≤ E (sz m c) 7) (p : Fin 135) : x_v17 m c (ix1 p) = 1#1 ↔ p.val < T (sz m c) := by
  rw [X_v17]
  have e : broadcastInDim S135 ![] bcast_S_S135 (last (x_v12 m c)) (ix1 p) = BitVec.ofNat 32 (T (sz m c)) := (bc0 _ _ _).trans (at_last m c h2)
  show IntOp.cmpi .slt (BitVec.ofNat 32 p.val) _ = 1#1 ↔ _
  rw [e]
  have := T_le _ h1 h2
  exact WordCmp.cmpi_slt_ofNat_eq_one_iff (w := 32) (by omega) (by omega)

theorem at_v22 (p : Fin 135) : x_v22 m c (ix1 p) = BitVec.ofNat 32 (vc (sz m c) p.val) := by
  rw [X_v22]
  have e : broadcastInDim S135 ![] bcast_S_S135 (subi (last (x_v12 m c)) (constantI S_ 32 1#32)) (ix1 p) = BitVec.ofNat 32 (T (sz m c) - 1) := by
    refine (bc0 _ _ _).trans ((congrArg (· - 1#32) (at_last m c h2)).trans ?_)
    exact Cert.Words.sub_ofNat (b := 1) (T_pos _ h1)
  show IntOp.minsi (BitVec.ofNat 32 p.val) _ = _
  rw [e]
  have := T_le _ h1 h2
  exact Cert.Words.minsi_ofNat (by omega) (by omega)

theorem at_v29 (p : Fin 135) : x_v29 m c (ix1 p) = BitVec.ofNat 32 (grp (sz m c) p.val) := by
  rw [X_v29]
  refine reduce_count (by omega) _ natLt_1_32 _ _ p (fun q => N (sz m c) q ≤ vc (sz m c) p.val) fun q => ?_
  show IntOp.cmpi .sge (broadcastInDim S135x8 ![0, 1] bcast_S135x1_S135x8_0_1 (broadcastInDim S135x1 ![0] bcast_S135_S135x1_0 (x_v22 m c)) (ix2 p q))
    (broadcastInDim S135x8 ![0, 1] bcast_S1x8_S135x8_0_1 (broadcastInDim S1x8 ![1] bcast_S8_S1x8_1 (x_v12 m c)) (ix2 p q)) = 1#1 ↔ _
  rw [show broadcastInDim S135x8 ![0, 1] bcast_S135x1_S135x8_0_1 (broadcastInDim S135x1 ![0] bcast_S135_S135x1_0 (x_v22 m c)) (ix2 p q) = _ from (bcRows _ _ _ p q).trans (at_v22 m c h1 h2 p),
    show broadcastInDim S135x8 ![0, 1] bcast_S1x8_S135x8_0_1 (broadcastInDim S1x8 ![1] bcast_S8_S1x8_1 (x_v12 m c)) (ix2 p q) = _ from (bcCols _ _ _ p q).trans (at_v12 m c h2 q)]
  have := T_le _ h1 h2
  have := vc_lt _ h1 p.val
  have := N_lt m c h1 h2 q.val q.isLt
  exact WordCmp.cmpi_sge_ofNat_eq_one_iff (w := 32) (by omega) (by omega)

omit h1 h2 in
/-- An entry gathered at an index that is known. -/
theorem gat_at (x : IVec S8 32) (f : ℕ → ℕ) (hx : ∀ k : Fin 8, x (ix1 k) = BitVec.ofNat 32 (f k.val)) (y : IVec S135 32) (p : Fin 135)
    {g : ℕ} (hg : g < 8) (hy : y (ix1 p) = BitVec.ofNat 32 g) : gat x y (ix1 p) = BitVec.ofNat 32 (f g) := by
  unfold gat
  refine (Cert.Words.gather1 (n := 8) (by decide) gather_S8_S135x1_S135_n_0_n_n_0_1_1 rfl rfl rfl rfl rfl rfl rfl x _ p).trans ?_
  have e : ∀ y : IVec S135 32, broadcastInDim S135x1 ![0] bcast_S135_S135x1_0 y (ix2 p (0 : Fin 1)) = y (ix1 p) := fun y => bcCol _ _ p
  have ei : (select (cmpi .slt y (broadcastInDim S135 ![] bcast_S_S135 (constantI S_ 32 0#32)))
      (addi y (broadcastInDim S135 ![] bcast_S_S135 (constantI S_ 32 8#32))) y) (ix1 p) = BitVec.ofNat 32 g := by
    show (if IntOp.cmpi .slt (y (ix1 p)) 0#32 = 1 then _ else y (ix1 p)) = _
    rw [hy]
    exact if_neg fun e => absurd ((WordCmp.cmpi_slt_ofNat_eq_one_iff (w := 32) (by omega) (b := 0) (by omega)).1 e) (by omega)
  refine Eq.trans (congrArg x (congrArg ix1 (Fin.ext ?_))) (hx ⟨g, hg⟩)
  refine (congrArg (fun w : BitVec 32 => min w.toInt.toNat (8 - 1)) ((e _).trans ei)).trans ?_
  show min (BitVec.toInt (BitVec.ofNat 32 g)).toNat (8 - 1) = g
  rw [Cert.Words.toInt_ofNat (by omega)]
  show min g 7 = g
  omega

theorem at_gat (x : IVec S8 32) (f : ℕ → ℕ) (hx : ∀ k : Fin 8, x (ix1 k) = BitVec.ofNat 32 (f k.val)) (p : Fin 135) :
    gat x (x_v29 m c) (ix1 p) = BitVec.ofNat 32 (f (grp (sz m c) p.val)) :=
  gat_at x f hx _ p (grp_spec _ h1 p.val).1 (at_v29 m c h1 h2 p)

theorem at_v53 (p : Fin 135) : x_v53 m c (ix1 p) = BitVec.ofNat 32 (tile (sz m c) p.val) := by
  rw [X_v53]
  show gat (x_v2 m c) (x_v29 m c) (ix1 p) + x_v22 m c (ix1 p) - (gat (x_v12 m c) (x_v29 m c) (ix1 p) - gat (x_v11 m c) (x_v29 m c) (ix1 p)) = _
  have hN : N (sz m c) (grp (sz m c) p.val) - C (sz m c) (grp (sz m c) p.val) ≤ _ := grp_start _ h1 p.val
  rw [at_gat m c h1 h2 _ (fun k => St (sz m c) k / 512) (at_v2 m c h2), at_gat m c h1 h2 _ (N (sz m c)) (at_v12 m c h2),
    at_gat m c h1 h2 _ (C (sz m c)) (at_v11 m c h2), at_v22 m c h1 h2, Cert.Words.sub_ofNat (C_le_N _ h1 _), ← BitVec.ofNat_add,
    Cert.Words.sub_ofNat (by omega)]
  rfl

omit h1 h2 in
theorem at_clip (x : IVec S135 32) (p : Fin 135) {a b : ℕ} (hx : x (ix1 p) = BitVec.ofNat 32 a - BitVec.ofNat 32 b) (ha : a < 2 ^ 30) (hb : b < 2 ^ 30) :
    clip x (ix1 p) = BitVec.ofNat 32 (min 512 (a - b)) := by
  show IntOp.minsi 512#32 (IntOp.maxsi 0#32 (x (ix1 p))) = _
  rw [hx]; exact Cert.Words.clip_ofNat ha hb

theorem at_v64 (p : Fin 135) : x_v64 m c (ix1 p) = BitVec.ofNat 32 (lo (sz m c) p.val) := by
  rw [X_v64]
  have ht := tile_lt _ h1 h2 p.val
  have hg := (grp_spec _ h1 p.val).1
  have hE := E_le m c h2 _ hg
  have hS := St_add (sz m c) (grp (sz m c) p.val)
  refine at_clip _ p ?_ (a := St (sz m c) (grp (sz m c) p.val)) (b := tile (sz m c) p.val * 512) (by omega) (by omega)
  rw [X_v63]
  show gat (x_v1 m c) (x_v29 m c) (ix1 p) - x_v53 m c (ix1 p) * BitVec.ofNat 32 512 = _
  rw [at_gat m c h1 h2 _ (St (sz m c)) (at_v1 m c), at_v53 m c h1 h2, ← BitVec.ofNat_mul]

theorem at_v76 (p : Fin 135) : x_v76 m c (ix1 p) = BitVec.ofNat 32 (hi (sz m c) p.val) := by
  rw [X_v76]
  have ht := tile_lt _ h1 h2 p.val
  have hg := (grp_spec _ h1 p.val).1
  have hE := E_le m c h2 _ hg
  have e : clip (x_v74 m c) (ix1 p) = BitVec.ofNat 32 (min 512 (E (sz m c) (grp (sz m c) p.val) - tile (sz m c) p.val * 512)) := by
    refine at_clip _ p ?_ (by omega) (by omega)
    rw [X_v74]
    show gat (x_v0 m c) (x_v29 m c) (ix1 p) - x_v53 m c (ix1 p) * BitVec.ofNat 32 512 = _
    rw [at_gat m c h1 h2 _ (E (sz m c)) (at_v0 m c), at_v53 m c h1 h2, ← BitVec.ofNat_mul]
  show (if x_v17 m c (ix1 p) = 1 then clip (x_v74 m c) (ix1 p) else 0#32) = _
  rw [e]
  unfold hi
  by_cases h : p.val < T (sz m c)
  · rw [if_pos h, if_pos]; exact (at_v17 m c h2 h1 p).2 h
  · rw [if_neg h, if_neg]; exact fun e => h ((at_v17 m c h2 h1 p).1 e)
end

end Cert.KernelIdeal.Hand
-- ==== Proof.KernelIdeal.Okay.lean ====
/- The call's side condition holds: every tile and every group in the tables is one of the array's. -/
module

public import proofs.«01_k».proof.Proof.KernelIdeal.Setup
public import proofs.«01_k».proof.Proof.KernelIdeal.Tables

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Cert.Visits

variable (m : (ℓ : Loc nD τ sig) → Buf (Elt F) ℓ)

theorem off_val (i : grid0.Coords) : k0_off1 i 0 = (i 0).val := by
  have h : (i 0).val < 135 := (i 0).isLt
  show (Scalar.indexCast (BitVec.ofNat 32 (i 0).val)).toNat = _
  unfold Scalar.indexCast
  simp
  omega

/-- A coordinate of the grid, as a position in the tables. -/
abbrev pos (i : grid0.Coords) : Fin 135 := ⟨(i 0).val, (i 0).isLt⟩

/-- The entry of a table that a block's index map reads. -/
theorem entry (X : IVec S135 32) (i : grid0.Coords) :
    X ((Rect.unit (s := S135) (k0_off1 i) S1.size (k0_off1_inb i)).emb (Shape.Idx.first (numel1_S1.symm ▸ Nat.one_pos))) = X (ix1 (pos i)) := by
  refine congrArg X (funext fun a => Fin.ext ?_)
  match a with
  | ⟨0, _⟩ =>
    show k0_off1 i 0 + 1 * 0 = (i 0).val
    rw [off_val, Nat.mul_zero, Nat.add_zero]

theorem tr0 (i : grid0.Coords) : cc0_transform_0 k0_off1_inb numel1_S1 (tbl m) i = ![(x_v53 m 0 (ix1 (pos i))).toNat, 0] := by
  unfold cc0_transform_0
  exact congrArg (fun w : BitVec 32 => (![w.toNat, 0] : Fin 2 → ℕ)) (entry (x_v53 m 0) i)
theorem tr1 (i : grid0.Coords) : cc0_transform_1 k0_off1_inb numel1_S1 (tbl m) i = ![(x_v29 m 0 (ix1 (pos i))).toNat, 0, 0] := by
  unfold cc0_transform_1
  exact congrArg (fun w : BitVec 32 => (![w.toNat, 0, 0] : Fin 3 → ℕ)) (entry (x_v29 m 0) i)
theorem tr2 (i : grid0.Coords) : cc0_transform_2 k0_off1_inb numel1_S1 (tbl m) i = ![(x_v29 m 0 (ix1 (pos i))).toNat, 0, 0] := by
  unfold cc0_transform_2
  exact congrArg (fun w : BitVec 32 => (![w.toNat, 0, 0] : Fin 3 → ℕ)) (entry (x_v29 m 0) i)
theorem tr3 (i : grid0.Coords) : cc0_transform_3 k0_off1_inb numel1_S1 (tbl m) i = ![(x_v53 m 0 (ix1 (pos i))).toNat, 0] := by
  unfold cc0_transform_3
  exact congrArg (fun w : BitVec 32 => (![w.toNat, 0] : Fin 2 → ℕ)) (entry (x_v53 m 0) i)

section
variable (h1 : 1 ≤ E (sz m 0) 7) (h2 : E (sz m 0) 7 ≤ 65536)
include h1 h2

theorem tile_nat (p : Fin 135) : (x_v53 m 0 (ix1 p)).toNat = tile (sz m 0) p.val := by
  have := tile_lt _ h1 h2 p.val
  rw [at_v53 m 0 h1 h2, BitVec.toNat_ofNat, Nat.mod_eq_of_lt (by omega)]
theorem grp_nat (p : Fin 135) : (x_v29 m 0 (ix1 p)).toNat = grp (sz m 0) p.val := by
  have := (grp_spec _ h1 p.val).1
  rw [at_v29 m 0 h1 h2, BitVec.toNat_ofNat, Nat.mod_eq_of_lt (by omega)]

theorem ok_of : Ok m := by
  have ht := fun p : Fin 135 => tile_lt _ h1 h2 p.val
  have hg := fun p : Fin 135 => (grp_spec _ h1 p.val).1
  refine ⟨fun i => ?_, fun i => ?_, fun i => ?_, fun i => ?_⟩
  · refine ⟨?_, .inr (.inl (.inr ⟨by decide, rfl, .inl ⟨?_, ?_⟩⟩))⟩
    · rw [tr0, tile_nat m h1 h2]
      intro a
      have := ht (pos i)
      match a with
      | ⟨0, _⟩ => show (tile _ _ + 1) * 512 ≤ 65536; omega
      | ⟨1, _⟩ => show (0 + 1) * 2048 ≤ 2048; omega
    · exact Dvd.dvd.mul_left (show 2 ∣ 512 by decide) _
    · show 2 ∣ 512; decide
  · refine ⟨?_, .inr (.inr ⟨by decide, rfl, ?_, rfl⟩)⟩
    · rw [tr1, grp_nat m h1 h2]
      intro a
      have := hg (pos i)
      match a with
      | ⟨0, _⟩ => show (grp _ _ + 1) * 1 ≤ 8; omega
      | ⟨1, _⟩ => show (0 + 1) * 2816 ≤ 2816; omega
      | ⟨2, _⟩ => show (0 + 1) * 2048 ≤ 2048; omega
    · show cc0_transform_1 k0_off1_inb numel1_S1 (tbl m) i 1 * 2816 = 0
      rw [tr1]; rfl
  · refine ⟨?_, .inr (.inr ⟨by decide, rfl, ?_, rfl⟩)⟩
    · rw [tr2, grp_nat m h1 h2]
      intro a
      have := hg (pos i)
      match a with
      | ⟨0, _⟩ => show (grp _ _ + 1) * 1 ≤ 8; omega
      | ⟨1, _⟩ => show (0 + 1) * 2816 ≤ 2816; omega
      | ⟨2, _⟩ => show (0 + 1) * 64 ≤ 64; omega
    · show cc0_transform_2 k0_off1_inb numel1_S1 (tbl m) i 1 * 2816 = 0
      rw [tr2]; rfl
  · refine ⟨?_, .inr (.inl (.inr ⟨by decide, rfl, .inl ⟨?_, ?_⟩⟩))⟩
    · rw [tr3, tile_nat m h1 h2]
      intro a
      have := ht (pos i)
      match a with
      | ⟨0, _⟩ => show (tile _ _ + 1) * 512 ≤ 65536; omega
      | ⟨1, _⟩ => show (0 + 1) * 2816 ≤ 2816; omega
    · exact Dvd.dvd.mul_left (show 2 ∣ 512 by decide) _
    · show 2 ∣ 512; decide
end

end Cert.KernelIdeal.Hand
-- ==== Proof.KernelIdeal.Frame.lean ====
/- The frame of the program: it terminates without a fault, its arguments end unchanged and every
   semaphore counter is back at zero, whenever the tables place every block inside its array. Nothing
   is stated here of what the output holds. -/
module

public import proofs.«01_k».proof.Proof.KernelIdeal.Setup
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

/-- The window of which nothing is stated: the output. -/
def forgets : Fin 4 → Bool := fun w => w.val == 3

/-- The arrays as the call finds them; each input's buffer at its block after every point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem before_0 (hO : Ok m) (c : Dev nD) (t : Fin (cfgM m hO).N) (d) : (dats m hO 0 c).before 0 t d = iblk m hO c 0 t :=
  before_0_of m hO (dats m hO 0 c) (A_eq m hO c 0) (after_0 m hO c) t d
theorem before_1 (hO : Ok m) (c : Dev nD) (t : Fin (cfgM m hO).N) (d) : (dats m hO 0 c).before 1 t d = iblk m hO c 1 t :=
  before_1_of m hO (dats m hO 0 c) (A_eq m hO c 1) (after_1 m hO c) t d
theorem before_2 (hO : Ok m) (c : Dev nD) (t : Fin (cfgM m hO).N) (d) : (dats m hO 0 c).before 2 t d = iblk m hO c 2 t :=
  before_2_of m hO (dats m hO 0 c) (A_eq m hO c 2) (after_2 m hO c) t d

section
variable (c : Dev nD) (i : grid0.Coords) (arg1 : Memref sig .tc .smem S135 .i32) (harg1 : arg1.IsWhole) (arg2 : Memref sig .tc .smem S135 .i32) (harg2 : arg2.IsWhole) (arg3 : Memref sig .tc .smem S135 .i32) (harg3 : arg3.IsWhole) (arg4 : Memref sig .tc .smem S135 .i32) (harg4 : arg4.IsWhole) (arg5 : Memref sig .tc .vmem S512x2048 .bf16) (harg5 : arg5.IsWhole) (arg6 : Memref sig .tc .vmem S1x2816x2048 .fp8e4m3) (harg6 : arg6.IsWhole) (arg7 : Memref sig .tc .vmem S1x2816x64 .i8) (harg7 : arg7.IsWhole) (arg8 : Memref sig .tc .vmem S512x2816 .bf16) (harg8 : arg8.IsWhole) (arg9 : Memref sig .tc .vmem S2816x2048 .bf16) (harg9 : arg9.IsWhole) (arg10 : Memref sig .tc .vmem S512x2048 .bf16) (harg10 : arg10.IsWhole) (v3 v5 : BitVec 32) (x5 : Vec F S512x2048 .bf16)

/-- The tail keeps the activations' block and leaves the output's buffer and the two scratch buffers at some contents. -/
theorem tail_any (E : Set ℕ) (K : PUnit → sProp 𝕄) :
    iprop((arg5.view.loc (c : Thread nD τ) ↦[arg5.view.set]{fullShare} harg5.unread x5)
        ∗ (∃ d, owns (c : Thread nD τ) arg8 fullShare d) ∗ (∃ d, owns (c : Thread nD τ) arg9 fullShare d) ∗ (∃ d, owns (c : Thread nD τ) arg10 fullShare d)
        ∗ (iprop((arg5.view.loc (c : Thread nD τ) ↦[arg5.view.set]{fullShare} harg5.unread x5)
            ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (tail i arg1 harg1 arg2 harg2 arg3 harg3 arg4 harg4 arg5 harg5 arg6 harg6 arg7 harg7 arg8 harg8 arg9 harg9 arg10 harg10 v3 v5) K := by
  unfold owns
  iintro ⟨H5, ⟨%d8, %f8, -, H8⟩, ⟨%d9, %f9, -, H9⟩, ⟨%d10, %f10, -, H10⟩, Hk⟩
  by_cases h2 : k0_cond2 v3 v5 = 1#1
  · by_cases h3 : k0_cond3 v3 v5 = 1#1
    · iapply ((tailRun_full c i arg1 harg1 arg2 harg2 arg3 harg3 arg4 harg4 arg5 harg5 arg6 harg6 arg7 harg7 arg8 harg8 arg9 harg9 arg10 harg10 v3 v5 h2 h3 (fun h => (cond4_iff v3 v5).mp h h3) x5 f9 f10).2.2 E f8 K)
      isplitl [H5]; · iexact H5
      isplitl [H8]; · iexact H8
      isplitl [H9]; · iexact H9
      isplitl [H10]; · iexact H10
      iintro ⟨H5, H8, H9, H10⟩
      iapply Hk
      isplitl [H5]; · iexact H5
      isplitl [H8]
      · iexists _, _; isplitr; swap; · iexact H8
        ipureintro; rfl
      isplitl [H9]
      · iexists _, _; isplitr; swap; · iexact H9
        ipureintro; rfl
      iexists _, _; isplitr; swap; · iexact H10
      ipureintro; rfl
    · iapply ((tailRun_masked c i arg1 harg1 arg2 harg2 arg3 harg3 arg4 harg4 arg5 harg5 arg6 harg6 arg7 harg7 arg8 harg8 arg9 harg9 arg10 harg10 v3 v5 h2 h3 ((cond4_iff v3 v5).mpr h3) x5 f8 f9 f10).2.2 E K)
      isplitl [H5]; · iexact H5
      isplitl [H8]; · iexact H8
      isplitl [H9]; · iexact H9
      isplitl [H10]; · iexact H10
      iintro ⟨H5, H8, H9, H10⟩
      iapply Hk
      isplitl [H5]; · iexact H5
      isplitl [H8]
      · iexists _, _; isplitr; swap; · iexact H8
        ipureintro; rfl
      isplitl [H9]
      · iexists _, _; isplitr; swap; · iexact H9
        ipureintro; rfl
      iexists _, _; isplitr; swap; · iexact H10
      ipureintro; rfl
  · rw [tail_dead i arg1 harg1 arg2 harg2 arg3 harg3 arg4 harg4 arg5 harg5 arg6 harg6 arg7 harg7 arg8 harg8 arg9 harg9 arg10 harg10 v3 v5 h2]
    sl_step
    iapply Hk
    isplitl [H5]; · iexact H5
    isplitl [H8]
    · iexists _, _; isplitr; swap; · iexact H8
      ipureintro; rfl
    isplitl [H9]
    · iexists _, _; isplitr; swap; · iexact H9
      ipureintro; rfl
    iexists _, _; isplitr; swap; · iexact H10
    ipureintro; rfl
end

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare d))

def bodyPost (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ (∃ d, owns (c : Thread nD τ) (ms_3 m hO t) fullShare d))

set_option maxHeartbeats 3200000 in
/-- The body at any point, from the blocks in place to the blocks in place. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost
  simp only [before_0, before_1, before_2]
  rw [show (dats m hO 0 c).owesAt () t.succ = (dats m hO 0 c).owesAt () t.castSucc from rfl,
    after_0, after_1, after_2]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiT_eq, PhiA_eq]
  iintro ⟨⟨⟨⟨HS0, HS1⟩, Hg⟩, HT0, HT1, HT2, HT3⟩, Ho, ⟨%d0, H0⟩, ⟨%d1, H1⟩, ⟨%d2, H2⟩, H3⟩
  generalize iblk m hO c 0 t = x0
  generalize iblk m hO c 1 t = x1
  generalize iblk m hO c 2 t = x2
  unfold owns
  icases H0 with ⟨%f0, %hf0, H0⟩
  icases H1 with ⟨%f1, %hf1, H1⟩
  icases H2 with ⟨%f2, %hf2, H2⟩
  icases HS0 with ⟨%e0, %g0, -, HS0⟩
  obtain rfl := (hs_0 m hO t).eq_unread hf0
  by_cases hR : condR (grid0.coords t) (word tM1 (tbl m 1) (k0_off1 (grid0.coords t)) (k0_off1_inb (grid0.coords t))) (word tM1 (tbl m 1) (k0_off2 (grid0.coords t)) (k0_off2_inb (grid0.coords t)))
  · iapply (body_rebuild c (grid0.coords t) tM0 _ tM1 _ tM2 _ tM3 _ (ms_0 m hO t) _ (ms_1 m hO t) _ (ms_2 m hO t) _ (ms_3 m hO t) _ sM0 _ sM1 _ (tbl m 1) (tbl m 2) (tbl m 3) f1 f2 g0 hR Set.univ _)
    isplitl [HT1]; · iexact HT1
    isplitl [HT2]; · iexact HT2
    isplitl [HT3]; · iexact HT3
    isplitl [H1]; · iexact H1
    isplitl [H2]; · iexact H2
    isplitl [HS0]; · iexact HS0
    iintro ⟨HT1, HT2, HT3, H1, H2, HS0⟩
    iapply (tail_any c (grid0.coords t) tM0 _ tM1 _ tM2 _ tM3 _ (ms_0 m hO t) _ (ms_1 m hO t) _ (ms_2 m hO t) _ (ms_3 m hO t) _ sM0 _ sM1 _ _ _ x0 Set.univ _)
    isplitl [H0]; · iexact H0
    unfold owns
    isplitl [H3]; · iexact H3
    isplitl [HS0]
    · iexists _, _; isplitr; swap; · iexact HS0
      ipureintro; rfl
    isplitl [HS1]; · iexact HS1
    iintro ⟨H0, H3, HS0, HS1⟩
    isplitl [HS0 HS1 Hg HT0 HT1 HT2 HT3]
    · isplitl [HS0 HS1 Hg]
      · isplitl [HS0 HS1]
        · isplitl [HS0]; · iexact HS0
          iexact HS1
        iexact Hg
      isplitl [HT0]; · iexact HT0
      isplitl [HT1]; · iexact HT1
      isplitl [HT2]; · iexact HT2
      iexact HT3
    isplitl [Ho]; · iexact Ho
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    iexact H3
  · iapply (body_keep c (grid0.coords t) tM0 _ tM1 _ tM2 _ tM3 _ (ms_0 m hO t) _ (ms_1 m hO t) _ (ms_2 m hO t) _ (ms_3 m hO t) _ sM0 _ sM1 _ (tbl m 1) (tbl m 2) (tbl m 3) hR Set.univ _)
    isplitl [HT1]; · iexact HT1
    isplitl [HT2]; · iexact HT2
    isplitl [HT3]; · iexact HT3
    iintro ⟨HT1, HT2, HT3⟩
    iapply (tail_any c (grid0.coords t) tM0 _ tM1 _ tM2 _ tM3 _ (ms_0 m hO t) _ (ms_1 m hO t) _ (ms_2 m hO t) _ (ms_3 m hO t) _ sM0 _ sM1 _ _ _ x0 Set.univ _)
    isplitl [H0]; · iexact H0
    unfold owns
    isplitl [H3]; · iexact H3
    isplitl [HS0]
    · iexists _, _; isplitr; swap; · iexact HS0
      ipureintro; rfl
    isplitl [HS1]; · iexact HS1
    iintro ⟨H0, H3, HS0, HS1⟩
    isplitl [HS0 HS1 Hg HT0 HT1 HT2 HT3]
    · isplitl [HS0 HS1 Hg]
      · isplitl [HS0 HS1]
        · isplitl [HS0]; · iexact HS0
          iexact HS1
        iexact Hg
      isplitl [HT0]; · iexact HT0
      isplitl [HT1]; · iexact HT1
      isplitl [HT2]; · iexact HT2
      iexact HT3
    isplitl [Ho]; · iexact Ho
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    iexact H3

theorem body_obligation (hO : Ok m) (c : Dev nD) : BodyObligation (dats (F := F) m hO 0 c) (defs₀ (F := F)) Variants.none () Set.univ forgets := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  dsimp only [dats]; exact Idealize.SL.BI.Entails.refl _
theorem hout (hO : Ok m) (c : Dev nD) : (dats m hO 0 c).Φ (Fin.last (cfgM m hO).N) ⊢ Pipeline.ΦA spec0 c := by
  dsimp only [dats]
  iintro ⟨H, -⟩
  iexact H

set_option backward.isDefEq.respectTransparency.types false in
set_option maxHeartbeats 4000000 in
/-- The run, with the counters at zero. -/
theorem run_main (hO : Ok m) : θ_run defs (onTc (τ := τ) (main (F := F))) (s₀ m ρ) (fun r => (Pipeline.RDat.FramePost ((Pipeline.pin pcfgs fun _ => adm m hO) 0) (fun c => (dats m hO 0 c).toRForget forgets) (V m)) r ∧ r.2.sem = fun _ => 0) :=
  Pipeline.θ_run_frameP_track_forget (Q' := _) pcfgs (fun _ => adm m hO) (dats m hO) (0 : Fin 1) launch0 defs₀ Variants.none forgets m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

set_option maxHeartbeats 4000000 in
/-- THE FRAME, under the side condition of the tables. -/
theorem frame_all (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(Pipeline.RDat.FramePost.arr_in h.1 c 0 rfl).trans ((A_eq m hO c 0).trans (V_main_arg0 m c)),
      ((h.1 c).2 main_arg1 (by decide : main_arg1 ∈ Pipeline.restRefs sig spec0)).trans (V_main_arg1 m c),
      (Pipeline.RDat.FramePost.arr_in h.1 c 1 rfl).trans ((A_eq m hO c 1).trans (V_main_arg2 m c)),
      (Pipeline.RDat.FramePost.arr_in h.1 c 2 rfl).trans ((A_eq m hO c 2).trans (V_main_arg3 m c))⟩, h.2⟩) (run_main m ρ hO)

end Cert.KernelIdeal.Hand
-- ==== Proof.KernelIdeal.Dequant.lean ====
/- One stored block of dequantised weights: 64 rows of 128 entries. The scale bytes, shifted into a bf16's exponent
   field, are packed two rows to a word, gathered along the row so that each lane finds its group of 32, and unpacked:
   what is stored at a place is the weight there times the float whose bits are the scale byte of its row and group
   shifted by seven. -/
module

public import proofs.«01_k».proof.Proof.Gen.KernelIdeal
public import proofs.«01_k».proof.Proof.Gen.KernelIdeal.Skeleton
public import Idealize.ShloMosaic.PureOps.Ideal
public import Idealize.ShloMosaic.Lib.IdealHost
public import Idealize.ShloMosaic.Lib.Pointwise
public import Idealize.ShloMosaic.Lib.BitcastPair

@[expose] public section

set_option maxRecDepth 16384

namespace Cert.KernelIdeal.Hand

open Idealize.ShloMosaic Cert.KernelIdeal.Gen Cert.KernelIdeal

/-- The bits of a scale. -/
def scaleBits (s : BitVec 8) : BitVec 16 := (s.setWidth 32 <<< 7).setWidth 16

/-- The group of scales that a lane reads in the block at scale column `b`. -/
def group (v30 : IVec S32x128 32) (b : BitVec 32) : IVec S32x128 32 :=
  have v56 : IVec S32x128 32 := addi (shrsi v30 (broadcast S32x128 5#32)) (broadcast S32x128 b)
  select (cmpi .slt v56 (broadcast S32x128 0#32)) (addi v56 (broadcast S32x128 128#32)) v56

/-- The block that is stored for the scales and weights read. -/
noncomputable def deqBlock (b : BitVec 32) (s : IVec S1x64x64 8) (w : FVec Ideal S1x64x128 .fp8e4m3) : FVec Ideal S64x128 .bf16 :=
  k0_pay10 (F := Ideal) (k0_pay7 (F := Ideal) s) (group (iota .tc S32x128 32 [1] iota_S32x128_d1_w32) b) w

theorem group_word : ∀ l : Fin 128, ∀ b : Fin 16,
    (group (fun _ => BitVec.ofNat 32 l.val) (BitVec.ofNat 32 (4 * b.val)) (ValueIdx.ix2 0 0)).toNat % 128 = l.val / 32 + 4 * b.val := by
  decide +kernel

theorem group_apply (b : Fin 16) (r : Fin 32) (l : Fin 128) :
    (group (iota .tc S32x128 32 [1] iota_S32x128_d1_w32) (BitVec.ofNat 32 (4 * b.val)) (ValueIdx.ix2 r l)).toNat % 128 = l.val / 32 + 4 * b.val := by
  have e : iota .tc S32x128 32 [1] iota_S32x128_d1_w32 (ValueIdx.ix2 r l) = BitVec.ofNat 32 l.val := by pointwise
  have := group_word l b
  rw [← e] at this
  exact this

/-- The shifted scales, side by side twice. -/
def shifted (s : IVec S1x64x64 8) : IVec S64x128 16 :=
  have v23 : IVec S64x64 8 := shapeCast S64x64 s shapeCasts_S1x64x64_S64x64
  have v26 : IVec S64x64 32 := shli (extui 32 v23 natLt_8_32) (broadcast S64x64 7#32)
  have v27 : IVec S64x64 16 := trunci 16 v26 natLt_16_32
  concatenate S64x128 1 [⟨S64x64, v27⟩, ⟨S64x64, v27⟩] concatenates_S64x64_S64x64_S64x128_d1

theorem pay7_eq (s : IVec S1x64x64 8) : k0_pay7 (F := Ideal) s = bitcast S32x128 32 (shifted s) bitcasts_S64x128_w16_S32x128_w32 := rfl

theorem shifted_apply (s : IVec S1x64x64 8) (r : Fin 64) (q : Fin 128) (hq : q.val < 64) :
    shifted s (ValueIdx.ix2 r q) = scaleBits (s (ValueIdx.ix3 0 r ⟨q.val, hq⟩)) := by
  unfold shifted
  pointwise
  rw [dif_pos (show (ValueIdx.ix2 r q (1 : Fin 2)).val < 64 from hq)]
  unfold scaleBits
  have e : (Idealize.ShloMosaic.ix3 0 (ValueIdx.ix2 r q 0) ⟨(ValueIdx.ix2 r q (1 : Fin 2)).val, hq⟩ : S1x64x64.Idx) = ValueIdx.ix3 0 r ⟨q.val, hq⟩ := by
    funext a
    match a with
    | 0 => rfl
    | 1 => rfl
    | 2 => rfl
  rw [e]
  rfl

theorem packed (s : IVec S1x64x64 8) (r : Fin 32) (q : Fin 128) (hq : q.val < 64) :
    k0_pay7 (F := Ideal) s (ValueIdx.ix2 r q) = scaleBits (s (ValueIdx.ix3 0 ⟨2 * r.val + 1, by omega⟩ ⟨q.val, hq⟩)) ++ scaleBits (s (ValueIdx.ix3 0 ⟨2 * r.val, by omega⟩ ⟨q.val, hq⟩)) := by
  rw [pay7_eq, bitcast_16_32]
  congr 1
  · rw [← shifted_apply]
    congr 1
    funext a
    match a with
    | 0 => rfl
    | 1 => rfl
  · rw [← shifted_apply]
    congr 1
    funext a
    match a with
    | 0 => rfl
    | 1 => rfl

theorem low_half (x y : BitVec 16) : (x ++ y).extractLsb' (16 * 0) 16 = y := by
  apply BitVec.eq_of_getLsbD_eq
  intro i hi
  rw [BitVec.getLsbD_extractLsb', BitVec.getLsbD_append]
  simp only [Nat.mul_zero, Nat.zero_add, hi, decide_true, Bool.true_and, if_true]

theorem high_half (x y : BitVec 16) : (x ++ y).extractLsb' (16 * 1) 16 = x := by
  apply BitVec.eq_of_getLsbD_eq
  intro i hi
  rw [BitVec.getLsbD_extractLsb', BitVec.getLsbD_append, if_neg (by omega)]
  simp only [hi, decide_true, Bool.true_and]
  congr 1
  omega

theorem deqBlock_apply (b : Fin 16) (s : IVec S1x64x64 8) (w : FVec Ideal S1x64x128 .fp8e4m3) (r : Fin 64) (l : Fin 128) :
    deqBlock (BitVec.ofNat 32 (4 * b.val)) s w (ValueIdx.ix2 r l)
      = w (ValueIdx.ix3 0 r l) * Ideal.ofBits .bf16 (scaleBits (s (ValueIdx.ix3 0 r ⟨l.val / 32 + 4 * b.val, by omega⟩))) := by
  unfold deqBlock
  generalize hg : group (iota .tc S32x128 32 [1] iota_S32x128_d1_w32) (BitVec.ofNat 32 (4 * b.val)) = g
  generalize hp : k0_pay7 (F := Ideal) s = p
  pointwise [k0_pay10]
  refine congrArg₂ (· * ·) (congrArg w ?_) (congrArg (Ideal.ofBits .bf16) ?_)
  · funext a
    match a with
    | 0 => rfl
    | 1 => rfl
    | 2 => rfl
  rw [bitcast_32_16]
  have e : dynamicGather 1 p g (bitcasts_S32x128_w32_S64x128_w16.srcIdx (ValueIdx.ix2 r l) (Shape.row (s := S64x128) (ValueIdx.ix2 r l) / 2) (fun a ha => by
        have := bitcasts_S32x128_w32_S64x128_w16.pos_lt (ValueIdx.ix2 r l) 0 (by decide) a ha; omega))
      = p (ValueIdx.ix2 ⟨r.val / 2, by omega⟩ ⟨l.val / 32 + 4 * b.val, by omega⟩) := by
    unfold dynamicGather
    congr 1
    funext a
    match a with
    | 0 => rfl
    | 1 =>
      apply Fin.ext
      refine Eq.trans ?_ (group_apply b ⟨r.val / 2, by omega⟩ l)
      rw [hg]
      have : bitcasts_S32x128_w32_S64x128_w16.srcIdx (ValueIdx.ix2 r l) (Shape.row (s := S64x128) (ValueIdx.ix2 r l) / 2) (fun a ha => by
        have := bitcasts_S32x128_w32_S64x128_w16.pos_lt (ValueIdx.ix2 r l) 0 (by decide) a ha; omega) = ValueIdx.ix2 ⟨r.val / 2, by omega⟩ l := by
        funext a
        match a with
        | 0 => rfl
        | 1 => rfl
      rw [this]
      rfl
  rw [e, ← hp, packed s _ _ (by show l.val / 32 + 4 * b.val < 64; omega)]
  rw [show Shape.row (s := S64x128) (ValueIdx.ix2 r l) = r.val from rfl]
  rcases Nat.mod_two_eq_zero_or_one r.val with h | h
  · rw [h]
    have : (⟨2 * (r.val / 2), by omega⟩ : Fin 64) = r := Fin.ext (by show 2 * (r.val / 2) = r.val; omega)
    simp only [this]
    exact low_half _ _
  · rw [h]
    have : (⟨2 * (r.val / 2) + 1, by omega⟩ : Fin 64) = r := Fin.ext (by show 2 * (r.val / 2) + 1 = r.val; omega)
    simp only [this]
    exact high_half _ _

theorem scale_fields : ∀ n : Fin 256, (BitVec.extractLsb' (8 + 7) 1 (scaleBits (BitVec.ofFin n)) == 1#1) = false
    ∧ (BitVec.extractLsb' 7 8 (scaleBits (BitVec.ofFin n))).toNat = n.val ∧ (BitVec.extractLsb' 0 7 (scaleBits (BitVec.ofFin n))).toNat = 0 := by
  decide +kernel

/-- A scale byte other than the first and the last is a power of two. -/
theorem scale_val (s : BitVec 8) (h1 : 1 ≤ s.toNat) (h2 : s.toNat ≤ 254) :
    Ideal.ofBits .bf16 (scaleBits s) = (((2 : ℝ) ^ ((s.toNat : ℤ) - 127) : ℝ) : EReal) := by
  obtain ⟨e1, e2, e3⟩ := scale_fields s.toFin
  rw [show BitVec.ofFin s.toFin = s from rfl] at e1 e2 e3
  change _ = s.toNat at e2
  show Ideal.ieee 8 7 (scaleBits s) = _
  unfold Ideal.ieee
  simp only [e1, e2, e3]
  rw [if_neg (by norm_num; omega), if_neg (by omega)]
  congr 1
  rw [show ((s.toNat : ℤ) - (2 ^ (8 - 1) - 1) - (7 : ℕ)) = ((s.toNat : ℤ) - 127) - 7 by norm_num, zpow_sub₀ (by norm_num)]
  norm_num
  ring

end Cert.KernelIdeal.Hand
-- ==== Proof.RoundTrip.lean ====
/- The activation round trip over the extended reals, in the kernel's form and in the reference's. Both scale an
   entry by a power of two that its block's largest magnitude fixes, clip, and scale back. As the largest magnitude
   is at least the entry's, the clip never bites: a block whose largest magnitude is finite is returned as it is,
   and a block with an infinite entry is returned as zeros. -/
module

public import Idealize.ShloMosaic.PureOps.Ideal
public import Idealize.ShloMosaic.Lib.IdealHost
public import Idealize.ShloMosaic.Lib.Pointwise

@[expose] public section

namespace Cert.RoundTrip

open Idealize.ShloMosaic

/-- What the round trip returns of entry `x` in a block of largest magnitude `a`. -/
noncomputable def keep (x a : EReal) : EReal := if a = ⊤ then 0 else x

/-- The largest code. -/
noncomputable def top : EReal := ((448 : ℝ) : EReal)

/-- The clip to the codes' range. -/
noncomputable def clip (y : EReal) : EReal := min (max (-top) y) top

/-- The kernel's exponent. -/
noncomputable def kExp (a : EReal) : EReal :=
  let e := Ideal.liftRound Int.floor (Ideal.div (Ideal.log a) (Ideal.log ((2 : ℝ) : EReal)) + ((25 / 128 : ℝ) : EReal))
  if e < ((-117 : ℝ) : EReal) then ((8 : ℝ) : EReal) else e

/-- The kernel's round trip. -/
noncomputable def kRound (x a : EReal) : EReal :=
  clip (x * Ideal.exp2 (((8 : ℝ) : EReal) - kExp a)) * Ideal.exp2 (kExp a - ((8 : ℝ) : EReal))

/-- The reciprocal of the largest code, as a float. -/
noncomputable def rec : ℝ := 9586981 / 2 ^ 32

/-- The reference's exponent. -/
noncomputable def rExp (a : EReal) : EReal :=
  if a = 0 then 0 else Ideal.liftRound Int.floor (Ideal.div (Ideal.log (a * (rec : EReal))) (Ideal.log ((2 : ℝ) : EReal))) + 1

/-- The reference's round trip. -/
noncomputable def rRound (x a : EReal) : EReal :=
  clip (x * Ideal.pow ((2 : ℝ) : EReal) (-(rExp a))) * Ideal.pow ((2 : ℝ) : EReal) (rExp a)

theorem log_two : Ideal.log ((2 : ℝ) : EReal) = ((Real.log 2 : ℝ) : EReal) := by
  rw [Ideal.log_coe, if_neg (by norm_num)]

theorem log2_pos : 0 < Real.log 2 := Real.log_pos (by norm_num)

theorem top_div : Ideal.div ⊤ (Ideal.log ((2 : ℝ) : EReal)) = ⊤ := by
  rw [log_two, Ideal.div_coe log2_pos.ne']
  exact EReal.top_mul_coe_of_pos (one_div_pos.mpr log2_pos)

theorem clip_of {y : ℝ} (h : |y| ≤ 448) : clip (y : EReal) = (y : EReal) := by
  have h' := abs_le.mp h
  unfold clip top
  rw [← EReal.coe_neg, max_eq_right (EReal.coe_le_coe_iff.mpr h'.1), min_eq_left (EReal.coe_le_coe_iff.mpr h'.2)]

theorem clip_zero : clip 0 = 0 := by
  have := clip_of (y := 0) (by norm_num)
  exact_mod_cast this

/-- A scaling of a real that stays in range and is undone. -/
theorem scaled {x e : ℝ} (h : |x| * (2 : ℝ) ^ (-e) ≤ 448) :
    clip ((x : EReal) * (((2 : ℝ) ^ (-e) : ℝ) : EReal)) * (((2 : ℝ) ^ e : ℝ) : EReal) = (x : EReal) := by
  have hp : (0 : ℝ) < (2 : ℝ) ^ (-e) := Real.rpow_pos_of_pos (by norm_num) _
  rw [← EReal.coe_mul, clip_of (by rw [abs_mul, abs_of_pos hp]; exact h), ← EReal.coe_mul, mul_assoc,
    ← Real.rpow_add (by norm_num), neg_add_cancel, Real.rpow_zero, mul_one]

/-- A real below the power of two that its logarithm's bound names. -/
theorem lt_pow {r u : ℝ} (hr : 0 < r) (h : Real.log r / Real.log 2 < u) : r < (2 : ℝ) ^ u := by
  rw [div_lt_iff₀ log2_pos] at h
  rw [← Real.log_lt_log_iff hr (Real.rpow_pos_of_pos (by norm_num) _), Real.log_rpow (by norm_num)]
  exact h

theorem threshold : (8 / 7 : ℝ) ≤ (2 : ℝ) ^ (25 / 128 : ℝ) := by
  have h : ((8 / 7 : ℝ)) ^ (128 : ℝ) ≤ ((2 : ℝ) ^ (25 / 128 : ℝ)) ^ (128 : ℝ) := by
    rw [← Real.rpow_mul (by norm_num), show (25 / 128 : ℝ) * 128 = ((25 : ℕ) : ℝ) by norm_num,
      show (128 : ℝ) = ((128 : ℕ) : ℝ) by norm_num, Real.rpow_natCast, Real.rpow_natCast]
    norm_num
  exact (Real.rpow_le_rpow_iff (by norm_num) (Real.rpow_nonneg (by norm_num) _) (by norm_num)).mp h

/-- What a bound on the magnitude leaves. -/
theorem cases {x a : EReal} (h : max x (-x) ≤ a) : a = ⊤ ∨ (a = 0 ∧ x = 0) ∨ ∃ (r y : ℝ), 0 < r ∧ |y| ≤ r ∧ a = r ∧ x = y := by
  have h1 : x ≤ a := (le_max_left _ _).trans h
  have h2 : -x ≤ a := (le_max_right _ _).trans h
  induction a with
  | top => exact .inl rfl
  | bot =>
    exfalso
    rw [le_bot_iff] at h1 h2
    subst h1
    simp at h2
  | coe r =>
    right
    induction x with
    | top => simp at h1
    | bot => simp at h2
    | coe y =>
      rw [← EReal.coe_neg] at h2
      have h1' := EReal.coe_le_coe_iff.mp h1
      have h2' := EReal.coe_le_coe_iff.mp h2
      have hy : |y| ≤ r := abs_le.mpr ⟨by linarith, h1'⟩
      rcases eq_or_lt_of_le ((abs_nonneg y).trans hy) with h0 | h0
      · left
        subst h0
        have : y = 0 := abs_eq_zero.mp (le_antisymm hy (abs_nonneg _))
        subst this
        simp
      · exact .inr ⟨r, y, h0, hy, rfl, rfl⟩

theorem kRound_eq {x a : EReal} (h : max x (-x) ≤ a) : kRound x a = keep x a := by
  rcases cases h with rfl | ⟨rfl, rfl⟩ | ⟨r, y, hr, hy, rfl, rfl⟩
  · have he : kExp ⊤ = ⊤ := by
      unfold kExp
      simp only [Ideal.log_top, top_div]
      rw [EReal.top_add_coe, Ideal.liftRound_top, if_neg (by simp)]
    unfold kRound keep
    rw [he, if_pos rfl, sub_eq_add_neg, EReal.neg_top, EReal.add_bot, Ideal.exp2_bot, mul_zero, clip_zero, zero_mul]
  · unfold kRound keep
    rw [zero_mul, clip_zero, zero_mul, if_neg (by simp)]
  · have hlog : Ideal.log (r : EReal) = ((Real.log r : ℝ) : EReal) := by rw [Ideal.log_coe, if_neg (not_le.mpr hr)]
    have hdiv : Ideal.div (Ideal.log (r : EReal)) (Ideal.log ((2 : ℝ) : EReal)) = ((Real.log r / Real.log 2 : ℝ) : EReal) := by
      rw [hlog, log_two, Ideal.div_coe log2_pos.ne', ← EReal.coe_mul, mul_one_div]
    have key : ∀ e : ℝ, kExp (r : EReal) = (e : EReal) → |y| * (2 : ℝ) ^ (-(e - 8)) ≤ 448 → kRound (y : EReal) (r : EReal) = keep (y : EReal) (r : EReal) := by
      intro e he hb
      unfold kRound keep
      rw [he, if_neg (by simp), ← EReal.coe_sub, ← EReal.coe_sub, Ideal.exp2_coe, Ideal.exp2_coe]
      have := scaled (x := y) (e := e - 8) hb
      rw [show -(e - 8) = 8 - e by ring] at this
      exact this
    set n : ℤ := ⌊Real.log r / Real.log 2 + 25 / 128⌋ with hn
    have hfl : Real.log r / Real.log 2 + 25 / 128 < (n : ℝ) + 1 := Int.lt_floor_add_one _
    have hlt : r < (2 : ℝ) ^ ((n : ℝ) + 1 - 25 / 128) := lt_pow hr (by linarith)
    by_cases hs : ((n : ℝ)) < -117
    · refine key 8 ?_ ?_
      · unfold kExp
        simp only [hdiv]
        rw [← EReal.coe_add, Ideal.liftRound_coe, if_pos (EReal.coe_lt_coe_iff.mpr hs)]
      · have h1 : (2 : ℝ) ^ ((n : ℝ) + 1 - 25 / 128) ≤ (2 : ℝ) ^ (0 : ℝ) := Real.rpow_le_rpow_of_exponent_le (by norm_num) (by linarith)
        rw [Real.rpow_zero] at h1
        norm_num
        linarith
    · refine key n ?_ ?_
      · unfold kExp
        simp only [hdiv]
        rw [← EReal.coe_add, Ideal.liftRound_coe, if_neg (by rw [EReal.coe_lt_coe_iff]; exact hs)]
      · have hp : (0 : ℝ) < (2 : ℝ) ^ (-((n : ℝ) - 8)) := Real.rpow_pos_of_pos (by norm_num) _
        have h1 : |y| * (2 : ℝ) ^ (-((n : ℝ) - 8)) ≤ (2 : ℝ) ^ ((n : ℝ) + 1 - 25 / 128) * (2 : ℝ) ^ (-((n : ℝ) - 8)) :=
          mul_le_mul_of_nonneg_right (hy.trans hlt.le) hp.le
        rw [← Real.rpow_add (by norm_num), show (n : ℝ) + 1 - 25 / 128 + -((n : ℝ) - 8) = ((9 : ℕ) : ℝ) - 25 / 128 by push_cast; ring,
          Real.rpow_sub (by norm_num), Real.rpow_natCast] at h1
        have ht := threshold
        have : (2 : ℝ) ^ 9 / (2 : ℝ) ^ (25 / 128 : ℝ) ≤ 448 := by
          rw [div_le_iff₀ (by linarith)]
          linarith
        exact h1.trans this

theorem rRound_eq {x a : EReal} (h : max x (-x) ≤ a) : rRound x a = keep x a := by
  have hrec : 0 < rec := by unfold rec; norm_num
  rcases cases h with rfl | ⟨rfl, rfl⟩ | ⟨r, y, hr, hy, rfl, rfl⟩
  · have he : rExp ⊤ = ⊤ := by
      unfold rExp
      rw [if_neg (by simp), EReal.top_mul_coe_of_pos hrec, Ideal.log_top, top_div, Ideal.liftRound_top, EReal.top_add_of_ne_bot (by exact EReal.coe_ne_bot 1)]
    unfold rRound keep
    rw [he, if_pos rfl, EReal.neg_top, Ideal.pow_coe_bot, if_neg (by norm_num), if_pos (by norm_num), mul_zero, clip_zero, zero_mul]
  · unfold rRound keep
    rw [zero_mul, clip_zero, zero_mul, if_neg (by simp)]
  · have hrr : 0 < r * rec := mul_pos hr hrec
    set n : ℤ := ⌊Real.log (r * rec) / Real.log 2⌋ with hn
    have he : rExp (r : EReal) = (((n : ℝ) + 1 : ℝ) : EReal) := by
      unfold rExp
      rw [if_neg (by exact_mod_cast hr.ne'), ← EReal.coe_mul, Ideal.log_coe, if_neg (not_le.mpr hrr), log_two, Ideal.div_coe log2_pos.ne',
        ← EReal.coe_mul, mul_one_div, Ideal.liftRound_coe, EReal.coe_add, EReal.coe_one]
    have hlt : r * rec < (2 : ℝ) ^ ((n : ℝ) + 1) := lt_pow hrr (Int.lt_floor_add_one _)
    unfold rRound keep
    rw [he, if_neg (by simp), ← EReal.coe_neg, Ideal.pow_coe_coe, Ideal.pow_coe_coe]
    refine scaled ?_
    have hp : (0 : ℝ) < (2 : ℝ) ^ (-((n : ℝ) + 1)) := Real.rpow_pos_of_pos (by norm_num) _
    have h1 : r * rec * (2 : ℝ) ^ (-((n : ℝ) + 1)) ≤ 1 := by
      rw [Real.rpow_neg (by norm_num)]
      exact (mul_inv_le_iff₀ (Real.rpow_pos_of_pos (by norm_num) _)).mpr (by linarith)
    have h2 : |y| * (2 : ℝ) ^ (-((n : ℝ) + 1)) ≤ r * (2 : ℝ) ^ (-((n : ℝ) + 1)) := mul_le_mul_of_nonneg_right hy hp.le
    have h3 : r * (2 : ℝ) ^ (-((n : ℝ) + 1)) * rec ≤ 1 := by linarith [h1, mul_right_comm r rec ((2 : ℝ) ^ (-((n : ℝ) + 1)))]
    have h4 : r * (2 : ℝ) ^ (-((n : ℝ) + 1)) ≤ 1 / rec := (le_div_iff₀ hrec).mpr h3
    have h5 : 1 / rec ≤ 448 := by unfold rec; norm_num
    linarith

/-! The constants as floats. -/

theorem c_two : Ideal.ofBits .f32 0x40000000#32 = ((2 : ℝ) : EReal) := by
  simp [Ideal.ofBits, Ideal.ieee, -EReal.coe_mul]; norm_num
theorem c_margin : Ideal.ofBits .f32 0x3E480000#32 = ((25 / 128 : ℝ) : EReal) := by
  simp [Ideal.ofBits, Ideal.ieee, -EReal.coe_mul]; norm_num
theorem c_low : Ideal.ofBits .f32 0xC2EA0000#32 = ((-117 : ℝ) : EReal) := by
  simp [Ideal.ofBits, Ideal.ieee, -EReal.coe_mul, -EReal.coe_neg]; norm_num
theorem c_eight : Ideal.ofBits .f32 0x41000000#32 = ((8 : ℝ) : EReal) := by
  simp [Ideal.ofBits, Ideal.ieee, -EReal.coe_mul]; norm_num
theorem c_top : Ideal.ofBits .f32 0x43E00000#32 = ((448 : ℝ) : EReal) := by
  simp [Ideal.ofBits, Ideal.ieee, -EReal.coe_mul]; norm_num
theorem c_ntop : Ideal.ofBits .f32 0xC3E00000#32 = -((448 : ℝ) : EReal) := by
  rw [← EReal.coe_neg]
  simp [Ideal.ofBits, Ideal.ieee, -EReal.coe_mul, -EReal.coe_neg]; norm_num
theorem c_top16 : Ideal.ofBits .bf16 0x43E0#16 = ((448 : ℝ) : EReal) := by
  simp [Ideal.ofBits, Ideal.ieee, -EReal.coe_mul]; norm_num
theorem c_ntop16 : Ideal.ofBits .bf16 0xC3E0#16 = -((448 : ℝ) : EReal) := by
  rw [← EReal.coe_neg]
  simp [Ideal.ofBits, Ideal.ieee, -EReal.coe_mul, -EReal.coe_neg]; norm_num
theorem c_rec : Ideal.ofBits .f32 0x3B124925#32 = ((rec : ℝ) : EReal) := by
  unfold rec
  simp [Ideal.ofBits, Ideal.ieee, -EReal.coe_mul]; norm_num

end Cert.RoundTrip
-- ==== Proof.KernelIdeal.Round.lean ====
/- The activation round trip of one stored block: a 32 × 128 block of activations, whose lanes fall into four
   groups of 32. The tree of rotations leaves the largest magnitude of a group in its last lane, the gather spreads
   it over the group, and what is stored is the round trip of each entry by its group's largest magnitude. -/
module

public import proofs.«01_k».proof.Proof.Gen.KernelIdeal
public import proofs.«01_k».proof.Proof.Gen.KernelIdeal.Skeleton
public import proofs.«01_k».proof.Proof.RoundTrip

@[expose] public section

set_option maxRecDepth 16384

namespace Cert.KernelIdeal.Hand

open Idealize.ShloMosaic Cert.KernelIdeal.Gen Cert.KernelIdeal

/-- The magnitude of an extended real. -/
noncomputable def mag (x : EReal) : EReal := max x (-x)

/-- The largest magnitude of a group of 32. -/
noncomputable def amax (f : Fin 32 → EReal) : EReal := Finset.univ.sup fun j => mag (f j)

/-- An entry of a row by the lane's number. -/
noncomputable def atLane (y : FVec Ideal S32x128 .f32) (r : Fin 32) (l : ℕ) : EReal :=
  y (ValueIdx.ix2 r ⟨l % 128, Nat.mod_lt _ (by norm_num)⟩)

/-- One step of the tree: the maximum with the row rotated. -/
noncomputable def rot (s : BitVec 32) (y : FVec Ideal S32x128 .f32) : FVec Ideal S32x128 .f32 :=
  maximumf y (dynamicRotate 1 s none y rotates_S32x128_d1)

/-- The tree. -/
noncomputable def tree (v : FVec Ideal S32x128 .bf16) : FVec Ideal S32x128 .f32 :=
  rot 16#32 (rot 8#32 (rot 4#32 (rot 2#32 (rot 1#32 (absf (extf .f32 v bitsLt_bf16_f32))))))

/-- The lane that each lane reads. -/
def lastLane : IVec S32x128 32 :=
  have v31 : IVec S32x128 32 := iota .tc S32x128 32 [1] iota_S32x128_d1_w32
  have v45 : IVec S32x128 32 := ori v31 (broadcast S32x128 31#32)
  have v50 : IVec S32x128 32 := select (cmpi .slt v45 (broadcast S32x128 0#32)) (addi v45 (broadcast S32x128 128#32)) v45
  shapeCast S32x128 (shapeCast S32x128x1 v50 shapeCasts_S32x128_S32x128x1) shapeCasts_S32x128x1_S32x128

/-- The exponent from the spread magnitudes. -/
noncomputable def expo (y : FVec Ideal S32x128 .f32) : FVec Ideal S32x128 .f32 :=
  have v60 : FVec Ideal S32x128 .f32 := floor (addf (divf (log y) (log (broadcast S32x128 (Scalar.ofBits .f32 0x40000000#32)))) (broadcast S32x128 (Scalar.ofBits .f32 0x3E480000#32)))
  select (cmpf .olt v60 (broadcast S32x128 (Scalar.ofBits .f32 0xC2EA0000#32))) (broadcast S32x128 (Scalar.ofBits .f32 0x41000000#32)) v60

theorem pay31_eq (v : FVec Ideal S32x128 .bf16) : k0_pay31 (F := Ideal) v = expo (dynamicGather 1 (tree v) lastLane) := rfl

theorem rot_lane (n : ℕ) (hn : n < 128) (y : FVec Ideal S32x128 .f32) (r : Fin 32) (l : ℕ) :
    atLane (rot (BitVec.ofNat 32 n) y) r l = max (atLane y r l) (atLane y r (l + (128 - n))) := by
  unfold atLane rot
  show max _ (dynamicRotate 1 (BitVec.ofNat 32 n) none y rotates_S32x128_d1 _) = _
  congr 1
  unfold dynamicRotate
  dsimp only
  congr 1
  funext b
  have e : (BitVec.ofNat 32 n).toNat = n := by rw [BitVec.toNat_ofNat]; exact Nat.mod_eq_of_lt (by omega)
  match b with
  | 0 => rfl
  | 1 =>
    apply Fin.ext
    show (l % 128 + 128 - ((BitVec.ofNat 32 n).toNat + 0) % 128) % 128 = (l + (128 - n)) % 128
    rw [e]
    omega

theorem tree_le (v : FVec Ideal S32x128 .bf16) (r : Fin 32) (l : ℕ) (b : EReal) :
    atLane (tree v) r l ≤ b ↔ ∀ j < 32, atLane (absf (F := Ideal) (extf .f32 v bitsLt_bf16_f32)) r (l + (128 - j)) ≤ b := by
  generalize hy : absf (F := Ideal) (extf .f32 v bitsLt_bf16_f32) = y
  unfold tree
  rw [hy]
  have step : ∀ (n : ℕ) (hn : n < 64) (z : FVec Ideal S32x128 .f32), (∀ l, atLane z r l ≤ b ↔ ∀ j < n, atLane y r (l + (128 - j)) ≤ b) →
      ∀ l, atLane (rot (BitVec.ofNat 32 n) z) r l ≤ b ↔ ∀ j < 2 * n, atLane y r (l + (128 - j)) ≤ b := by
    intro n hn z hz l
    rw [rot_lane n (by omega), max_le_iff, hz, hz]
    have wrap : ∀ j < n, atLane y r (l + (128 - n) + (128 - j)) = atLane y r (l + (128 - (n + j))) := by
      intro j hj
      unfold atLane
      congr 2
      apply Fin.ext
      show (l + (128 - n) + (128 - j)) % 128 = (l + (128 - (n + j))) % 128
      omega
    constructor
    · rintro ⟨h1, h2⟩ j hj
      by_cases hjn : j < n
      · exact h1 j hjn
      · have := h2 (j - n) (by omega)
        rwa [wrap _ (by omega), show n + (j - n) = j by omega] at this
    · intro h
      refine ⟨fun j hj => h j (by omega), fun j hj => ?_⟩
      rw [wrap j hj]
      exact h _ (by omega)
  have h0 : ∀ l, atLane y r l ≤ b ↔ ∀ j < 1, atLane y r (l + (128 - j)) ≤ b := by
    intro l
    have e : atLane y r (l + (128 - 0)) = atLane y r l := by
      unfold atLane
      congr 2
      apply Fin.ext
      show (l + (128 - 0)) % 128 = l % 128
      omega
    constructor
    · intro h j hj
      obtain rfl : j = 0 := by omega
      rw [e]; exact h
    · intro h
      have := h 0 (by omega)
      rwa [e] at this
  exact step 16 (by omega) _ (step 8 (by omega) _ (step 4 (by omega) _ (step 2 (by omega) _ (step 1 (by omega) _ h0)))) l

theorem lane_word : ∀ l : Fin 128, (Scalar.select (Scalar.cmpi .slt (BitVec.ofNat 32 l.val ||| 31#32) 0#32) ((BitVec.ofNat 32 l.val ||| 31#32) + 128#32) (BitVec.ofNat 32 l.val ||| 31#32)).toNat % 128 = 32 * (l.val / 32) + 31 := by
  decide +kernel

theorem lastLane_apply (r : Fin 32) (l : Fin 128) : (lastLane (ValueIdx.ix2 r l)).toNat % 128 = 32 * (l.val / 32) + 31 := by
  unfold lastLane
  dsimp only
  rw [shapeCast_shapeCast]
  have e : iota .tc S32x128 32 [1] iota_S32x128_d1_w32 (ValueIdx.ix2 r l) = BitVec.ofNat 32 l.val := by pointwise
  have := lane_word l
  rw [← e] at this
  exact this

theorem spread (v : FVec Ideal S32x128 .bf16) (r : Fin 32) (l : Fin 128) :
    dynamicGather 1 (tree v) lastLane (ValueIdx.ix2 r l) = amax fun j => v (ValueIdx.ix2 r ⟨32 * (l.val / 32) + j.val, by omega⟩) := by
  have e : dynamicGather 1 (tree v) lastLane (ValueIdx.ix2 r l) = atLane (tree v) r (32 * (l.val / 32) + 31) := by
    unfold dynamicGather atLane
    congr 1
    funext b
    match b with
    | 0 => rfl
    | 1 =>
      apply Fin.ext
      show (lastLane (ValueIdx.ix2 r l)).toNat % 128 = (32 * (l.val / 32) + 31) % 128
      rw [lastLane_apply]
      omega
  rw [e]
  refine eq_of_forall_ge_iff fun b => ?_
  rw [tree_le]
  unfold amax
  rw [Finset.sup_le_iff]
  have at_ : ∀ j (hj : j < 32), atLane (absf (F := Ideal) (extf .f32 v bitsLt_bf16_f32)) r (32 * (l.val / 32) + 31 + (128 - j)) = mag (v (ValueIdx.ix2 r ⟨32 * (l.val / 32) + (31 - j), by omega⟩)) := by
    intro j hj
    have : (⟨(32 * (l.val / 32) + 31 + (128 - j)) % 128, Nat.mod_lt _ (by norm_num)⟩ : Fin 128) = ⟨32 * (l.val / 32) + (31 - j), by omega⟩ := by
      apply Fin.ext
      show (32 * (l.val / 32) + 31 + (128 - j)) % 128 = 32 * (l.val / 32) + (31 - j)
      omega
    unfold atLane
    rw [this]
    rfl
  constructor
  · intro h j _
    have := h (31 - j.val) (by omega)
    rw [at_ _ (by omega)] at this
    have e2 : (⟨32 * (l.val / 32) + (31 - (31 - j.val)), by omega⟩ : Fin 128) = ⟨32 * (l.val / 32) + j.val, by omega⟩ := by
      apply Fin.ext
      show 32 * (l.val / 32) + (31 - (31 - j.val)) = 32 * (l.val / 32) + j.val
      omega
    rwa [e2] at this
  · intro h j hj
    rw [at_ j hj]
    exact h ⟨31 - j, by omega⟩ (Finset.mem_univ _)

theorem expo_apply (y : FVec Ideal S32x128 .f32) (i : S32x128.Idx) : expo y i = RoundTrip.kExp (y i) := by
  have : expo y i = Scalar.select (FloatOps.cmpf (F := Ideal) (φ := .f32) .olt (Ideal.liftRound Int.floor (Ideal.div (Ideal.log (y i)) (Ideal.log (Ideal.ofBits .f32 0x40000000#32)) + Ideal.ofBits .f32 0x3E480000#32)) (Ideal.ofBits .f32 0xC2EA0000#32)) (Ideal.ofBits .f32 0x41000000#32) (Ideal.liftRound Int.floor (Ideal.div (Ideal.log (y i)) (Ideal.log (Ideal.ofBits .f32 0x40000000#32)) + Ideal.ofBits .f32 0x3E480000#32)) := rfl
  rw [this, RoundTrip.c_two, RoundTrip.c_margin, RoundTrip.c_low, RoundTrip.c_eight]
  unfold RoundTrip.kExp
  generalize Ideal.liftRound Int.floor _ = e
  show Scalar.select (Ideal.cmp .olt e ((-117 : ℝ) : EReal)) _ _ = _
  unfold Ideal.cmp
  by_cases h : e < ((-117 : ℝ) : EReal)
  · rw [if_pos h]
    simp [Scalar.select, h, -EReal.coe_neg]
  · rw [if_neg h]
    simp [Scalar.select, h, -EReal.coe_neg]

/-- The block that is stored for a block read. -/
noncomputable def roundBlock (v : FVec Ideal S32x128 .bf16) : FVec Ideal S32x128 .bf16 :=
  k0_pay34 (F := Ideal) v (k0_pay31 v) (k0_pay32 v) k0_pay33

theorem roundBlock_apply (v : FVec Ideal S32x128 .bf16) (r : Fin 32) (l : Fin 128) :
    roundBlock v (ValueIdx.ix2 r l) = RoundTrip.keep (v (ValueIdx.ix2 r l)) (amax fun j => v (ValueIdx.ix2 r ⟨32 * (l.val / 32) + j.val, by omega⟩)) := by
  have e : roundBlock v (ValueIdx.ix2 r l) = min (Ideal.ofBits .bf16 0x43E0#16) (max (Ideal.ofBits .bf16 0xC3E0#16) (v (ValueIdx.ix2 r l) * Ideal.exp2 (Ideal.ofBits .f32 0x41000000#32 - k0_pay31 (F := Ideal) v (ValueIdx.ix2 r l)))) * Ideal.exp2 (k0_pay31 (F := Ideal) v (ValueIdx.ix2 r l) - Ideal.ofBits .f32 0x41000000#32) := by
    unfold roundBlock
    pointwise [k0_pay34, k0_pay32, k0_pay33]
    rfl
  rw [e, pay31_eq, expo_apply, spread, RoundTrip.c_eight, RoundTrip.c_top16, RoundTrip.c_ntop16, ← RoundTrip.kRound_eq]
  · unfold RoundTrip.kRound RoundTrip.clip RoundTrip.top
    rw [min_comm]
  · have hl : v (ValueIdx.ix2 r l) = v (ValueIdx.ix2 r ⟨32 * (l.val / 32) + (⟨l.val % 32, Nat.mod_lt _ (by norm_num)⟩ : Fin 32).val, by show 32 * (l.val / 32) + l.val % 32 < 128; omega⟩) := by
      congr 2
      apply Fin.ext
      show l.val = 32 * (l.val / 32) + l.val % 32
      omega
    rw [hl]
    exact Finset.le_sup (f := fun j : Fin 32 => mag (v (ValueIdx.ix2 r ⟨32 * (l.val / 32) + j.val, by omega⟩))) (Finset.mem_univ _)

end Cert.KernelIdeal.Hand
-- ==== Proof.KernelIdeal.RoundRun.lean ====
/- What the second loop leaves: every 32 × 128 block of the rounded buffer is stored once, block column by block
   column within a band of 32 rows, and holds the round trip of the block of activations at the same place. So the
   buffer reads, entry by entry, as the round trip of the activation by the largest magnitude of its group of 32. -/
module

public import proofs.«01_k».proof.Proof.Gen.KernelIdeal.Loops
public import proofs.«01_k».proof.Proof.KernelIdeal.Round
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The rounded activations. -/
def XQ (x : Vec Ideal S512x2048 .bf16) : Vec Ideal S512x2048 .bf16 := fun y =>
  RoundTrip.keep (x y) (amax fun j => x (ValueIdx.ix2 (y 0) ⟨32 * ((y 1).val / 32) + j.val, by have := (y 1).isLt; have : S512x2048.size 1 = 2048 := rfl; omega⟩))

/-- A rectangle of unit stride places a coordinate after its offset. -/
theorem unit_emb_val {s : Shape} {off size : Fin s.rank → ℕ} (inb : ∀ a, off a + size a ≤ s.size a) (x : (Rect.unit off size inb).shape.Idx) (a : Fin s.rank) :
    ((Rect.unit off size inb).emb x a).val = off a + (x a).val := by
  show off a + 1 * (x a).val = _
  rw [Nat.one_mul]

/-- Two indices of a matrix with the same coordinates. -/
theorem ix2_ext {m n : ℕ} (p q : (⟨2, ![m, n]⟩ : Shape).Idx) (h0 : (p 0).val = (q 0).val) (h1 : (p 1).val = (q 1).val) : p = q := by
  funext a
  match a with
  | 0 => exact Fin.ext h0
  | 1 => exact Fin.ext h1

section
variable {c : Dev nD} {i : grid0.Coords} {arg1 : Memref sig .tc .smem S135 .i32} {harg1 : arg1.IsWhole} {arg2 : Memref sig .tc .smem S135 .i32} {harg2 : arg2.IsWhole} {arg3 : Memref sig .tc .smem S135 .i32} {harg3 : arg3.IsWhole} {arg4 : Memref sig .tc .smem S135 .i32} {harg4 : arg4.IsWhole} {arg5 : Memref sig .tc .vmem S512x2048 .bf16} {harg5 : arg5.IsWhole} {arg6 : Memref sig .tc .vmem S1x2816x2048 .fp8e4m3} {harg6 : arg6.IsWhole} {arg7 : Memref sig .tc .vmem S1x2816x64 .i8} {harg7 : arg7.IsWhole} {arg8 : Memref sig .tc .vmem S512x2816 .bf16} {harg8 : arg8.IsWhole} {arg9 : Memref sig .tc .vmem S2816x2048 .bf16} {harg9 : arg9.IsWhole} {arg10 : Memref sig .tc .vmem S512x2048 .bf16} {harg10 : arg10.IsWhole}

theorem round_piece (x5 : Vec Ideal S512x2048 .bf16) (off : Fin 2 → ℕ) (m b : ℕ) (ho : off = ![32 * m, 128 * b])
    (inb : ∀ a, off a + (![32, 128] : Fin 2 → ℕ) a ≤ S512x2048.size a) (inb' : ∀ a, off a + S32x128.size a ≤ S512x2048.size a)
    (x : (Rect.unit (s := S512x2048) off ![32, 128] inb).shape.Idx) :
    roundBlock (View.readAt (Elt Ideal) arg5.view (Rect.unit (s := S512x2048) off S32x128.size inb').toLoadRect (harg5.unread x5)) x = XQ x5 ((Rect.unit (s := S512x2048) off ![32, 128] inb).emb x) := by
  subst ho
  have hx : x = ValueIdx.ix2 (x 0) (x 1) := ix2_ext _ _ rfl rfl
  have h0 := unit_emb_val (s := S512x2048) inb x 0
  have h1 := unit_emb_val (s := S512x2048) inb x 1
  have l0 : (x 0).val < 32 := (x 0).isLt
  have l1 : (x 1).val < 128 := (x 1).isLt
  change _ = 32 * m + _ at h0
  change _ = 128 * b + _ at h1
  have e := roundBlock_apply (View.readAt (Elt Ideal) arg5.view (Rect.unit (s := S512x2048) ![32 * m, 128 * b] S32x128.size inb').toLoadRect (harg5.unread x5)) (x 0) (x 1)
  refine (congrArg _ hx).trans (e.trans ?_)
  unfold XQ
  simp only [harg5.readAt_unread]
  refine congrArg₂ RoundTrip.keep (congrArg x5 (ix2_ext _ _ rfl rfl)) (congrArg amax (funext fun j => congrArg x5 (ix2_ext _ _ rfl ?_)))
  show 128 * b + 1 * (32 * ((x 1).val / 32) + j.val) = 32 * (((Rect.unit (s := S512x2048) ![32 * m, 128 * b] ![32, 128] inb).emb x 1).val / 32) + j.val
  omega

theorem trip_round (x5 : Vec Ideal S512x2048 .bf16) (k : Fin k0_t2_loop.trips) :
    ∀ p ∈ tripL_k0_t2 (F := Ideal) Variants.none c none i arg1 harg1 arg2 harg2 arg3 harg3 arg4 harg4 arg5 harg5 arg6 harg6 arg7 harg7 arg8 harg8 arg9 harg9 arg10 harg10 (harg5.unread x5) k, ∀ x, p.2 x = XQ x5 (p.1.emb x) := by
  unfold tripL_k0_t2 trip_k0_t2
  dsimp only
  simp only [List.forall_mem_cons]
  refine ⟨fun x => round_piece (arg5 := arg5) (harg5 := harg5) x5 (k0_off51 k) k.val 15 (k0_off51_eq k) _ _ x, fun x => round_piece (arg5 := arg5) (harg5 := harg5) x5 (k0_off50 k) k.val 14 (k0_off50_eq k) _ _ x, fun x => round_piece (arg5 := arg5) (harg5 := harg5) x5 (k0_off49 k) k.val 13 (k0_off49_eq k) _ _ x, fun x => round_piece (arg5 := arg5) (harg5 := harg5) x5 (k0_off48 k) k.val 12 (k0_off48_eq k) _ _ x, fun x => round_piece (arg5 := arg5) (harg5 := harg5) x5 (k0_off47 k) k.val 11 (k0_off47_eq k) _ _ x, fun x => round_piece (arg5 := arg5) (harg5 := harg5) x5 (k0_off46 k) k.val 10 (k0_off46_eq k) _ _ x, fun x => round_piece (arg5 := arg5) (harg5 := harg5) x5 (k0_off45 k) k.val 9 (k0_off45_eq k) _ _ x, fun x => round_piece (arg5 := arg5) (harg5 := harg5) x5 (k0_off44 k) k.val 8 (k0_off44_eq k) _ _ x, fun x => round_piece (arg5 := arg5) (harg5 := harg5) x5 (k0_off43 k) k.val 7 (k0_off43_eq k) _ _ x, fun x => round_piece (arg5 := arg5) (harg5 := harg5) x5 (k0_off42 k) k.val 6 (k0_off42_eq k) _ _ x, fun x => round_piece (arg5 := arg5) (harg5 := harg5) x5 (k0_off41 k) k.val 5 (k0_off41_eq k) _ _ x, fun x => round_piece (arg5 := arg5) (harg5 := harg5) x5 (k0_off40 k) k.val 4 (k0_off40_eq k) _ _ x, fun x => round_piece (arg5 := arg5) (harg5 := harg5) x5 (k0_off39 k) k.val 3 (k0_off39_eq k) _ _ x, fun x => round_piece (arg5 := arg5) (harg5 := harg5) x5 (k0_off38 k) k.val 2 (k0_off38_eq k) _ _ x, fun x => round_piece (arg5 := arg5) (harg5 := harg5) x5 (k0_off37 k) k.val 1 (k0_off37_eq k) _ _ x, fun x => round_piece (arg5 := arg5) (harg5 := harg5) x5 (k0_off36 k) k.val 0 (k0_off36_eq k) _ _ x, fun _ h => absurd h List.not_mem_nil⟩

theorem trip_round_cover (x5 : Vec Ideal S512x2048 .bf16) (k : Fin k0_t2_loop.trips) (y : S512x2048.Idx) (h : (y 0).val / 32 = k.val) :
    ∃ p ∈ tripL_k0_t2 (F := Ideal) Variants.none c none i arg1 harg1 arg2 harg2 arg3 harg3 arg4 harg4 arg5 harg5 arg6 harg6 arg7 harg7 arg8 harg8 arg9 harg9 arg10 harg10 (harg5.unread x5) k, y ∈ p.1.set := by
  unfold tripL_k0_t2 trip_k0_t2
  dsimp only
  have l1 : (y 1).val < 2048 := (y 1).isLt
  have key : ∀ (off : Fin 2 → ℕ) (b : ℕ) (inb : ∀ a, off a + (![32, 128] : Fin 2 → ℕ) a ≤ S512x2048.size a), off = ![32 * k.val, 128 * b] → (y 1).val / 128 = b → y ∈ (Rect.unit (s := S512x2048) off ![32, 128] inb).set := by
    intro off b inb ho hb
    subst ho
    rw [Rect.mem_set_unit]
    intro a
    match a with
    | 0 => show 32 * k.val ≤ (y 0).val ∧ (y 0).val < 32 * k.val + 32; omega
    | 1 => show 128 * b ≤ (y 1).val ∧ (y 1).val < 128 * b + 128; omega
  simp only [List.exists_mem_cons_iff]
  have hb : (y 1).val / 128 < 16 := by omega
  generalize hq : (y 1).val / 128 = q at hb key
  match q, hb with
  | 15, _ => exact .inl (key _ 15 _ (k0_off51_eq k) rfl)
  | 14, _ => exact .inr (.inl (key _ 14 _ (k0_off50_eq k) rfl))
  | 13, _ => exact .inr (.inr (.inl (key _ 13 _ (k0_off49_eq k) rfl)))
  | 12, _ => exact .inr (.inr (.inr (.inl (key _ 12 _ (k0_off48_eq k) rfl))))
  | 11, _ => exact .inr (.inr (.inr (.inr (.inl (key _ 11 _ (k0_off47_eq k) rfl)))))
  | 10, _ => exact .inr (.inr (.inr (.inr (.inr (.inl (key _ 10 _ (k0_off46_eq k) rfl))))))
  | 9, _ => exact .inr (.inr (.inr (.inr (.inr (.inr (.inl (key _ 9 _ (k0_off45_eq k) rfl)))))))
  | 8, _ => exact .inr (.inr (.inr (.inr (.inr (.inr (.inr (.inl (key _ 8 _ (k0_off44_eq k) rfl))))))))
  | 7, _ => exact .inr (.inr (.inr (.inr (.inr (.inr (.inr (.inr (.inl (key _ 7 _ (k0_off43_eq k) rfl)))))))))
  | 6, _ => exact .inr (.inr (.inr (.inr (.inr (.inr (.inr (.inr (.inr (.inl (key _ 6 _ (k0_off42_eq k) rfl))))))))))
  | 5, _ => exact .inr (.inr (.inr (.inr (.inr (.inr (.inr (.inr (.inr (.inr (.inl (key _ 5 _ (k0_off41_eq k) rfl)))))))))))
  | 4, _ => exact .inr (.inr (.inr (.inr (.inr (.inr (.inr (.inr (.inr (.inr (.inr (.inl (key _ 4 _ (k0_off40_eq k) rfl))))))))))))
  | 3, _ => exact .inr (.inr (.inr (.inr (.inr (.inr (.inr (.inr (.inr (.inr (.inr (.inr (.inl (key _ 3 _ (k0_off39_eq k) rfl)))))))))))))
  | 2, _ => exact .inr (.inr (.inr (.inr (.inr (.inr (.inr (.inr (.inr (.inr (.inr (.inr (.inr (.inl (key _ 2 _ (k0_off38_eq k) rfl))))))))))))))
  | 1, _ => exact .inr (.inr (.inr (.inr (.inr (.inr (.inr (.inr (.inr (.inr (.inr (.inr (.inr (.inr (.inl (key _ 1 _ (k0_off37_eq k) rfl)))))))))))))))
  | 0, _ => exact .inr (.inr (.inr (.inr (.inr (.inr (.inr (.inr (.inr (.inr (.inr (.inr (.inr (.inr (.inr (.inl (key _ 0 _ (k0_off36_eq k) rfl))))))))))))))))
  | q + 16, h => omega

theorem round_list (x5 : Vec Ideal S512x2048 .bf16) : ∀ n, n ≤ k0_t2_loop.trips →
    (∀ p ∈ pb_k0_t2 (F := Ideal) Variants.none c none i arg1 harg1 arg2 harg2 arg3 harg3 arg4 harg4 arg5 harg5 arg6 harg6 arg7 harg7 arg8 harg8 arg9 harg9 arg10 harg10 (harg5.unread x5) n, ∀ x, p.2 x = XQ x5 (p.1.emb x)) ∧
    (∀ y : S512x2048.Idx, (y 0).val / 32 < n → ∃ p ∈ pb_k0_t2 (F := Ideal) Variants.none c none i arg1 harg1 arg2 harg2 arg3 harg3 arg4 harg4 arg5 harg5 arg6 harg6 arg7 harg7 arg8 harg8 arg9 harg9 arg10 harg10 (harg5.unread x5) n, y ∈ p.1.set)
  | 0, _ => ⟨fun p h => by unfold pb_k0_t2 at h; exact absurd h List.not_mem_nil, fun y h => absurd h (Nat.not_lt_zero _)⟩
  | n + 1, hn => by
    have ih := round_list x5 n (by omega)
    have e := pb_k0_t2_succ (F := Ideal) Variants.none c none i arg1 harg1 arg2 harg2 arg3 harg3 arg4 harg4 arg5 harg5 arg6 harg6 arg7 harg7 arg8 harg8 arg9 harg9 arg10 harg10 (harg5.unread x5) ⟨n, hn⟩
    simp only at e
    rw [e]
    refine ⟨fun p hp => ?_, fun y hy => ?_⟩
    · rcases List.mem_append.mp hp with h | h
      · exact trip_round x5 ⟨n, hn⟩ p h
      · exact ih.1 p h
    · by_cases h : (y 0).val / 32 = n
      · obtain ⟨p, hp, hm⟩ := trip_round_cover (c := c) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) x5 ⟨n, hn⟩ y h
        exact ⟨p, List.mem_append.mpr (.inl hp), hm⟩
      · obtain ⟨p, hp, hm⟩ := ih.2 y (by omega)
        exact ⟨p, List.mem_append.mpr (.inr hp), hm⟩

/-- The rounded buffer after the loop. -/
theorem read_round (x5 : Vec Ideal S512x2048 .bf16) (g10 : BufTy.Contents (Elt Ideal) arg10.view.ty) (n : ℕ) (hn : n = 16) :
    arg10.view.read (Elt Ideal) (arg10.view.writes (Elt Ideal) g10 (pb_k0_t2 (F := Ideal) Variants.none c none i arg1 harg1 arg2 harg2 arg3 harg3 arg4 harg4 arg5 harg5 arg6 harg6 arg7 harg7 arg8 harg8 arg9 harg9 arg10 harg10 (harg5.unread x5) n)) = XQ x5 := by
  subst hn
  have h := round_list (c := c) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) x5 16 (by decide)
  funext y
  refine View.read_writes_apply_of_pieces _ _ _ _ h.1 y (h.2 y ?_)
  have : (y 0).val < 512 := (y 0).isLt
  omega

end

end Cert.KernelIdeal.Hand
-- ==== Proof.KernelIdeal.DequantRun.lean ====
/- What the first loop leaves: every 64 × 128 block of the weight buffer is stored once and holds the dequantised
   block of the group's weights at the same place. So the buffer reads, entry by entry, as the weight times its
   scale. -/
module

public import proofs.«01_k».proof.Proof.Gen.KernelIdeal.Loops
public import proofs.«01_k».proof.Proof.KernelIdeal.Dequant
public import proofs.«01_k».proof.Proof.KernelIdeal.RoundRun

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The dequantised weights of a group. -/
def WD (x6 : Vec Ideal S1x2816x2048 .fp8e4m3) (x7 : Vec Ideal S1x2816x64 .i8) : Vec Ideal S2816x2048 .bf16 := fun y =>
  (x6 (ValueIdx.ix3 0 (y 0) (y 1)) : EReal) * Ideal.ofBits .bf16 (scaleBits (x7 (ValueIdx.ix3 0 (y 0) ⟨(y 1).val / 32, by have := (y 1).isLt; have : S2816x2048.size 1 = 2048 := rfl; omega⟩)))

/-- Two indices of a rank-three array with the same coordinates. -/
theorem ix3_ext {k m n : ℕ} (p q : (⟨3, ![k, m, n]⟩ : Shape).Idx) (h0 : (p 0).val = (q 0).val) (h1 : (p 1).val = (q 1).val) (h2 : (p 2).val = (q 2).val) : p = q := by
  funext a
  match a with
  | 0 => exact Fin.ext h0
  | 1 => exact Fin.ext h1
  | 2 => exact Fin.ext h2

section
variable {c : Dev nD} {i : grid0.Coords} {arg1 : Memref sig .tc .smem S135 .i32} {harg1 : arg1.IsWhole} {arg2 : Memref sig .tc .smem S135 .i32} {harg2 : arg2.IsWhole} {arg3 : Memref sig .tc .smem S135 .i32} {harg3 : arg3.IsWhole} {arg4 : Memref sig .tc .smem S135 .i32} {harg4 : arg4.IsWhole} {arg5 : Memref sig .tc .vmem S512x2048 .bf16} {harg5 : arg5.IsWhole} {arg6 : Memref sig .tc .vmem S1x2816x2048 .fp8e4m3} {harg6 : arg6.IsWhole} {arg7 : Memref sig .tc .vmem S1x2816x64 .i8} {harg7 : arg7.IsWhole} {arg8 : Memref sig .tc .vmem S512x2816 .bf16} {harg8 : arg8.IsWhole} {arg9 : Memref sig .tc .vmem S2816x2048 .bf16} {harg9 : arg9.IsWhole} {arg10 : Memref sig .tc .vmem S512x2048 .bf16} {harg10 : arg10.IsWhole}

theorem deq_piece (X6 : BufTy.Contents (Elt Ideal) arg6.view.ty) (X7 : BufTy.Contents (Elt Ideal) arg7.view.ty) (o7 o6 : Fin 3 → ℕ) (off : Fin 2 → ℕ) (m : ℕ) (b : Fin 16)
    (e7 : o7 = ![0, 64 * m, 0]) (e6 : o6 = ![0, 64 * m, 128 * b.val]) (ho : off = ![64 * m, 128 * b.val])
    (inb7 : ∀ a, o7 a + S1x64x64.size a ≤ S1x2816x64.size a) (inb6 : ∀ a, o6 a + (![1, 64, 128] : Fin 3 → ℕ) a ≤ S1x2816x2048.size a)
    (inb : ∀ a, off a + (![64, 128] : Fin 2 → ℕ) a ≤ S2816x2048.size a)
    (x : (Rect.unit (s := S2816x2048) off ![64, 128] inb).shape.Idx) :
    deqBlock (BitVec.ofNat 32 (4 * b.val)) (View.readAt (Elt Ideal) arg7.view (Rect.unit (s := S1x2816x64) o7 S1x64x64.size inb7).toLoadRect X7)
        (View.readAt (Elt Ideal) arg6.view (Rect.unit (s := S1x2816x2048) o6 ![1, 64, 128] inb6).toLoadRect X6) x
      = WD (arg6.view.read (Elt Ideal) X6) (arg7.view.read (Elt Ideal) X7) ((Rect.unit (s := S2816x2048) off ![64, 128] inb).emb x) := by
  subst e7 e6 ho
  have hx : x = ValueIdx.ix2 (x 0) (x 1) := ix2_ext _ _ rfl rfl
  have l0 : (x 0).val < 64 := (x 0).isLt
  have l1 : (x 1).val < 128 := (x 1).isLt
  have e := deqBlock_apply b (View.readAt (Elt Ideal) arg7.view (Rect.unit (s := S1x2816x64) ![0, 64 * m, 0] S1x64x64.size inb7).toLoadRect X7)
        (View.readAt (Elt Ideal) arg6.view (Rect.unit (s := S1x2816x2048) ![0, 64 * m, 128 * b.val] ![1, 64, 128] inb6).toLoadRect X6) (x 0) (x 1)
  refine (congrArg _ hx).trans (e.trans ?_)
  unfold WD
  simp only [View.readAt_apply]
  refine congrArg₂ (· * ·) (congrArg (View.read (Elt Ideal) arg6.view X6) (ix3_ext _ _ rfl rfl rfl)) (congrArg (fun z => Ideal.ofBits .bf16 (scaleBits z)) (congrArg (View.read (Elt Ideal) arg7.view X7) (ix3_ext _ _ rfl rfl ?_)))
  show 0 + 1 * ((x 1).val / 32 + 4 * b.val) = (128 * b.val + 1 * (x 1).val) / 32
  omega

theorem trip_deq (X6 : BufTy.Contents (Elt Ideal) arg6.view.ty) (X7 : BufTy.Contents (Elt Ideal) arg7.view.ty) (k : Fin k0_t1_loop.trips) :
    ∀ p ∈ tripL_k0_t1 (F := Ideal) Variants.none c none i arg1 harg1 arg2 harg2 arg3 harg3 arg4 harg4 arg5 harg5 arg6 harg6 arg7 harg7 arg8 harg8 arg9 harg9 arg10 harg10 X6 X7 k, ∀ x, p.2 x = WD (arg6.view.read (Elt Ideal) X6) (arg7.view.read (Elt Ideal) X7) (p.1.emb x) := by
  unfold tripL_k0_t1 trip_k0_t1
  dsimp only
  simp only [List.forall_mem_cons]
  refine ⟨fun x => deq_piece (arg6 := arg6) (arg7 := arg7) X6 X7 (k0_off3 k) (k0_off34 k) (k0_off35 k) k.val 15 (k0_off3_eq k) (k0_off34_eq k) (k0_off35_eq k) _ _ _ x, fun x => deq_piece (arg6 := arg6) (arg7 := arg7) X6 X7 (k0_off3 k) (k0_off32 k) (k0_off33 k) k.val 14 (k0_off3_eq k) (k0_off32_eq k) (k0_off33_eq k) _ _ _ x, fun x => deq_piece (arg6 := arg6) (arg7 := arg7) X6 X7 (k0_off3 k) (k0_off30 k) (k0_off31 k) k.val 13 (k0_off3_eq k) (k0_off30_eq k) (k0_off31_eq k) _ _ _ x, fun x => deq_piece (arg6 := arg6) (arg7 := arg7) X6 X7 (k0_off3 k) (k0_off28 k) (k0_off29 k) k.val 12 (k0_off3_eq k) (k0_off28_eq k) (k0_off29_eq k) _ _ _ x, fun x => deq_piece (arg6 := arg6) (arg7 := arg7) X6 X7 (k0_off3 k) (k0_off26 k) (k0_off27 k) k.val 11 (k0_off3_eq k) (k0_off26_eq k) (k0_off27_eq k) _ _ _ x, fun x => deq_piece (arg6 := arg6) (arg7 := arg7) X6 X7 (k0_off3 k) (k0_off24 k) (k0_off25 k) k.val 10 (k0_off3_eq k) (k0_off24_eq k) (k0_off25_eq k) _ _ _ x, fun x => deq_piece (arg6 := arg6) (arg7 := arg7) X6 X7 (k0_off3 k) (k0_off22 k) (k0_off23 k) k.val 9 (k0_off3_eq k) (k0_off22_eq k) (k0_off23_eq k) _ _ _ x, fun x => deq_piece (arg6 := arg6) (arg7 := arg7) X6 X7 (k0_off3 k) (k0_off20 k) (k0_off21 k) k.val 8 (k0_off3_eq k) (k0_off20_eq k) (k0_off21_eq k) _ _ _ x, fun x => deq_piece (arg6 := arg6) (arg7 := arg7) X6 X7 (k0_off3 k) (k0_off18 k) (k0_off19 k) k.val 7 (k0_off3_eq k) (k0_off18_eq k) (k0_off19_eq k) _ _ _ x, fun x => deq_piece (arg6 := arg6) (arg7 := arg7) X6 X7 (k0_off3 k) (k0_off16 k) (k0_off17 k) k.val 6 (k0_off3_eq k) (k0_off16_eq k) (k0_off17_eq k) _ _ _ x, fun x => deq_piece (arg6 := arg6) (arg7 := arg7) X6 X7 (k0_off3 k) (k0_off14 k) (k0_off15 k) k.val 5 (k0_off3_eq k) (k0_off14_eq k) (k0_off15_eq k) _ _ _ x, fun x => deq_piece (arg6 := arg6) (arg7 := arg7) X6 X7 (k0_off3 k) (k0_off12 k) (k0_off13 k) k.val 4 (k0_off3_eq k) (k0_off12_eq k) (k0_off13_eq k) _ _ _ x, fun x => deq_piece (arg6 := arg6) (arg7 := arg7) X6 X7 (k0_off3 k) (k0_off10 k) (k0_off11 k) k.val 3 (k0_off3_eq k) (k0_off10_eq k) (k0_off11_eq k) _ _ _ x, fun x => deq_piece (arg6 := arg6) (arg7 := arg7) X6 X7 (k0_off3 k) (k0_off8 k) (k0_off9 k) k.val 2 (k0_off3_eq k) (k0_off8_eq k) (k0_off9_eq k) _ _ _ x, fun x => deq_piece (arg6 := arg6) (arg7 := arg7) X6 X7 (k0_off3 k) (k0_off6 k) (k0_off7 k) k.val 1 (k0_off3_eq k) (k0_off6_eq k) (k0_off7_eq k) _ _ _ x, fun x => deq_piece (arg6 := arg6) (arg7 := arg7) X6 X7 (k0_off3 k) (k0_off4 k) (k0_off5 k) k.val 0 (k0_off3_eq k) (k0_off4_eq k) (k0_off5_eq k) _ _ _ x, fun _ h => absurd h List.not_mem_nil⟩

theorem trip_deq_cover (X6 : BufTy.Contents (Elt Ideal) arg6.view.ty) (X7 : BufTy.Contents (Elt Ideal) arg7.view.ty) (k : Fin k0_t1_loop.trips) (y : S2816x2048.Idx) (h : (y 0).val / 64 = k.val) :
    ∃ p ∈ tripL_k0_t1 (F := Ideal) Variants.none c none i arg1 harg1 arg2 harg2 arg3 harg3 arg4 harg4 arg5 harg5 arg6 harg6 arg7 harg7 arg8 harg8 arg9 harg9 arg10 harg10 X6 X7 k, y ∈ p.1.set := by
  unfold tripL_k0_t1 trip_k0_t1
  dsimp only
  have l1 : (y 1).val < 2048 := (y 1).isLt
  have key : ∀ (off : Fin 2 → ℕ) (b : ℕ) (inb : ∀ a, off a + (![64, 128] : Fin 2 → ℕ) a ≤ S2816x2048.size a), off = ![64 * k.val, 128 * b] → (y 1).val / 128 = b → y ∈ (Rect.unit (s := S2816x2048) off ![64, 128] inb).set := by
    intro off b inb ho hb
    subst ho
    rw [Rect.mem_set_unit]
    intro a
    match a with
    | 0 => show 64 * k.val ≤ (y 0).val ∧ (y 0).val < 64 * k.val + 64; omega
    | 1 => show 128 * b ≤ (y 1).val ∧ (y 1).val < 128 * b + 128; omega
  simp only [List.exists_mem_cons_iff]
  have hb : (y 1).val / 128 < 16 := by omega
  generalize hq : (y 1).val / 128 = q at hb key
  match q, hb with
  | 15, _ => exact .inl (key _ 15 _ (k0_off35_eq k) rfl)
  | 14, _ => exact .inr (.inl (key _ 14 _ (k0_off33_eq k) rfl))
  | 13, _ => exact .inr (.inr (.inl (key _ 13 _ (k0_off31_eq k) rfl)))
  | 12, _ => exact .inr (.inr (.inr (.inl (key _ 12 _ (k0_off29_eq k) rfl))))
  | 11, _ => exact .inr (.inr (.inr (.inr (.inl (key _ 11 _ (k0_off27_eq k) rfl)))))
  | 10, _ => exact .inr (.inr (.inr (.inr (.inr (.inl (key _ 10 _ (k0_off25_eq k) rfl))))))
  | 9, _ => exact .inr (.inr (.inr (.inr (.inr (.inr (.inl (key _ 9 _ (k0_off23_eq k) rfl)))))))
  | 8, _ => exact .inr (.inr (.inr (.inr (.inr (.inr (.inr (.inl (key _ 8 _ (k0_off21_eq k) rfl))))))))
  | 7, _ => exact .inr (.inr (.inr (.inr (.inr (.inr (.inr (.inr (.inl (key _ 7 _ (k0_off19_eq k) rfl)))))))))
  | 6, _ => exact .inr (.inr (.inr (.inr (.inr (.inr (.inr (.inr (.inr (.inl (key _ 6 _ (k0_off17_eq k) rfl))))))))))
  | 5, _ => exact .inr (.inr (.inr (.inr (.inr (.inr (.inr (.inr (.inr (.inr (.inl (key _ 5 _ (k0_off15_eq k) rfl)))))))))))
  | 4, _ => exact .inr (.inr (.inr (.inr (.inr (.inr (.inr (.inr (.inr (.inr (.inr (.inl (key _ 4 _ (k0_off13_eq k) rfl))))))))))))
  | 3, _ => exact .inr (.inr (.inr (.inr (.inr (.inr (.inr (.inr (.inr (.inr (.inr (.inr (.inl (key _ 3 _ (k0_off11_eq k) rfl)))))))))))))
  | 2, _ => exact .inr (.inr (.inr (.inr (.inr (.inr (.inr (.inr (.inr (.inr (.inr (.inr (.inr (.inl (key _ 2 _ (k0_off9_eq k) rfl))))))))))))))
  | 1, _ => exact .inr (.inr (.inr (.inr (.inr (.inr (.inr (.inr (.inr (.inr (.inr (.inr (.inr (.inr (.inl (key _ 1 _ (k0_off7_eq k) rfl)))))))))))))))
  | 0, _ => exact .inr (.inr (.inr (.inr (.inr (.inr (.inr (.inr (.inr (.inr (.inr (.inr (.inr (.inr (.inr (.inl (key _ 0 _ (k0_off5_eq k) rfl))))))))))))))))
  | q + 16, h => omega

theorem deq_list (X6 : BufTy.Contents (Elt Ideal) arg6.view.ty) (X7 : BufTy.Contents (Elt Ideal) arg7.view.ty) : ∀ n, n ≤ k0_t1_loop.trips →
    (∀ p ∈ pb_k0_t1 (F := Ideal) Variants.none c none i arg1 harg1 arg2 harg2 arg3 harg3 arg4 harg4 arg5 harg5 arg6 harg6 arg7 harg7 arg8 harg8 arg9 harg9 arg10 harg10 X6 X7 n, ∀ x, p.2 x = WD (arg6.view.read (Elt Ideal) X6) (arg7.view.read (Elt Ideal) X7) (p.1.emb x)) ∧
    (∀ y : S2816x2048.Idx, (y 0).val / 64 < n → ∃ p ∈ pb_k0_t1 (F := Ideal) Variants.none c none i arg1 harg1 arg2 harg2 arg3 harg3 arg4 harg4 arg5 harg5 arg6 harg6 arg7 harg7 arg8 harg8 arg9 harg9 arg10 harg10 X6 X7 n, y ∈ p.1.set)
  | 0, _ => ⟨fun p h => by unfold pb_k0_t1 at h; exact absurd h List.not_mem_nil, fun y h => absurd h (Nat.not_lt_zero _)⟩
  | n + 1, hn => by
    have ih := deq_list X6 X7 n (by omega)
    have e := pb_k0_t1_succ (F := Ideal) Variants.none c none i arg1 harg1 arg2 harg2 arg3 harg3 arg4 harg4 arg5 harg5 arg6 harg6 arg7 harg7 arg8 harg8 arg9 harg9 arg10 harg10 X6 X7 ⟨n, hn⟩
    simp only at e
    rw [e]
    refine ⟨fun p hp => ?_, fun y hy => ?_⟩
    · rcases List.mem_append.mp hp with h | h
      · exact trip_deq X6 X7 ⟨n, hn⟩ p h
      · exact ih.1 p h
    · by_cases h : (y 0).val / 64 = n
      · obtain ⟨p, hp, hm⟩ := trip_deq_cover (c := c) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) X6 X7 ⟨n, hn⟩ y h
        exact ⟨p, List.mem_append.mpr (.inl hp), hm⟩
      · obtain ⟨p, hp, hm⟩ := ih.2 y (by omega)
        exact ⟨p, List.mem_append.mpr (.inr hp), hm⟩

/-- The weight buffer after the loop. -/
theorem read_deq (X6 : BufTy.Contents (Elt Ideal) arg6.view.ty) (X7 : BufTy.Contents (Elt Ideal) arg7.view.ty) (g9 : BufTy.Contents (Elt Ideal) arg9.view.ty) (n : ℕ) (hn : n = 44) :
    arg9.view.read (Elt Ideal) (arg9.view.writes (Elt Ideal) g9 (pb_k0_t1 (F := Ideal) Variants.none c none i arg1 harg1 arg2 harg2 arg3 harg3 arg4 harg4 arg5 harg5 arg6 harg6 arg7 harg7 arg8 harg8 arg9 harg9 arg10 harg10 X6 X7 n)) = WD (arg6.view.read (Elt Ideal) X6) (arg7.view.read (Elt Ideal) X7) := by
  subst hn
  have h := deq_list (c := c) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) X6 X7 44 (by decide)
  funext y
  refine View.read_writes_apply_of_pieces _ _ _ _ h.1 y (h.2 y ?_)
  have : (y 0).val < 2816 := (y 0).isLt
  omega

end

end Cert.KernelIdeal.Hand
-- ==== Proof.KernelIdeal.Products.lean ====
/- What the products leave in the output window: eleven blocks of 256 columns, each stored once. Unmasked, an entry is
   the dot product of the row of rounded activations with the row of dequantised weights; masked, that holds of the
   rows of the visit's range, and every other row keeps what the window held. -/
module

public import proofs.«01_k».proof.Proof.KernelIdeal.Tail
public import proofs.«01_k».proof.Proof.KernelIdeal.RoundRun

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The products. -/
def PR (xq : Vec Ideal S512x2048 .bf16) (wb : Vec Ideal S2816x2048 .bf16) : Vec Ideal S512x2816 .bf16 := fun y =>
  (∑ k : Fin 2048, (xq (ValueIdx.ix2 (y 0) k) : EReal) * wb (ValueIdx.ix2 (y 1) k) : EReal)

/-- The masked products. -/
def PM (v3 v5 : BitVec 32) (xq : Vec Ideal S512x2048 .bf16) (wb : Vec Ideal S2816x2048 .bf16) (old : Vec Ideal S512x2816 .bf16) : Vec Ideal S512x2816 .bf16 := fun y =>
  if v3.toInt ≤ ((y 0).val : ℤ) ∧ ((y 0).val : ℤ) < v5.toInt then PR xq wb y else old y

theorem prod_apply (xq : Vec Ideal S512x2048 .bf16) (wb : Vec Ideal S256x2048 .bf16) (r : Fin 512) (l : Fin 256) :
    k0_pay90 (F := Ideal) xq wb (ValueIdx.ix2 r l) = (∑ k : Fin 2048, (xq (ValueIdx.ix2 r k) : EReal) * wb (ValueIdx.ix2 l k) : EReal) := by
  pointwise [k0_pay90]
  refine Finset.sum_congr rfl fun k _ => ?_
  exact congrArg₂ (· * ·) (congrArg xq (ix2_ext _ _ rfl rfl)) (congrArg wb (ix2_ext _ _ rfl rfl))

theorem mask_apply (v3 v5 : BitVec 32) (xq : Vec Ideal S512x2048 .bf16) (wb : Vec Ideal S256x2048 .bf16) (old : Vec Ideal S512x256 .bf16) (r : Fin 512) (l : Fin 256) :
    k0_pay100 (F := Ideal) v3 v5 xq wb old (ValueIdx.ix2 r l)
      = if v3.toInt ≤ (r.val : ℤ) ∧ (r.val : ℤ) < v5.toInt then k0_pay90 (F := Ideal) xq wb (ValueIdx.ix2 r l) else old (ValueIdx.ix2 r l) := by
  have e : k0_pay100 (F := Ideal) v3 v5 xq wb old (ValueIdx.ix2 r l) = Scalar.select (IntOp.andi (IntOp.cmpi .sge (iota .tc S512x256 32 [0] iota_S512x256_d0_w32 (ValueIdx.ix2 r l)) v3) (IntOp.cmpi .slt (iota .tc S512x256 32 [0] iota_S512x256_d0_w32 (ValueIdx.ix2 r l)) v5))
      (k0_pay90 (F := Ideal) xq wb (ValueIdx.ix2 r l)) (shapeCast S512x256 old shapeCasts_S512x256_S512x256 (ValueIdx.ix2 r l)) := rfl
  have ei : iota .tc S512x256 32 [0] iota_S512x256_d0_w32 (ValueIdx.ix2 r l) = BitVec.ofNat 32 r.val := by pointwise
  have ec : shapeCast S512x256 old shapeCasts_S512x256_S512x256 (ValueIdx.ix2 r l) = old (ValueIdx.ix2 r l) := by pointwise
  have ew : (BitVec.ofNat 32 r.val).toInt = (r.val : ℤ) := by
    rw [BitVec.toInt_eq_toNat_of_lt] <;> rw [BitVec.toNat_ofNat] <;> omega
  rw [e, ei, ec]
  by_cases h3 : v3.toInt ≤ (r.val : ℤ) <;> by_cases h5 : (r.val : ℤ) < v5.toInt <;>
    simp [IntOp.cmpi, IntOp.andi, BitVec.slt, BitVec.sle, ew, h3, h5, Scalar.select]

section
variable {c : Dev nD} {i : grid0.Coords} {arg1 : Memref sig .tc .smem S135 .i32} {harg1 : arg1.IsWhole} {arg2 : Memref sig .tc .smem S135 .i32} {harg2 : arg2.IsWhole} {arg3 : Memref sig .tc .smem S135 .i32} {harg3 : arg3.IsWhole} {arg4 : Memref sig .tc .smem S135 .i32} {harg4 : arg4.IsWhole} {arg5 : Memref sig .tc .vmem S512x2048 .bf16} {harg5 : arg5.IsWhole} {arg6 : Memref sig .tc .vmem S1x2816x2048 .fp8e4m3} {harg6 : arg6.IsWhole} {arg7 : Memref sig .tc .vmem S1x2816x64 .i8} {harg7 : arg7.IsWhole} {arg8 : Memref sig .tc .vmem S512x2816 .bf16} {harg8 : arg8.IsWhole} {arg9 : Memref sig .tc .vmem S2816x2048 .bf16} {harg9 : arg9.IsWhole} {arg10 : Memref sig .tc .vmem S512x2048 .bf16} {harg10 : arg10.IsWhole}

theorem prod_piece (xq : Vec Ideal S512x2048 .bf16) (g9 : BufTy.Contents (Elt Ideal) arg9.view.ty) (b : ℕ)
    (inb9 : ∀ a, (![256 * b, 0] : Fin 2 → ℕ) a + (![256, 2048] : Fin 2 → ℕ) a ≤ S2816x2048.size a)
    (inb : ∀ a, (![0, 256 * b] : Fin 2 → ℕ) a + (![512, 256] : Fin 2 → ℕ) a ≤ S512x2816.size a)
    (x : (Rect.unit (s := S512x2816) ![0, 256 * b] ![512, 256] inb).shape.Idx) :
    k0_pay90 (F := Ideal) xq (View.readAt (Elt Ideal) arg9.view (Rect.unit (s := S2816x2048) ![256 * b, 0] ![256, 2048] inb9).toLoadRect g9) x
      = PR xq (arg9.view.read (Elt Ideal) g9) ((Rect.unit (s := S512x2816) ![0, 256 * b] ![512, 256] inb).emb x) := by
  have hx : x = ValueIdx.ix2 (x 0) (x 1) := ix2_ext _ _ rfl rfl
  refine (congrArg _ hx).trans ((prod_apply xq (View.readAt (Elt Ideal) arg9.view (Rect.unit (s := S2816x2048) ![256 * b, 0] ![256, 2048] inb9).toLoadRect g9) (x 0) (x 1)).trans ?_)
  unfold PR
  refine Finset.sum_congr rfl fun k _ => ?_
  rw [View.readAt_apply]
  refine congrArg₂ (· * ·) (congrArg xq (ix2_ext _ _ ?_ rfl)) (congrArg (View.read (Elt Ideal) arg9.view g9) (ix2_ext _ _ ?_ ?_))
  · show (x 0).val = 0 + 1 * (x 0).val
    omega
  · rfl
  · show 0 + 1 * k.val = k.val
    omega

theorem mask_piece (v3 v5 : BitVec 32) (xq : Vec Ideal S512x2048 .bf16) (g8 : BufTy.Contents (Elt Ideal) arg8.view.ty) (g9 : BufTy.Contents (Elt Ideal) arg9.view.ty) (b : ℕ)
    (inb9 : ∀ a, (![256 * b, 0] : Fin 2 → ℕ) a + (![256, 2048] : Fin 2 → ℕ) a ≤ S2816x2048.size a)
    (inb inb' : ∀ a, (![0, 256 * b] : Fin 2 → ℕ) a + (![512, 256] : Fin 2 → ℕ) a ≤ S512x2816.size a)
    (x : (Rect.unit (s := S512x2816) ![0, 256 * b] ![512, 256] inb).shape.Idx) :
    k0_pay100 (F := Ideal) v3 v5 xq (View.readAt (Elt Ideal) arg9.view (Rect.unit (s := S2816x2048) ![256 * b, 0] ![256, 2048] inb9).toLoadRect g9)
        (View.readAt (Elt Ideal) arg8.view (Rect.unit (s := S512x2816) ![0, 256 * b] ![512, 256] inb').toLoadRect g8) x
      = PM v3 v5 xq (arg9.view.read (Elt Ideal) g9) (arg8.view.read (Elt Ideal) g8) ((Rect.unit (s := S512x2816) ![0, 256 * b] ![512, 256] inb).emb x) := by
  have hx : x = ValueIdx.ix2 (x 0) (x 1) := ix2_ext _ _ rfl rfl
  refine (congrArg _ hx).trans ((mask_apply v3 v5 xq _ _ (x 0) (x 1)).trans ?_)
  have h0 : ((Rect.unit (s := S512x2816) ![0, 256 * b] ![512, 256] inb).emb x 0).val = (x 0).val := by
    rw [unit_emb_val]
    show 0 + (x 0).val = _
    omega
  unfold PM
  rw [h0]
  split
  · exact (congrArg _ hx.symm).trans (prod_piece xq g9 b inb9 inb x)
  · rw [View.readAt_apply]
    exact congrArg (View.read (Elt Ideal) arg8.view g8) (ix2_ext _ _ rfl rfl)

theorem v27_full (x5 : Vec Ideal S512x2048 .bf16) (g10 : BufTy.Contents (Elt Ideal) arg10.view.ty) : tailRun_full.sl.v27 (F := Ideal) c i arg1 harg1 arg2 harg2 arg3 harg3 arg4 harg4 arg5 harg5 arg6 harg6 arg7 harg7 arg8 harg8 arg9 harg9 arg10 harg10 x5 g10 = XQ x5 := by
  unfold tailRun_full.sl.v27
  funext y
  rw [View.readAt_apply, read_round (harg5 := harg5) x5 g10 _ (by decide)]
  exact congrArg (XQ x5) (ix2_ext _ _ (by show 0 + 1 * (y 0).val = (y 0).val; omega) (by show 0 + 1 * (y 1).val = (y 1).val; omega))

theorem v27_masked (x5 : Vec Ideal S512x2048 .bf16) (g10 : BufTy.Contents (Elt Ideal) arg10.view.ty) : tailRun_masked.sl.v27 (F := Ideal) c i arg1 harg1 arg2 harg2 arg3 harg3 arg4 harg4 arg5 harg5 arg6 harg6 arg7 harg7 arg8 harg8 arg9 harg9 arg10 harg10 x5 g10 = XQ x5 := by
  unfold tailRun_masked.sl.v27
  funext y
  rw [View.readAt_apply, read_round (harg5 := harg5) x5 g10 _ (by decide)]
  exact congrArg (XQ x5) (ix2_ext _ _ (by show 0 + 1 * (y 0).val = (y 0).val; omega) (by show 0 + 1 * (y 1).val = (y 1).val; omega))

theorem full_pieces (v3 v5 : BitVec 32) (h2 : k0_cond2 v3 v5 = 1#1) (h3 : k0_cond3 v3 v5 = 1#1) (h4 : ¬ k0_cond4 v3 v5 = 1#1)
    (x5 : Vec Ideal S512x2048 .bf16) (g9 : BufTy.Contents (Elt Ideal) arg9.view.ty) (g10 : BufTy.Contents (Elt Ideal) arg10.view.ty) :
    (∀ p ∈ (tailRun_full (F := Ideal) c i arg1 harg1 arg2 harg2 arg3 harg3 arg4 harg4 arg5 harg5 arg6 harg6 arg7 harg7 arg8 harg8 arg9 harg9 arg10 harg10 v3 v5 h2 h3 h4 x5 g9 g10).1, ∀ x, p.2 x = PR (XQ x5) (arg9.view.read (Elt Ideal) g9) (p.1.emb x))
    ∧ ∀ y : S512x2816.Idx, ∃ p ∈ (tailRun_full (F := Ideal) c i arg1 harg1 arg2 harg2 arg3 harg3 arg4 harg4 arg5 harg5 arg6 harg6 arg7 harg7 arg8 harg8 arg9 harg9 arg10 harg10 v3 v5 h2 h3 h4 x5 g9 g10).1, y ∈ p.1.set := by
  unfold tailRun_full
  dsimp only
  constructor
  · unfold tailRun_full.sl.r
    rw [v27_full]
    simp only [List.forall_mem_cons]
    exact ⟨fun x => prod_piece (arg9 := arg9) (XQ x5) g9 10 _ _ x, fun x => prod_piece (arg9 := arg9) (XQ x5) g9 9 _ _ x, fun x => prod_piece (arg9 := arg9) (XQ x5) g9 8 _ _ x, fun x => prod_piece (arg9 := arg9) (XQ x5) g9 7 _ _ x, fun x => prod_piece (arg9 := arg9) (XQ x5) g9 6 _ _ x, fun x => prod_piece (arg9 := arg9) (XQ x5) g9 5 _ _ x, fun x => prod_piece (arg9 := arg9) (XQ x5) g9 4 _ _ x, fun x => prod_piece (arg9 := arg9) (XQ x5) g9 3 _ _ x, fun x => prod_piece (arg9 := arg9) (XQ x5) g9 2 _ _ x, fun x => prod_piece (arg9 := arg9) (XQ x5) g9 1 _ _ x, fun x => prod_piece (arg9 := arg9) (XQ x5) g9 0 _ _ x, fun _ h => absurd h List.not_mem_nil⟩
  · intro y
    have l1 : (y 1).val < 2816 := (y 1).isLt
    have l0 : (y 0).val < 512 := (y 0).isLt
    have key : ∀ (b : ℕ) (inb : ∀ a, (![0, 256 * b] : Fin 2 → ℕ) a + (![512, 256] : Fin 2 → ℕ) a ≤ S512x2816.size a), (y 1).val / 256 = b → y ∈ (Rect.unit (s := S512x2816) ![0, 256 * b] ![512, 256] inb).set := by
      intro b inb hb
      rw [Rect.mem_set_unit]
      intro a
      match a with
      | 0 => show 0 ≤ (y 0).val ∧ (y 0).val < 0 + 512; omega
      | 1 => show 256 * b ≤ (y 1).val ∧ (y 1).val < 256 * b + 256; omega
    simp only [List.exists_mem_cons_iff]
    have hb : (y 1).val / 256 < 11 := by omega
    generalize hq : (y 1).val / 256 = q at hb key
    match q, hb with
    | 10, _ => exact .inl (key 10 _ rfl)
    | 9, _ => exact .inr (.inl (key 9 _ rfl))
    | 8, _ => exact .inr (.inr (.inl (key 8 _ rfl)))
    | 7, _ => exact .inr (.inr (.inr (.inl (key 7 _ rfl))))
    | 6, _ => exact .inr (.inr (.inr (.inr (.inl (key 6 _ rfl)))))
    | 5, _ => exact .inr (.inr (.inr (.inr (.inr (.inl (key 5 _ rfl))))))
    | 4, _ => exact .inr (.inr (.inr (.inr (.inr (.inr (.inl (key 4 _ rfl)))))))
    | 3, _ => exact .inr (.inr (.inr (.inr (.inr (.inr (.inr (.inl (key 3 _ rfl))))))))
    | 2, _ => exact .inr (.inr (.inr (.inr (.inr (.inr (.inr (.inr (.inl (key 2 _ rfl)))))))))
    | 1, _ => exact .inr (.inr (.inr (.inr (.inr (.inr (.inr (.inr (.inr (.inl (key 1 _ rfl))))))))))
    | 0, _ => exact .inr (.inr (.inr (.inr (.inr (.inr (.inr (.inr (.inr (.inr (.inl (key 0 _ rfl)))))))))))
    | q + 11, h => omega

theorem masked_pieces (v3 v5 : BitVec 32) (h2 : k0_cond2 v3 v5 = 1#1) (h3 : ¬ k0_cond3 v3 v5 = 1#1) (h4 : k0_cond4 v3 v5 = 1#1)
    (x5 : Vec Ideal S512x2048 .bf16) (g8 : BufTy.Contents (Elt Ideal) arg8.view.ty) (g9 : BufTy.Contents (Elt Ideal) arg9.view.ty) (g10 : BufTy.Contents (Elt Ideal) arg10.view.ty) :
    (∀ p ∈ (tailRun_masked (F := Ideal) c i arg1 harg1 arg2 harg2 arg3 harg3 arg4 harg4 arg5 harg5 arg6 harg6 arg7 harg7 arg8 harg8 arg9 harg9 arg10 harg10 v3 v5 h2 h3 h4 x5 g8 g9 g10).1, ∀ x, p.2 x = PM v3 v5 (XQ x5) (arg9.view.read (Elt Ideal) g9) (arg8.view.read (Elt Ideal) g8) (p.1.emb x))
    ∧ ∀ y : S512x2816.Idx, ∃ p ∈ (tailRun_masked (F := Ideal) c i arg1 harg1 arg2 harg2 arg3 harg3 arg4 harg4 arg5 harg5 arg6 harg6 arg7 harg7 arg8 harg8 arg9 harg9 arg10 harg10 v3 v5 h2 h3 h4 x5 g8 g9 g10).1, y ∈ p.1.set := by
  unfold tailRun_masked
  dsimp only
  constructor
  · unfold tailRun_masked.sl.r tailRun_masked.sl.r_1 tailRun_masked.sl.r_2
    rw [v27_masked]
    simp only [List.forall_mem_cons]
    exact ⟨fun x => mask_piece (arg8 := arg8) (arg9 := arg9) v3 v5 (XQ x5) g8 g9 10 _ _ _ x, fun x => mask_piece (arg8 := arg8) (arg9 := arg9) v3 v5 (XQ x5) g8 g9 9 _ _ _ x, fun x => mask_piece (arg8 := arg8) (arg9 := arg9) v3 v5 (XQ x5) g8 g9 8 _ _ _ x, fun x => mask_piece (arg8 := arg8) (arg9 := arg9) v3 v5 (XQ x5) g8 g9 7 _ _ _ x, fun x => mask_piece (arg8 := arg8) (arg9 := arg9) v3 v5 (XQ x5) g8 g9 6 _ _ _ x, fun x => mask_piece (arg8 := arg8) (arg9 := arg9) v3 v5 (XQ x5) g8 g9 5 _ _ _ x, fun x => mask_piece (arg8 := arg8) (arg9 := arg9) v3 v5 (XQ x5) g8 g9 4 _ _ _ x, fun x => mask_piece (arg8 := arg8) (arg9 := arg9) v3 v5 (XQ x5) g8 g9 3 _ _ _ x, fun x => mask_piece (arg8 := arg8) (arg9 := arg9) v3 v5 (XQ x5) g8 g9 2 _ _ _ x, fun x => mask_piece (arg8 := arg8) (arg9 := arg9) v3 v5 (XQ x5) g8 g9 1 _ _ _ x, fun x => mask_piece (arg8 := arg8) (arg9 := arg9) v3 v5 (XQ x5) g8 g9 0 _ _ _ x, fun _ h => absurd h List.not_mem_nil⟩
  · intro y
    have l1 : (y 1).val < 2816 := (y 1).isLt
    have l0 : (y 0).val < 512 := (y 0).isLt
    have key : ∀ (b : ℕ) (inb : ∀ a, (![0, 256 * b] : Fin 2 → ℕ) a + (![512, 256] : Fin 2 → ℕ) a ≤ S512x2816.size a), (y 1).val / 256 = b → y ∈ (Rect.unit (s := S512x2816) ![0, 256 * b] ![512, 256] inb).set := by
      intro b inb hb
      rw [Rect.mem_set_unit]
      intro a
      match a with
      | 0 => show 0 ≤ (y 0).val ∧ (y 0).val < 0 + 512; omega
      | 1 => show 256 * b ≤ (y 1).val ∧ (y 1).val < 256 * b + 256; omega
    simp only [List.exists_mem_cons_iff]
    have hb : (y 1).val / 256 < 11 := by omega
    generalize hq : (y 1).val / 256 = q at hb key
    match q, hb with
    | 10, _ => exact .inl (key 10 _ rfl)
    | 9, _ => exact .inr (.inl (key 9 _ rfl))
    | 8, _ => exact .inr (.inr (.inl (key 8 _ rfl)))
    | 7, _ => exact .inr (.inr (.inr (.inl (key 7 _ rfl))))
    | 6, _ => exact .inr (.inr (.inr (.inr (.inl (key 6 _ rfl)))))
    | 5, _ => exact .inr (.inr (.inr (.inr (.inr (.inl (key 5 _ rfl))))))
    | 4, _ => exact .inr (.inr (.inr (.inr (.inr (.inr (.inl (key 4 _ rfl)))))))
    | 3, _ => exact .inr (.inr (.inr (.inr (.inr (.inr (.inr (.inl (key 3 _ rfl))))))))
    | 2, _ => exact .inr (.inr (.inr (.inr (.inr (.inr (.inr (.inr (.inl (key 2 _ rfl)))))))))
    | 1, _ => exact .inr (.inr (.inr (.inr (.inr (.inr (.inr (.inr (.inr (.inl (key 1 _ rfl))))))))))
    | 0, _ => exact .inr (.inr (.inr (.inr (.inr (.inr (.inr (.inr (.inr (.inr (.inl (key 0 _ rfl)))))))))))
    | q + 11, h => omega

/-- The output window after an unmasked visit. -/
theorem read_full (v3 v5 : BitVec 32) (h2 : k0_cond2 v3 v5 = 1#1) (h3 : k0_cond3 v3 v5 = 1#1) (h4 : ¬ k0_cond4 v3 v5 = 1#1)
    (x5 : Vec Ideal S512x2048 .bf16) (f8 : BufTy.Contents (Elt Ideal) arg8.view.ty) (g9 : BufTy.Contents (Elt Ideal) arg9.view.ty) (g10 : BufTy.Contents (Elt Ideal) arg10.view.ty) :
    arg8.view.read (Elt Ideal) (arg8.view.writes (Elt Ideal) f8 (tailRun_full (F := Ideal) c i arg1 harg1 arg2 harg2 arg3 harg3 arg4 harg4 arg5 harg5 arg6 harg6 arg7 harg7 arg8 harg8 arg9 harg9 arg10 harg10 v3 v5 h2 h3 h4 x5 g9 g10).1) = PR (XQ x5) (arg9.view.read (Elt Ideal) g9) := by
  have h := full_pieces (c := c) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) v3 v5 h2 h3 h4 x5 g9 g10
  funext y
  exact View.read_writes_apply_of_pieces _ _ _ _ h.1 y (h.2 y)

/-- The output window after a masked visit. -/
theorem read_masked (v3 v5 : BitVec 32) (h2 : k0_cond2 v3 v5 = 1#1) (h3 : ¬ k0_cond3 v3 v5 = 1#1) (h4 : k0_cond4 v3 v5 = 1#1)
    (x5 : Vec Ideal S512x2048 .bf16) (g8 : BufTy.Contents (Elt Ideal) arg8.view.ty) (g9 : BufTy.Contents (Elt Ideal) arg9.view.ty) (g10 : BufTy.Contents (Elt Ideal) arg10.view.ty) :
    arg8.view.read (Elt Ideal) (arg8.view.writes (Elt Ideal) g8 (tailRun_masked (F := Ideal) c i arg1 harg1 arg2 harg2 arg3 harg3 arg4 harg4 arg5 harg5 arg6 harg6 arg7 harg7 arg8 harg8 arg9 harg9 arg10 harg10 v3 v5 h2 h3 h4 x5 g8 g9 g10).1) = PM v3 v5 (XQ x5) (arg9.view.read (Elt Ideal) g9) (arg8.view.read (Elt Ideal) g8) := by
  have h := masked_pieces (c := c) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) v3 v5 h2 h3 h4 x5 g8 g9 g10
  funext y
  exact View.read_writes_apply_of_pieces _ _ _ _ h.1 y (h.2 y)

end

end Cert.KernelIdeal.Hand
-- ==== Proof.KernelIdeal.Output.lean ====
/- The output in full, and the blocks of the arguments that a visit works on: the rows of its tile, the weights and the
   scales of its group. Where the visit's rows lie in its group, the products are the output's entries. -/
module

public import proofs.«01_k».proof.Proof.KernelIdeal.Okay
public import proofs.«01_k».proof.Proof.KernelIdeal.DequantRun
public import proofs.«01_k».proof.Proof.KernelIdeal.Products

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Idealize.ShloMosaic.ValueIdx Cert.Visits

/-- The group of a row: the number of groups that end at or before it. -/
def gOf (G : ℕ → ℕ) (i : ℕ) : ℕ := Nat.count (fun q => E G q ≤ i) 8

theorem gOf_eq (G : ℕ → ℕ) {g i : ℕ} (hg : g < 8) (ha : St G g ≤ i) (hb : i < E G g) : gOf G i = g := by
  have hm := E_mono G
  have e : ∀ q, q < 8 → (E G q ≤ i ↔ q < g) := fun q hq => by
    constructor
    · intro h; by_contra hn; have := hm (show g ≤ q by omega); omega
    · intro h
      have : E G q ≤ E G (g - 1) := hm (by omega)
      have h2 : St G (g - 1 + 1) = E G (g - 1) := St_succ G (g - 1)
      rw [show g - 1 + 1 = g by omega] at h2
      omega
  unfold gOf
  have e8 : Nat.count (fun q => E G q ≤ i) 8 = Nat.count (fun q => q < g) 8 := by
    simp only [Nat.count_eq_card_filter_range]
    refine congrArg Finset.card (Finset.filter_congr fun q hq => e q (Finset.mem_range.mp hq))
  rw [e8]
  interval_cases g <;> decide

/-- A group's weights, a group's scales, a tile's rows. -/
def WB (w : Vec Ideal S8x2816x2048 .fp8e4m3) (g : ℕ) : Vec Ideal S1x2816x2048 .fp8e4m3 := fun y =>
  w (ValueIdx.ix3 ⟨g % 8, Nat.mod_lt _ (by decide)⟩ (y 1) (y 2))
def SB (s : Vec Ideal S8x2816x64 .i8) (g : ℕ) : Vec Ideal S1x2816x64 .i8 := fun y =>
  s (ValueIdx.ix3 ⟨g % 8, Nat.mod_lt _ (by decide)⟩ (y 1) (y 2))
def XB (x : Vec Ideal S65536x2048 .bf16) (t : ℕ) : Vec Ideal S512x2048 .bf16 := fun y =>
  x (ValueIdx.ix2 ⟨(t * 512 + (y 0).val) % 65536, Nat.mod_lt _ (by decide)⟩ (y 1))

/-- The output: each row's rounded activations times the dequantised weights of the row's group. -/
def OUT (G : ℕ → ℕ) (x : Vec Ideal S65536x2048 .bf16) (w : Vec Ideal S8x2816x2048 .fp8e4m3) (s : Vec Ideal S8x2816x64 .i8) :
    Vec Ideal S65536x2816 .bf16 := fun y =>
  PR (XQ (XB x ((y 0).val / 512))) (WD (WB w (gOf G (y 0).val)) (SB s (gOf G (y 0).val)))
    (ValueIdx.ix2 ⟨(y 0).val % 512, Nat.mod_lt _ (by decide)⟩ (y 1))

theorem out_of_row (G : ℕ → ℕ) (x w s) {t g : ℕ} (y : S512x2816.Idx) (i : Fin 65536) (hi : i.val = t * 512 + (y 0).val) (hg : g < 8)
    (ha : St G g ≤ t * 512 + (y 0).val) (hb : t * 512 + (y 0).val < E G g) :
    PR (XQ (XB x t)) (WD (WB w g) (SB s g)) y = OUT G x w s (ValueIdx.ix2 i (y 1)) := by
  have h0 : (y 0).val < 512 := (y 0).isLt
  show _ = PR (XQ (XB x (i.val / 512))) (WD (WB w (gOf G i.val)) (SB s (gOf G i.val))) _
  rw [show gOf G i.val = g by rw [hi]; exact gOf_eq G hg ha hb, show i.val / 512 = t by omega]
  exact congrArg _ (ix2_ext _ _ (by show (y 0).val = i.val % 512; omega) rfl)

variable (m : (ℓ : Loc nD τ sig) → Buf (Elt Ideal) ℓ)

theorem coord_val (t : Fin grid0.N) : (grid0.coords t 0).val = t.val := by
  have ht : t.val < 135 := t.isLt
  refine (Pipeline.Grid.coords_val t 0 (by decide) rfl : (grid0.coords t 0).val = t.val / 1 % 135).trans ?_
  omega

/-- Where an element of a staged block lies in its array, at any tables. -/
theorem emb_0 (a : (pcfg0 (F := Ideal)).Adm) (t : Fin (cfg0 a).N) (y : S512x2048.Idx) (k : Fin 2) :
    (((((cfg0 a).win 0).rect t).emb y : S65536x2048.Idx) k).val = cc0_transform_0 k0_off1_inb numel1_S1 a.1 (grid0.coords t) k * S512x2048.size k + (y k).val :=
  Pipeline.Window.rect_emb_val ((cfg0 a).win 0) t y k
theorem emb_1 (a : (pcfg0 (F := Ideal)).Adm) (t : Fin (cfg0 a).N) (y : S1x2816x2048.Idx) (k : Fin 3) :
    (((((cfg0 a).win 1).rect t).emb y : S8x2816x2048.Idx) k).val = cc0_transform_1 k0_off1_inb numel1_S1 a.1 (grid0.coords t) k * S1x2816x2048.size k + (y k).val :=
  Pipeline.Window.rect_emb_val ((cfg0 a).win 1) t y k
theorem emb_2 (a : (pcfg0 (F := Ideal)).Adm) (t : Fin (cfg0 a).N) (y : S1x2816x64.Idx) (k : Fin 3) :
    (((((cfg0 a).win 2).rect t).emb y : S8x2816x64.Idx) k).val = cc0_transform_2 k0_off1_inb numel1_S1 a.1 (grid0.coords t) k * S1x2816x64.size k + (y k).val :=
  Pipeline.Window.rect_emb_val ((cfg0 a).win 2) t y k
theorem emb_3 (a : (pcfg0 (F := Ideal)).Adm) (t : Fin (cfg0 a).N) (y : S512x2816.Idx) (k : Fin 2) :
    (((((cfg0 a).win 3).rect t).emb y : S65536x2816.Idx) k).val = cc0_transform_3 k0_off1_inb numel1_S1 a.1 (grid0.coords t) k * S512x2816.size k + (y k).val :=
  Pipeline.Window.rect_emb_val ((cfg0 a).win 3) t y k

theorem read_0 (a : (pcfg0 (F := Ideal)).Adm) (t : Fin (cfg0 a).N) (A : Vec Ideal S65536x2048 .bf16) (q : ℕ) (hq : q < 128)
    (e : cc0_transform_0 k0_off1_inb numel1_S1 a.1 (grid0.coords t) = ![q, 0]) :
    (((cfg0 a).win 0).blk t).view.read (Elt Ideal) A = XB A q := by
  refine funext fun (y : S512x2048.Idx) => ?_
  have h0 : (y 0).val < 512 := (y 0).isLt
  refine congrArg A (ix2_ext _ _ ?_ ?_)
  · refine (emb_0 a t y 0).trans ?_
    rw [e]; show q * 512 + (y 0).val = (q * 512 + (y 0).val) % 65536; omega
  · refine (emb_0 a t y 1).trans ?_
    rw [e]; show 0 * 2048 + (y 1).val = (y 1).val; omega

theorem read_1 (a : (pcfg0 (F := Ideal)).Adm) (t : Fin (cfg0 a).N) (A : Vec Ideal S8x2816x2048 .fp8e4m3) (q : ℕ) (hq : q < 8)
    (e : cc0_transform_1 k0_off1_inb numel1_S1 a.1 (grid0.coords t) = ![q, 0, 0]) :
    (((cfg0 a).win 1).blk t).view.read (Elt Ideal) A = WB A q := by
  refine funext fun (y : S1x2816x2048.Idx) => ?_
  have h0 : (y 0).val < 1 := (y 0).isLt
  refine congrArg A (ix3_ext _ _ ?_ ?_ ?_)
  · refine (emb_1 a t y 0).trans ?_
    rw [e]; show q * 1 + (y 0).val = q % 8; omega
  · refine (emb_1 a t y 1).trans ?_
    rw [e]; show 0 * 2816 + (y 1).val = (y 1).val; omega
  · refine (emb_1 a t y 2).trans ?_
    rw [e]; show 0 * 2048 + (y 2).val = (y 2).val; omega

theorem read_2 (a : (pcfg0 (F := Ideal)).Adm) (t : Fin (cfg0 a).N) (A : Vec Ideal S8x2816x64 .i8) (q : ℕ) (hq : q < 8)
    (e : cc0_transform_2 k0_off1_inb numel1_S1 a.1 (grid0.coords t) = ![q, 0, 0]) :
    (((cfg0 a).win 2).blk t).view.read (Elt Ideal) A = SB A q := by
  refine funext fun (y : S1x2816x64.Idx) => ?_
  have h0 : (y 0).val < 1 := (y 0).isLt
  refine congrArg A (ix3_ext _ _ ?_ ?_ ?_)
  · refine (emb_2 a t y 0).trans ?_
    rw [e]; show q * 1 + (y 0).val = q % 8; omega
  · refine (emb_2 a t y 1).trans ?_
    rw [e]; show 0 * 2816 + (y 1).val = (y 1).val; omega
  · refine (emb_2 a t y 2).trans ?_
    rw [e]; show 0 * 64 + (y 2).val = (y 2).val; omega

section
variable (h1 : 1 ≤ E (sz m 0) 7) (h2 : E (sz m 0) 7 ≤ 65536)
include h1 h2

theorem index_0 (t : Fin grid0.N) : cc0_transform_0 k0_off1_inb numel1_S1 (tbl m) (grid0.coords t) = ![tile (sz m 0) t.val, 0] := by
  rw [tr0, tile_nat m h1 h2]; show ![tile _ (grid0.coords t 0).val, 0] = _; rw [coord_val]
theorem index_1 (t : Fin grid0.N) : cc0_transform_1 k0_off1_inb numel1_S1 (tbl m) (grid0.coords t) = ![grp (sz m 0) t.val, 0, 0] := by
  rw [tr1, grp_nat m h1 h2]; show ![grp _ (grid0.coords t 0).val, 0, 0] = _; rw [coord_val]
theorem index_2 (t : Fin grid0.N) : cc0_transform_2 k0_off1_inb numel1_S1 (tbl m) (grid0.coords t) = ![grp (sz m 0) t.val, 0, 0] := by
  rw [tr2, grp_nat m h1 h2]; show ![grp _ (grid0.coords t 0).val, 0, 0] = _; rw [coord_val]
theorem index_3 (t : Fin grid0.N) : cc0_transform_3 k0_off1_inb numel1_S1 (tbl m) (grid0.coords t) = ![tile (sz m 0) t.val, 0] := by
  rw [tr3, tile_nat m h1 h2]; show ![tile _ (grid0.coords t 0).val, 0] = _; rw [coord_val]

theorem block_x (hO : Ok m) (t : Fin (cfgM m hO).N) : iblk m hO 0 0 t = XB (V m 0 main_arg0) (tile (sz m 0) t.val) :=
  read_0 (adm m hO) t (V m 0 main_arg0) _ (tile_lt _ h1 h2 t.val) (index_0 m h1 h2 t)
theorem block_w (hO : Ok m) (t : Fin (cfgM m hO).N) : iblk m hO 0 1 t = WB (V m 0 main_arg2) (grp (sz m 0) t.val) :=
  read_1 (adm m hO) t (V m 0 main_arg2) _ (grp_spec _ h1 t.val).1 (index_1 m h1 h2 t)
theorem block_s (hO : Ok m) (t : Fin (cfgM m hO).N) : iblk m hO 0 2 t = SB (V m 0 main_arg3) (grp (sz m 0) t.val) :=
  read_2 (adm m hO) t (V m 0 main_arg3) _ (grp_spec _ h1 t.val).1 (index_2 m h1 h2 t)
end

end Cert.KernelIdeal.Hand
-- ==== Proof.KernelIdeal.Steps.lean ====
/- One visit, in terms of the tables: the words the body reads, the test whether the weight block is rebuilt, and the
   rows of the tile that are finished after the visit. -/
module

public import proofs.«01_k».proof.Proof.KernelIdeal.Output
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Idealize.ShloMosaic.ValueIdx Cert.Visits

theorem off2_nat : ∀ p : Fin 135, (Scalar.indexCast (Scalar.maxsi (Scalar.subi (BitVec.ofNat 32 p.val) 1#32) 0#32)).toNat = p.val - 1 := by
  decide +kernel

/-- The position before a coordinate of the grid, itself at the first. -/
abbrev prev (i : grid0.Coords) : Fin 135 := ⟨(i 0).val - 1, Nat.lt_of_le_of_lt (Nat.sub_le _ _) (i 0).isLt⟩

theorem word_1 (X : IVec S135 32) (i : grid0.Coords) :
    word (F := Ideal) tM1 X (k0_off1 i) (k0_off1_inb i) = X (ValueIdx.ix1 (pos i)) :=
  entry X i
theorem word_2 (X : IVec S135 32) (i : grid0.Coords) :
    word (F := Ideal) tM2 X (k0_off1 i) (k0_off1_inb i) = X (ValueIdx.ix1 (pos i)) :=
  entry X i
theorem word_3 (X : IVec S135 32) (i : grid0.Coords) :
    word (F := Ideal) tM3 X (k0_off1 i) (k0_off1_inb i) = X (ValueIdx.ix1 (pos i)) :=
  entry X i
theorem word_1' (X : IVec S135 32) (i : grid0.Coords) :
    word (F := Ideal) tM1 X (k0_off2 i) (k0_off2_inb i) = X (ValueIdx.ix1 (prev i)) := by
  refine congrArg X (funext fun a => Fin.ext ?_)
  match a with
  | ⟨0, _⟩ =>
    show k0_off2 i 0 + 1 * 0 = (i 0).val - 1
    rw [show k0_off2 i 0 = (i 0).val - 1 from off2_nat ⟨(i 0).val, (i 0).isLt⟩, Nat.mul_zero, Nat.add_zero]

theorem condR_keep {i : grid0.Coords} {g g' : BitVec 32} (h : ¬ condR i g g') : (i 0).val ≠ 0 ∧ g = g' := by
  have h' : ¬ IntOp.cmpi .ne ((IntOp.ori (IntOp.cmpi .eq (BitVec.ofNat 32 (i 0).val) 0#32) (IntOp.cmpi .ne g g')).setWidth 32) 0#32 = 1#1 := h
  rw [WordCmp.cmpi_eq_eq, WordCmp.cmpi_ne_eq g g', WordCmp.ori_ofBool] at h'
  by_cases hg : g = g'
  · refine ⟨fun h0 => h' ?_, hg⟩
    rw [h0]; subst hg; simp [IntOp.cmpi]
  · exfalso; apply h'; simp [hg, IntOp.cmpi]

variable (m : (ℓ : Loc nD τ sig) → Buf (Elt Ideal) ℓ)

theorem tbl_1 : tbl m 1 = x_v29 m 0 := rfl
theorem tbl_2 : tbl m 2 = x_v64 m 0 := rfl
theorem tbl_3 : tbl m 3 = x_v76 m 0 := rfl

/-- The output at the arguments as the call finds them. -/
def outM : Vec Ideal S65536x2816 .bf16 := OUT (sz m 0) (V m 0 main_arg0) (V m 0 main_arg2) (V m 0 main_arg3)

/-- The weight block of a group. -/
def wbM (g : ℕ) : Vec Ideal S2816x2048 .bf16 := WD (WB (V m 0 main_arg2) g) (SB (V m 0 main_arg3) g)

/-- After visit `v` the rows of its tile up to the end of its group hold the output. -/
def Good (v : ℕ) (X : Vec Ideal S512x2816 .bf16) : Prop :=
  ∀ (y : S512x2816.Idx) (i : Fin 65536), i.val = tile (sz m 0) v * 512 + (y 0).val → i.val < E (sz m 0) (grp (sz m 0) v) → X y = outM m (ValueIdx.ix2 i (y 1))

/-- The block finds the weight block of the visit before it. -/
def Held (v : ℕ) (d : Vec Ideal S2816x2048 .bf16) : Prop := v ≠ 0 → d = wbM m (grp (sz m 0) (v - 1))

section
variable (h1 : 1 ≤ E (sz m 0) 7) (h2 : E (sz m 0) 7 ≤ 65536)
include h1 h2

/-- A visit finishes its rows, the rows before them being finished. -/
theorem good_step (v : ℕ) (lw hw : BitVec 32) (hl : lw = BitVec.ofNat 32 (lo (sz m 0) v)) (hh : hw = BitVec.ofNat 32 (hi (sz m 0) v)) (old : Vec Ideal S512x2816 .bf16)
    (hold : 0 < v → tile (sz m 0) (v - 1) = tile (sz m 0) v → Good m (v - 1) old) :
    Good m v (PM lw hw (XQ (XB (V m 0 main_arg0) (tile (sz m 0) v))) (wbM m (grp (sz m 0) v)) old) := by
  intro y i hi' hE
  have h0 : (y 0).val < 512 := (y 0).isLt
  have bl : lo (sz m 0) v ≤ 512 := by unfold lo; exact Nat.min_le_left _ _
  have bh : hi (sz m 0) v ≤ 512 := by unfold hi; split <;> omega
  have el : lw.toInt = (lo (sz m 0) v : ℤ) := by rw [hl]; exact WordCmp.toInt_ofNat_of_lt (by omega)
  have eh : hw.toInt = (hi (sz m 0) v : ℤ) := by rw [hh]; exact WordCmp.toInt_ofNat_of_lt (by omega)
  unfold PM
  rw [el, eh]
  by_cases hin : lo (sz m 0) v ≤ (y 0).val ∧ (y 0).val < hi (sz m 0) v
  · have hc := covered (sz m 0) h1 v (y 0).val h0 hin.1 hin.2
    unfold wbM outM
    exact (if_pos (by omega)).trans (out_of_row (sz m 0) _ _ _ (t := tile (sz m 0) v) (g := grp (sz m 0) v) y i hi' (grp_spec _ h1 v).1 hc.1 hc.2)
  · refine (if_neg (by omega)).trans ?_
    rcases before (sz m 0) h1 v (y 0).val h0 (by omega) with h | ⟨hv, ht, hE'⟩
    · exact absurd h hin
    · exact hold hv ht y i (by rw [ht]; exact hi') (by omega)

theorem word_lo (t : Fin grid0.N) : word tM2 (tbl m 2) (k0_off1 (grid0.coords t)) (k0_off1_inb (grid0.coords t)) = BitVec.ofNat 32 (lo (sz m 0) t.val) := by
  rw [tbl_2]; refine (word_2 _ _).trans ((at_v64 m 0 h1 h2 (pos (grid0.coords t))).trans ?_)
  show BitVec.ofNat 32 (lo _ (grid0.coords t 0).val) = _; rw [coord_val]
theorem word_hi (t : Fin grid0.N) : word tM3 (tbl m 3) (k0_off1 (grid0.coords t)) (k0_off1_inb (grid0.coords t)) = BitVec.ofNat 32 (hi (sz m 0) t.val) := by
  rw [tbl_3]; refine (word_3 _ _).trans ((at_v76 m 0 h1 h2 (pos (grid0.coords t))).trans ?_)
  show BitVec.ofNat 32 (hi _ (grid0.coords t 0).val) = _; rw [coord_val]
theorem word_grp (t : Fin grid0.N) : word tM1 (tbl m 1) (k0_off1 (grid0.coords t)) (k0_off1_inb (grid0.coords t)) = BitVec.ofNat 32 (grp (sz m 0) t.val) := by
  rw [tbl_1]; refine (word_1 _ _).trans ((at_v29 m 0 h1 h2 (pos (grid0.coords t))).trans ?_)
  show BitVec.ofNat 32 (grp _ (grid0.coords t 0).val) = _; rw [coord_val]
theorem word_grp' (t : Fin grid0.N) : word tM1 (tbl m 1) (k0_off2 (grid0.coords t)) (k0_off2_inb (grid0.coords t)) = BitVec.ofNat 32 (grp (sz m 0) (t.val - 1)) := by
  rw [tbl_1]; refine (word_1' _ _).trans ((at_v29 m 0 h1 h2 (prev (grid0.coords t))).trans ?_)
  show BitVec.ofNat 32 (grp _ ((grid0.coords t 0).val - 1)) = _; rw [coord_val]

/-- Where the block is kept it is the visit's own. -/
theorem held_keep (t : Fin grid0.N) (h : ¬ condR (grid0.coords t) (word tM1 (tbl m 1) (k0_off1 (grid0.coords t)) (k0_off1_inb (grid0.coords t))) (word tM1 (tbl m 1) (k0_off2 (grid0.coords t)) (k0_off2_inb (grid0.coords t))))
    (d : Vec Ideal S2816x2048 .bf16) (hd : Held m t.val d) : d = wbM m (grp (sz m 0) t.val) := by
  obtain ⟨h0, hg⟩ := condR_keep h
  rw [word_grp m h1 h2, word_grp' m h1 h2] at hg
  rw [coord_val] at h0
  have ga := (grp_spec (sz m 0) h1 t.val).1
  have gb := (grp_spec (sz m 0) h1 (t.val - 1)).1
  have hg' : grp (sz m 0) t.val = grp (sz m 0) (t.val - 1) := (WordCmp.ofNat_eq_ofNat_iff (by omega) (by omega)).mp hg
  rw [hg']
  exact hd h0
end

/-- A point's output block is written back at the last point and where the next point has another block. -/
theorem flush_3 (a : (pcfg0 (F := Ideal)).Adm) (t : Fin (cfg0 a).N) : ((cfg0 a).win 3).flush t = true ↔
    t.val + 1 = 135 ∨ ∃ h : t.val + 1 < 135, cc0_transform_3 k0_off1_inb numel1_S1 a.1 (grid0.coords ⟨t.val + 1, h⟩) ≠ cc0_transform_3 k0_off1_inb numel1_S1 a.1 (grid0.coords t) := by
  rw [Pipeline.Window.flush_eq_flushOf]
  unfold Pipeline.Window.flushOf
  rw [Bool.and_eq_true, Bool.or_eq_true, decide_eq_true_iff, decide_eq_true_iff]
  exact ⟨fun h => h.2, fun h => ⟨rfl, h⟩⟩

theorem flush_tile (h1 : 1 ≤ E (sz m 0) 7) (h2 : E (sz m 0) 7 ≤ 65536) (hO : Ok m) (t : Fin (cfgM m hO).N) : ((cfgM m hO).win 3).flush t = true ↔
    (134 ≤ t.val ∨ tile (sz m 0) (t.val + 1) ≠ tile (sz m 0) t.val) := by
  have ht : t.val < 135 := t.isLt
  refine (flush_3 (adm m hO) t).trans ?_
  have key : ∀ h : t.val + 1 < 135, (cc0_transform_3 k0_off1_inb numel1_S1 (tbl m) (grid0.coords ⟨t.val + 1, h⟩) ≠ cc0_transform_3 k0_off1_inb numel1_S1 (tbl m) (grid0.coords t)) ↔ tile (sz m 0) (t.val + 1) ≠ tile (sz m 0) t.val := by
    intro h
    rw [index_3 m h1 h2, index_3 m h1 h2]
    refine not_congr ⟨fun e => congrFun e 0, fun e => ?_⟩
    show ![tile (sz m 0) (t.val + 1), 0] = _
    rw [e]
  constructor
  · rintro (h | ⟨h, hk⟩)
    · exact .inl (by omega)
    · exact .inr ((key h).mp hk)
  · rintro (h | h)
    · exact .inl (by omega)
    · by_cases hl : t.val + 1 < 135
      · exact .inr ⟨hl, (key hl).mpr h⟩
      · exact .inl (by omega)

end Cert.KernelIdeal.Hand
-- ==== Proof.KernelIdeal.TailValue.lean ====
/- The body from the rounding on, with values: the output window's rows of the visit become dot products of the rounded
   activations with the weight block, every other row is kept, and the weight block is kept. -/
module

public import proofs.«01_k».proof.Proof.KernelIdeal.Setup
public import proofs.«01_k».proof.Proof.KernelIdeal.Products
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

theorem cond2_iff (v3 v5 : BitVec 32) : k0_cond2 v3 v5 = 1#1 ↔ v3.toInt < v5.toInt := by
  unfold k0_cond2
  show IntOp.cmpi .ne ((IntOp.cmpi .sgt v5 v3).setWidth 32) 0#32 = 1#1 ↔ _
  rw [WordCmp.cmpi_sgt_eq]
  by_cases h : v3.toInt < v5.toInt <;> simp [h, IntOp.cmpi]
theorem cond3_imp (v3 v5 : BitVec 32) (h : k0_cond3 v3 v5 = 1#1) : v3 = 0#32 ∧ v5 = 512#32 := by
  unfold k0_cond3 at h
  change IntOp.cmpi .ne ((IntOp.andi (IntOp.cmpi .eq v3 0#32) (IntOp.cmpi .eq v5 512#32)).setWidth 32) 0#32 = 1#1 at h
  rw [WordCmp.cmpi_eq_eq, WordCmp.cmpi_eq_eq] at h
  by_cases h3 : v3 = 0#32 <;> by_cases h5 : v5 = 512#32 <;> simp [h3, h5, IntOp.cmpi, IntOp.andi] at h ⊢

theorem PM_full (v3 v5 : BitVec 32) (h : k0_cond3 v3 v5 = 1#1) (xq wb old) : PR xq wb = PM v3 v5 xq wb old := by
  obtain ⟨rfl, rfl⟩ := cond3_imp v3 v5 h
  funext y
  have h0 : (y 0).val < 512 := (y 0).isLt
  exact (if_pos ⟨by show (0 : ℤ) ≤ _; omega, by show _ < (512 : ℤ); omega⟩).symm
theorem PM_dead (v3 v5 : BitVec 32) (h : ¬ k0_cond2 v3 v5 = 1#1) (xq wb old) : old = PM v3 v5 xq wb old := by
  rw [cond2_iff] at h
  funext y
  exact (if_neg (by omega)).symm

section
variable (c : Dev nD) (i : grid0.Coords) (arg1 : Memref sig .tc .smem S135 .i32) (harg1 : arg1.IsWhole) (arg2 : Memref sig .tc .smem S135 .i32) (harg2 : arg2.IsWhole) (arg3 : Memref sig .tc .smem S135 .i32) (harg3 : arg3.IsWhole) (arg4 : Memref sig .tc .smem S135 .i32) (harg4 : arg4.IsWhole) (arg5 : Memref sig .tc .vmem S512x2048 .bf16) (harg5 : arg5.IsWhole) (arg6 : Memref sig .tc .vmem S1x2816x2048 .fp8e4m3) (harg6 : arg6.IsWhole) (arg7 : Memref sig .tc .vmem S1x2816x64 .i8) (harg7 : arg7.IsWhole) (arg8 : Memref sig .tc .vmem S512x2816 .bf16) (harg8 : arg8.IsWhole) (arg9 : Memref sig .tc .vmem S2816x2048 .bf16) (harg9 : arg9.IsWhole) (arg10 : Memref sig .tc .vmem S512x2048 .bf16) (harg10 : arg10.IsWhole) (v3 v5 : BitVec 32) (x5 : Vec Ideal S512x2048 .bf16) (old : Vec Ideal S512x2816 .bf16) (wb : Vec Ideal S2816x2048 .bf16)

set_option maxHeartbeats 4000000 in
/-- What the tail leaves in the output's buffer, from what it finds there and in the weight block. -/
theorem tail_value (E : Set ℕ) (K : PUnit → sProp 𝕄) :
    iprop((arg5.view.loc (c : Thread nD τ) ↦[arg5.view.set]{fullShare} harg5.unread x5)
        ∗ owns (c : Thread nD τ) arg8 fullShare old ∗ owns (c : Thread nD τ) arg9 fullShare wb ∗ (∃ d, owns (c : Thread nD τ) arg10 fullShare d)
        ∗ (iprop((arg5.view.loc (c : Thread nD τ) ↦[arg5.view.set]{fullShare} harg5.unread x5)
            ∗ owns (c : Thread nD τ) arg8 fullShare (PM v3 v5 (XQ x5) wb old) ∗ owns (c : Thread nD τ) arg9 fullShare wb ∗ (∃ d, owns (c : Thread nD τ) arg10 fullShare d)) -∗ K ⟨⟩))
      ⊢ wp frame (wpE (defs₀ (F := Ideal)) Variants.none c none) E (tail (F := Ideal) i arg1 harg1 arg2 harg2 arg3 harg3 arg4 harg4 arg5 harg5 arg6 harg6 arg7 harg7 arg8 harg8 arg9 harg9 arg10 harg10 v3 v5) K := by
  unfold owns
  iintro ⟨H5, ⟨%f8, %hf8, H8⟩, ⟨%f9, %hf9, H9⟩, ⟨%d10, %f10, -, H10⟩, Hk⟩
  by_cases h2 : k0_cond2 v3 v5 = 1#1
  · by_cases h3 : k0_cond3 v3 v5 = 1#1
    · iapply ((tailRun_full (F := Ideal) c i arg1 harg1 arg2 harg2 arg3 harg3 arg4 harg4 arg5 harg5 arg6 harg6 arg7 harg7 arg8 harg8 arg9 harg9 arg10 harg10 v3 v5 h2 h3 (fun h => (cond4_iff v3 v5).mp h h3) x5 f9 f10).2.2 E f8 K)
      isplitl [H5]; · iexact H5
      isplitl [H8]; · iexact H8
      isplitl [H9]; · iexact H9
      isplitl [H10]; · iexact H10
      iintro ⟨H5, H8, H9, H10⟩
      iapply Hk
      isplitl [H5]; · iexact H5
      isplitl [H8]
      · iexists _; isplitr; swap; · iexact H8
        ipureintro
        exact (read_full (c := c) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) v3 v5 h2 h3 (fun h => (cond4_iff v3 v5).mp h h3) x5 f8 f9 f10).trans ((PM_full v3 v5 h3 _ _ old).trans (by rw [hf9]))
      isplitl [H9]
      · iexists _; isplitr; swap; · iexact H9
        ipureintro; exact hf9
      iexists _, _; isplitr; swap; · iexact H10
      ipureintro; rfl
    · iapply ((tailRun_masked (F := Ideal) c i arg1 harg1 arg2 harg2 arg3 harg3 arg4 harg4 arg5 harg5 arg6 harg6 arg7 harg7 arg8 harg8 arg9 harg9 arg10 harg10 v3 v5 h2 h3 ((cond4_iff v3 v5).mpr h3) x5 f8 f9 f10).2.2 E K)
      isplitl [H5]; · iexact H5
      isplitl [H8]; · iexact H8
      isplitl [H9]; · iexact H9
      isplitl [H10]; · iexact H10
      iintro ⟨H5, H8, H9, H10⟩
      iapply Hk
      isplitl [H5]; · iexact H5
      isplitl [H8]
      · iexists _; isplitr; swap; · iexact H8
        ipureintro
        exact (read_masked (c := c) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) v3 v5 h2 h3 ((cond4_iff v3 v5).mpr h3) x5 f8 f9 f10).trans (by rw [hf9, hf8])
      isplitl [H9]
      · iexists _; isplitr; swap; · iexact H9
        ipureintro; exact hf9
      iexists _, _; isplitr; swap; · iexact H10
      ipureintro; rfl
  · rw [tail_dead i arg1 harg1 arg2 harg2 arg3 harg3 arg4 harg4 arg5 harg5 arg6 harg6 arg7 harg7 arg8 harg8 arg9 harg9 arg10 harg10 v3 v5 h2]
    sl_step
    iapply Hk
    isplitl [H5]; · iexact H5
    isplitl [H8]
    · iexists _; isplitr; swap; · iexact H8
      ipureintro; exact hf8.trans (PM_dead v3 v5 h2 _ _ old)
    isplitl [H9]
    · iexists _; isplitr; swap; · iexact H9
      ipureintro; exact hf9
    iexists _, _; isplitr; swap; · iexact H10
    ipureintro; rfl
end

end Cert.KernelIdeal.Hand
-- ==== Proof.KernelIdeal.BodyValue.lean ====
/- The run of the call, with values: before each point the weight block is that of the visit before, after each point
   the rows of its tile up to the end of its group hold the output. -/
module

public import proofs.«01_k».proof.Proof.KernelIdeal.Frame
public import proofs.«01_k».proof.Proof.KernelIdeal.Steps
public import proofs.«01_k».proof.Proof.KernelIdeal.TailValue
public import Idealize.ShloMosaic.Lib.Pipeline.DatRel
public import Idealize.ShloMosaic.Lib.Pipeline.ArrRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Idealize.ShloMosaic.ValueIdx Cert.Visits
variable (m : (ℓ : Loc nD τ sig) → Buf (Elt Ideal) ℓ) (ρ : Dev nD → PrngReg)

/-- The arrays as the call finds them; each input's buffer at its block after every point; the weight block that of the
    visit before. -/
def datV (hO : Ok m) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
  Φ t := iprop(iprop(iprop((∃ d, ⌜Held m t.val d⌝ ∗ owns (c : Thread nD τ) sM0 fullShare d) ∗ (∃ d, owns (c : Thread nD τ) sM1 fullShare d)) ∗ (∃ r, prngReg c r)) ∗ Pipeline.ΦT pre0 (tbl m) c)
  q _ := fullShare
  owed _ := 0

/-- What a point leaves in the output's buffer. -/
def Rl (hO : Ok m) (w : Fin (cfgM m hO).W) (t : Fin (cfgM m hO).N) : (((cfgM m hO).win w).block.Idx → Elt Ideal ((cfgM m hO).win w).elt) → Prop :=
  match w with
  | ⟨0, _⟩ => fun _ => True
  | ⟨1, _⟩ => fun _ => True
  | ⟨2, _⟩ => fun _ => True
  | ⟨3, _⟩ => fun X => Good m t.val X

/-- The data with the output's buffer held to that. -/
abbrev rdV (hO : Ok m) (c : Dev nD) : Pipeline.RDat τ (Elt Ideal) Unit ℕ (UR sig nD τ) ℕ (cfgM m hO) c := (datV m hO c).toRRel forgets (Rl m hO)

theorem AV_eq (hO : Ok m) (c : Dev nD) (w : Fin (cfgM m hO).W) : (datV m hO c).A w = V m c (Pipeline.arrRef spec0 w) := by
  dsimp only [datV]
theorem afterV_0 (hO : Ok m) (c : Dev nD) (t : Fin (cfgM m hO).N) : (datV m hO c).after 0 t = iblk m hO c 0 t := by dsimp only [datV]; try rfl
theorem afterV_1 (hO : Ok m) (c : Dev nD) (t : Fin (cfgM m hO).N) : (datV m hO c).after 1 t = iblk m hO c 1 t := by dsimp only [datV]; try rfl
theorem afterV_2 (hO : Ok m) (c : Dev nD) (t : Fin (cfgM m hO).N) : (datV m hO c).after 2 t = iblk m hO c 2 t := by dsimp only [datV]; try rfl
theorem beforeV_0 (hO : Ok m) (c : Dev nD) (t : Fin (cfgM m hO).N) (d) : (datV m hO c).before 0 t d = iblk m hO c 0 t :=
  before_0_of m hO (datV m hO c) (AV_eq m hO c 0) (afterV_0 m hO c) t d
theorem beforeV_1 (hO : Ok m) (c : Dev nD) (t : Fin (cfgM m hO).N) (d) : (datV m hO c).before 1 t d = iblk m hO c 1 t :=
  before_1_of m hO (datV m hO c) (AV_eq m hO c 1) (afterV_1 m hO c) t d
theorem beforeV_2 (hO : Ok m) (c : Dev nD) (t : Fin (cfgM m hO).N) (d) : (datV m hO c).before 2 t d = iblk m hO c 2 t :=
  before_2_of m hO (datV m hO c) (AV_eq m hO c 2) (afterV_2 m hO c) t d

theorem leaves_good (hO : Ok m) (c : Dev nD) (t : Fin (cfgM m hO).N) (X) (h : (rdV m hO c).Leaves 3 t X) : Good m t.val X :=
  (datV m hO c).toRRel_leaves (fgt := forgets) (Rl := Rl m hO) (w := 3) rfl h

/-- What a point finds in the output's buffer, the tile being that of the visit before. -/
theorem finds_good (h1 : 1 ≤ E (sz m 0) 7) (h2 : E (sz m 0) 7 ≤ 65536) (hO : Ok m) (c : Dev nD) (t : Fin (cfgM m hO).N) (Y) (h : (rdV m hO c).Finds 3 t Y)
    (h0 : 0 < t.val) (ht : tile (sz m 0) (t.val - 1) = tile (sz m 0) t.val) : Good m (t.val - 1) Y := by
  have hlt : t.val < 135 := t.isLt
  rcases ((rdV m hO c).finds_of_pos (w := 3) (((cfgM m hO).win 3).fetch_out rfl t) (by omega) Y).mp h with hf | hl
  · exfalso
    rcases (flush_tile m h1 h2 hO _).mp hf with h | h
    · have : 134 ≤ t.val - 1 := h
      omega
    · apply h
      show tile _ (t.val - 1 + 1) = tile _ (t.val - 1)
      rw [ht, show t.val - 1 + 1 = t.val by omega]
  · exact leaves_good m hO c ⟨t.val - 1, Nat.lt_of_le_of_lt (Nat.sub_le _ _) t.isLt⟩ Y hl

def preV (hO : Ok m) (c : Dev nD) (t : Fin (cfgM m hO).N) : sProp 𝕄 :=
  iprop((datV m hO c).Φ t.castSucc ∗ (datV m hO c).owesAt () t.castSucc
    ∗ (∃ d, owns (c : Thread nD τ) (ms_0 m hO t) fullShare ((datV m hO c).before 0 t d))
    ∗ (∃ d, owns (c : Thread nD τ) (ms_1 m hO t) fullShare ((datV m hO c).before 1 t d))
    ∗ (∃ d, owns (c : Thread nD τ) (ms_2 m hO t) fullShare ((datV m hO c).before 2 t d))
    ∗ (∃ Y, ⌜(rdV m hO c).Finds 3 t Y⌝ ∗ owns (c : Thread nD τ) (ms_3 m hO t) fullShare Y))

def postV (hO : Ok m) (c : Dev nD) (t : Fin (cfgM m hO).N) : sProp 𝕄 :=
  iprop((datV m hO c).Φ t.succ ∗ (datV m hO c).owesAt () t.succ
    ∗ owns (c : Thread nD τ) (ms_0 m hO t) fullShare ((datV m hO c).after 0 t)
    ∗ owns (c : Thread nD τ) (ms_1 m hO t) fullShare ((datV m hO c).after 1 t)
    ∗ owns (c : Thread nD τ) (ms_2 m hO t) fullShare ((datV m hO c).after 2 t)
    ∗ (∃ X, ⌜Good m t.val X⌝ ∗ owns (c : Thread nD τ) (ms_3 m hO t) fullShare X))

set_option maxHeartbeats 4000000 in
/-- The body at any point. -/
theorem sound_value (h1 : 1 ≤ E (sz m 0) 7) (h2 : E (sz m 0) 7 ≤ 65536) (hO : Ok m) (c : Dev nD) (t : Fin (cfgM m hO).N) :
    preV m hO c t ⊢ wp frame (wpE (defs₀ (F := Ideal)) Variants.none c none) Set.univ (bodyAt m hO t) (fun _ => postV m hO c t) := by
  obtain rfl : c = 0 := Subsingleton.elim _ _
  unfold preV postV
  simp only [beforeV_0, beforeV_1, beforeV_2]
  rw [show (datV m hO 0).owesAt () t.succ = (datV m hO 0).owesAt () t.castSucc from rfl,
    afterV_0, afterV_1, afterV_2]
  rw [show (datV m hO 0).Φ t.succ = iprop(iprop(iprop((∃ d, ⌜Held m (t.val + 1) d⌝ ∗ owns ((0 : Dev nD) : Thread nD τ) sM0 fullShare d) ∗ (∃ d, owns ((0 : Dev nD) : Thread nD τ) sM1 fullShare d)) ∗ (∃ r, prngReg 0 r)) ∗ Pipeline.ΦT pre0 (tbl m) 0) from rfl,
    show (datV m hO 0).Φ t.castSucc = iprop(iprop(iprop((∃ d, ⌜Held m t.val d⌝ ∗ owns ((0 : Dev nD) : Thread nD τ) sM0 fullShare d) ∗ (∃ d, owns ((0 : Dev nD) : Thread nD τ) sM1 fullShare d)) ∗ (∃ r, prngReg 0 r)) ∗ Pipeline.ΦT pre0 (tbl m) 0) from rfl, PhiT_eq]
  rw [block_x m h1 h2 hO t, block_w m h1 h2 hO t, block_s m h1 h2 hO t]
  iintro ⟨⟨⟨⟨⟨%d, %hd, HS0⟩, HS1⟩, Hg⟩, HT0, HT1, HT2, HT3⟩, Ho, ⟨%d0, H0⟩, ⟨%d1, H1⟩, ⟨%d2, H2⟩, ⟨%Y, %hF, H3⟩⟩
  have hY := finds_good m h1 h2 hO 0 t Y hF
  clear hF
  rw [show Held m (t.val + 1) = fun d => t.val + 1 ≠ 0 → d = wbM m (grp (sz m 0) t.val) from rfl]
  unfold owns
  icases H0 with ⟨%f0, %hf0, H0⟩
  icases H1 with ⟨%f1, %hf1, H1⟩
  icases H2 with ⟨%f2, %hf2, H2⟩
  icases HS0 with ⟨%g0, %hg0, HS0⟩
  obtain rfl := (hs_0 m hO t).eq_unread hf0
  by_cases hR : condR (grid0.coords t) (word tM1 (tbl m 1) (k0_off1 (grid0.coords t)) (k0_off1_inb (grid0.coords t))) (word tM1 (tbl m 1) (k0_off2 (grid0.coords t)) (k0_off2_inb (grid0.coords t)))
  · iapply (body_rebuild (F := Ideal) 0 (grid0.coords t) tM0 _ tM1 _ tM2 _ tM3 _ (ms_0 m hO t) _ (ms_1 m hO t) _ (ms_2 m hO t) _ (ms_3 m hO t) _ sM0 _ sM1 _ (tbl m 1) (tbl m 2) (tbl m 3) f1 f2 g0 hR Set.univ _)
    isplitl [HT1]; · iexact HT1
    isplitl [HT2]; · iexact HT2
    isplitl [HT3]; · iexact HT3
    isplitl [H1]; · iexact H1
    isplitl [H2]; · iexact H2
    isplitl [HS0]; · iexact HS0
    iintro ⟨HT1, HT2, HT3, H1, H2, HS0⟩
    iapply (tail_value 0 (grid0.coords t) tM0 _ tM1 _ tM2 _ tM3 _ (ms_0 m hO t) _ (ms_1 m hO t) _ (ms_2 m hO t) _ (ms_3 m hO t) _ sM0 _ sM1 _ _ _ (XB (V m 0 main_arg0) (tile (sz m 0) t.val)) Y (wbM m (grp (sz m 0) t.val)) Set.univ _)
    isplitl [H0]; · iexact H0
    unfold owns
    isplitl [H3]; · iexact H3
    isplitl [HS0]
    · iexists _; isplitr; swap; · iexact HS0
      ipureintro
      refine (read_deq f1 f2 g0 _ rfl).trans ?_
      rw [hf1, hf2]; rfl
    isplitl [HS1]; · iexact HS1
    iintro ⟨H0, H3, HS0, HS1⟩
    isplitl [HS0 HS1 Hg HT0 HT1 HT2 HT3]
    · isplitl [HS0 HS1 Hg]
      · isplitl [HS0 HS1]
        · isplitl [HS0]
          · iexists _; isplitr; swap; · iexact HS0
            ipureintro; exact fun _ => rfl
          iexact HS1
        iexact Hg
      isplitl [HT0]; · iexact HT0
      isplitl [HT1]; · iexact HT1
      isplitl [HT2]; · iexact HT2
      iexact HT3
    isplitl [Ho]; · iexact Ho
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    iexists _; isplitr; swap; · iexact H3
    ipureintro
    exact good_step m h1 h2 t.val _ _ (word_lo m h1 h2 t) (word_hi m h1 h2 t) Y hY
  · obtain rfl := held_keep m h1 h2 t hR d hd
    iapply (body_keep (F := Ideal) 0 (grid0.coords t) tM0 _ tM1 _ tM2 _ tM3 _ (ms_0 m hO t) _ (ms_1 m hO t) _ (ms_2 m hO t) _ (ms_3 m hO t) _ sM0 _ sM1 _ (tbl m 1) (tbl m 2) (tbl m 3) hR Set.univ _)
    isplitl [HT1]; · iexact HT1
    isplitl [HT2]; · iexact HT2
    isplitl [HT3]; · iexact HT3
    iintro ⟨HT1, HT2, HT3⟩
    iapply (tail_value 0 (grid0.coords t) tM0 _ tM1 _ tM2 _ tM3 _ (ms_0 m hO t) _ (ms_1 m hO t) _ (ms_2 m hO t) _ (ms_3 m hO t) _ sM0 _ sM1 _ _ _ (XB (V m 0 main_arg0) (tile (sz m 0) t.val)) Y (wbM m (grp (sz m 0) t.val)) Set.univ _)
    isplitl [H0]; · iexact H0
    unfold owns
    isplitl [H3]; · iexact H3
    isplitl [HS0]
    · iexists _; isplitr; swap; · iexact HS0
      ipureintro; exact hg0
    isplitl [HS1]; · iexact HS1
    iintro ⟨H0, H3, HS0, HS1⟩
    isplitl [HS0 HS1 Hg HT0 HT1 HT2 HT3]
    · isplitl [HS0 HS1 Hg]
      · isplitl [HS0 HS1]
        · isplitl [HS0]
          · iexists _; isplitr; swap; · iexact HS0
            ipureintro; exact fun _ => rfl
          iexact HS1
        iexact Hg
      isplitl [HT0]; · iexact HT0
      isplitl [HT1]; · iexact HT1
      isplitl [HT2]; · iexact HT2
      iexact HT3
    isplitl [Ho]; · iexact Ho
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    iexists _; isplitr; swap; · iexact H3
    ipureintro
    exact good_step m h1 h2 t.val _ _ (word_lo m h1 h2 t) (word_hi m h1 h2 t) Y hY

end Cert.KernelIdeal.Hand
-- ==== Proof.KernelIdeal.Value.lean ====
/- The value of the program: it terminates without a fault, its result is the output, its arguments end unchanged and
   every semaphore counter is back at zero, whenever the group sizes sum to the number of rows. -/
module

public import proofs.«01_k».proof.Proof.KernelIdeal.BodyValue
public import Idealize.ShloMosaic.Lib.Pipeline.ValueKit.Geometry

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Idealize.ShloMosaic.ValueIdx Cert.Visits
variable (m : (ℓ : Loc nD τ sig) → Buf (Elt Ideal) ℓ) (ρ : Dev nD → PrngReg)

theorem obligation (h1 : 1 ≤ E (sz m 0) 7) (h2 : E (sz m 0) 7 ≤ 65536) (hO : Ok m) (c : Dev nD) :
    Pipeline.BodyObligationRel (datV m hO c) (defs₀ (F := Ideal)) Variants.none () Set.univ forgets (Rl m hO) := fun t => by
  rw [bigSep_W0, bigSep_W0, defs₀_row m hO]
  exact triple_restated (sound_value m h1 h2 hO c t) rfl .rfl fun _ => .rfl

theorem hinV (hO : Ok m) (c : Dev nD) : iprop(Pipeline.ΦA spec0 c ∗ Pipeline.ΦT pre0 (tbl m) c) ⊢ (rdV m hO c).Φ 0 := by
  rw [PhiA_eq]
  dsimp only [Pipeline.Dat.toRRel_Φ, datV]
  iintro ⟨⟨⟨⟨%d, HS0⟩, HS1⟩, Hg⟩, HT⟩
  isplitl [HS0 HS1 Hg]
  · isplitl [HS0 HS1]
    · isplitl [HS0]
      · iexists d; isplitr; swap; · iexact HS0
        ipureintro; exact fun h => absurd rfl h
      iexact HS1
    iexact Hg
  iexact HT
theorem houtV (hO : Ok m) (c : Dev nD) : (rdV m hO c).Φ (Fin.last (cfgM m hO).N) ⊢ Pipeline.ΦA spec0 c := by
  rw [PhiA_eq]
  dsimp only [Pipeline.Dat.toRRel_Φ, datV]
  iintro ⟨⟨⟨⟨%d, -, HS0⟩, HS1⟩, Hg⟩, -⟩
  isplitl [HS0 HS1]
  · isplitl [HS0]
    · iexists d; iexact HS0
    iexact HS1
  iexact Hg

set_option backward.isDefEq.respectTransparency.types false in
set_option maxHeartbeats 4000000 in
/-- The run, with the counters at zero. -/
theorem run_value (h1 : 1 ≤ E (sz m 0) 7) (h2 : E (sz m 0) 7 ≤ 65536) (hO : Ok m) : θ_run defs (onTc (τ := τ) (main (F := Ideal))) (s₀ m ρ)
    (fun r => (Pipeline.RDat.FramePost ((Pipeline.pin pcfgs fun _ => adm m hO) 0) (rdV m hO) (V m)) r ∧ r.2.sem = fun _ => 0) :=
  Pipeline.RDat.θ_run_frameP_track (Q' := _) pcfgs (fun _ => adm m hO) (0 : Fin 1) launch0 defs₀ Variants.none (rdV m hO) m ρ main
    (hbody := fun c => (obligation m h1 h2 hO c).toRRel) (hshare := fun c => (datV m hO c).share_full fun _ => rfl)
    (howed := fun _ _ => rfl) (V := V m) (hmain := hmain m Variants.none) (hA := AV_eq m hO) (hpf := V_pre m) (hin := hinV m hO) (hout := houtV m hO)

/-- Where an element of the output's block lies. -/
def at3 (a : (pcfg0 (F := Ideal)).Adm) (t : Fin (cfg0 a).N) (y : S512x2816.Idx) : S65536x2816.Idx := (((cfg0 a).win 3).rect t).emb y

theorem at3_eq (a : (pcfg0 (F := Ideal)).Adm) (t : Fin (cfg0 a).N) (y : S512x2816.Idx) (q : ℕ)
    (e : cc0_transform_3 k0_off1_inb numel1_S1 a.1 (grid0.coords t) = ![q, 0]) :
    (at3 a t y 0).val = q * 512 + (y 0).val ∧ (at3 a t y 1).val = (y 1).val := by
  constructor
  · refine (emb_3 a t y 0).trans ?_
    rw [e]; rfl
  · refine (emb_3 a t y 1).trans ?_
    rw [e]; show 0 * 2816 + (y 1).val = (y 1).val; omega

/-- An element of the array lies in the block of a point of its tile. -/
theorem mem_3 (a : (pcfg0 (F := Ideal)).Adm) (t : Fin (cfg0 a).N) (i : S65536x2816.Idx)
    (e : cc0_transform_3 k0_off1_inb numel1_S1 a.1 (grid0.coords t) = ![(i 0).val / 512, 0]) :
    i ∈ (((cfg0 a).win 3).blk t).view.set := by
  have hi : i = at3 a t (ValueIdx.ix2 ⟨(i 0).val % 512, Nat.mod_lt _ (by decide)⟩ (i 1)) := by
    obtain ⟨e0, e1⟩ := at3_eq a t (ValueIdx.ix2 ⟨(i 0).val % 512, Nat.mod_lt _ (by decide)⟩ (i 1)) _ e
    refine ix2_ext _ _ (Eq.symm (e0.trans ?_)) (Eq.symm e1)
    show (i 0).val / 512 * 512 + (i 0).val % 512 = (i 0).val
    omega
  have hm := (((cfg0 a).win 3).blk t).view.emb_mem_set (ValueIdx.ix2 ⟨(i 0).val % 512, Nat.mod_lt _ (by decide)⟩ (i 1) : S512x2816.Idx)
  exact (congrArg (fun j => j ∈ (((cfg0 a).win 3).blk t).view.set) hi).mpr hm

/-- A property of every element that is written back is one of every element of an array that the blocks cover. -/
theorem all_of_leaves {cfg : Pipeline.Cfg sig Λ₀} {c : Dev nD} {rd : Pipeline.RDat τ (Elt Ideal) Unit ℕ (UR sig nD τ) ℕ cfg c} (w : Fin cfg.W)
    {G : Buf (Elt Ideal) ((cfg.win w).arr.view.loc (c.tc : Thread nD τ))} (hG : rd.ArrAt w cfg.N G)
    (P : ((cfg.win w).arr.view.loc (c.tc : Thread nD τ)).2.ty.Idx → Elt Ideal ((cfg.win w).arr.view.loc (c.tc : Thread nD τ)).2.ty.elt → Prop)
    (hP : ∀ t, (cfg.win w).flush t = true → ∀ X, rd.Leaves w t X → ∀ y : ((cfg.win w).xblock (cfg.grid.coords t)).Idx,
      P (((cfg.win w).blk t).view.emb y) (_root_.cast (congrArg (Elt Ideal) ((cfg.win w).blk t).view.elt_eq.symm) (X ((cfg.win w).xinj (cfg.grid.coords t) y))))
    (hcov : ∀ i : ((cfg.win w).arr.view.loc (c.tc : Thread nD τ)).2.ty.Idx, ∃ t : Fin cfg.N, (cfg.win w).flush t = true ∧ i ∈ ((cfg.win w).blk t).view.set)
    (i : ((cfg.win w).arr.view.loc (c.tc : Thread nD τ)).2.ty.Idx) : P i (G i) := by
  obtain ⟨X, hX, hA⟩ := hG.exists_exact
  have e := hA (Function.update (fun _ _ _ => Classical.arbitrary _) w X) fun u _ _ => by rw [Function.update_self]
  rw [e]
  refine Dat.arrAt_forall_of_cover _ w P (fun t hf y => ?_) hcov i
  have hl := hP t hf (X t) (hX t t.isLt hf) y
  rw [Dat.flushed_apply, Pipeline.RDat.withAfter_after, Function.update_self]
  exact hl

/-- Every tile is written back after a visit to it. -/
theorem last_visit (h1 : 1 ≤ E (sz m 0) 7) (h2 : E (sz m 0) 7 = 65536) (q : ℕ) (hq : q < 128) :
    ∃ v < 135, tile (sz m 0) v = q ∧ (134 ≤ v ∨ tile (sz m 0) (v + 1) ≠ tile (sz m 0) v) := by
  obtain ⟨v, hv, e⟩ := visited (sz m 0) h1 h2 q hq
  obtain ⟨d, hd⟩ : ∃ d, v + d = 134 := ⟨134 - v, by omega⟩
  induction d generalizing v with
  | zero => exact ⟨v, hv, e, .inl (by omega)⟩
  | succ d ih =>
    by_cases h : tile (sz m 0) (v + 1) = tile (sz m 0) v
    · exact ih (v + 1) (by omega) (h.trans e) (by omega)
    · exact ⟨v, hv, e, .inr h⟩

/-- What is written back is the output. -/
theorem flushed_eq (h2 : E (sz m 0) 7 = 65536) (hO : Ok m) (t : Fin (cfgM m hO).N) (hf : ((cfgM m hO).win 3).flush t = true)
    (X : Vec Ideal S512x2816 .bf16) (hg : Good m t.val X) (y : S512x2816.Idx) : X y = outM m (at3 (adm m hO) t y) := by
  have h1 : 1 ≤ E (sz m 0) 7 := by omega
  have hc := (flush_tile m h1 h2.le hO t).mp hf
  obtain ⟨e0, e1⟩ := at3_eq (adm m hO) t y _ (index_3 m h1 h2.le t)
  have h0 : (y 0).val < 512 := (y 0).isLt
  have hE := complete (sz m 0) h1 h2 t.val (y 0).val h0 hc
  refine (hg y (at3 (adm m hO) t y 0) e0 (by rw [e0]; exact hE)).trans (congrArg (outM m) (ix2_ext _ _ rfl e1.symm))

theorem cover_3 (h2 : E (sz m 0) 7 = 65536) (hO : Ok m) (i : S65536x2816.Idx) :
    ∃ t : Fin (cfgM m hO).N, ((cfgM m hO).win 3).flush t = true ∧ i ∈ (((cfgM m hO).win 3).blk t).view.set := by
  have h1 : 1 ≤ E (sz m 0) 7 := by omega
  have hi : (i 0).val < 65536 := (i 0).isLt
  obtain ⟨v, hv, e, hl⟩ := last_visit m h1 h2 ((i 0).val / 512) (by omega)
  refine ⟨⟨v, hv⟩, (flush_tile m h1 h2.le hO _).mpr hl, mem_3 (adm m hO) ⟨v, hv⟩ i ?_⟩
  rw [← e]; exact index_3 m h1 h2.le ⟨v, hv⟩

/-- The result's array at the end. -/
theorem result_eq (h2 : E (sz m 0) 7 = 65536) (hO : Ok m) (G : Vec Ideal S65536x2816 .bf16)
    (h : (rdV m hO 0).ArrAt 3 (cfgM m hO).N G) : G = outM m :=
  funext fun i => all_of_leaves (cfg := cfgM m hO) (c := 0) (rd := rdV m hO 0) 3 (G := G) h
    (fun (i : S65536x2816.Idx) (v : Elt Ideal .bf16) => v = outM m i)
    (fun t hf X hX y => flushed_eq m h2 hO t hf X (leaves_good m hO 0 t X hX) y) (fun i => cover_3 m h2 hO i) i

set_option maxHeartbeats 4000000 in
/-- THE VALUE: the result is the output, the arguments end unchanged, the counters are at zero. -/
theorem value_all (h2 : E (sz m 0) 7 = 65536) (hO : Ok m) : θ_run defs (onTc (τ := τ) (main (F := Ideal))) ⟨m, fun _ => 0, ρ⟩ (fun r => (∀ c : Dev nD,
      r.2.mem ((c.tc : Thread nD τ).loc main_v77) = outM m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => by
    obtain rfl : c = 0 := Subsingleton.elim _ _
    exact ⟨result_eq m h2 hO _ ((h.1 0).1 3),
      (Pipeline.RDat.FramePost.arr_in h.1 0 0 rfl).trans ((AV_eq m hO 0 0).trans (V_main_arg0 m 0)),
      ((h.1 0).2 main_arg1 (by decide : main_arg1 ∈ Pipeline.restRefs sig spec0)).trans (V_main_arg1 m 0),
      (Pipeline.RDat.FramePost.arr_in h.1 0 1 rfl).trans ((AV_eq m hO 0 1).trans (V_main_arg2 m 0)),
      (Pipeline.RDat.FramePost.arr_in h.1 0 2 rfl).trans ((AV_eq m hO 0 2).trans (V_main_arg3 m 0))⟩, h.2⟩) (run_value m ρ (by omega) h2.le hO)

end Cert.KernelIdeal.Hand
-- ==== Proof.ReferenceIdeal.Reads.lean ====
/- What the reference's operations leave in its buffers, each from the buffers it is computed from. -/
module

public import proofs.«01_k».proof.Proof.Gen.ReferenceIdeal.Frame
public import Idealize.ShloMosaic.Lib.Pipeline.ValueKit
public import Idealize.ShloMosaic.Lib.StableHlo.RunRead

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable (m : (ℓ : Loc nD τ sig) → Buf (Elt Ideal) ℓ) (c : Dev nD)

/-- One list of operations after another. -/
theorem after_append {F : FTy → Type} [FloatOps F] : ∀ (l₁ l₂ : List (HloOp τ sig (Elt F))) (W : Valuation τ sig (Elt F)),
    StableHlo.after (l₁ ++ l₂) W = StableHlo.after l₂ (StableHlo.after l₁ W) := by
  intro l₁; induction l₁ with
  | nil => intros; rfl
  | cons op l ih => intro l₂ W; exact ih l₂ _

/-- The operations before the call, cut in two. -/
theorem V_cut (k : ℕ) (b : Ref sig .tc) :
    V m c b = StableHlo.after ((hostOps0 : List (HloOp τ sig (Elt Ideal))).drop k) (StableHlo.after ((hostOps0 : List (HloOp τ sig (Elt Ideal))).take k) fun b => m (c, b)) b := by
  unfold V V0
  rw [← after_append, List.take_append_drop]
  rfl

/-- The largest magnitude of each block. -/
def largest (g : FVec Ideal S65536x64x32 .f32) : FVec Ideal S65536x64 .f32 :=
  Host.reduce FloatOps.maximumf (Host.absf g) (constant S_ .f32 0xFF800000#32) reducesTo_S65536x64x32_S65536x64_d2 h_S_

/-- Two, everywhere. -/
def twos : FVec Ideal S65536x64 .f32 := broadcastInDim S65536x64 ![] bcast_S_S65536x64 (constant S_ .f32 0x40000000#32)

/-- The exponent of each block. -/
def expo (a : FVec Ideal S65536x64 .f32) : FVec Ideal S65536x64 .f32 :=
  select (cmpf .oeq a (broadcastInDim S65536x64 ![] bcast_S_S65536x64 (constant S_ .f32 0x00000000#32)))
    (broadcastInDim S65536x64 ![] bcast_S_S65536x64 (constant S_ .f32 0x00000000#32))
    (addf (Host.floor (Host.divf (Host.log (mulf a (broadcastInDim S65536x64 ![] bcast_S_S65536x64 (constant S_ .f32 0x3B124925#32)))) (Host.log twos)))
      (broadcastInDim S65536x64 ![] bcast_S_S65536x64 (constant S_ .f32 0x3F800000#32)))

/-- One value per block, spread over the block. -/
def spread {φ : FTy} (x : FVec Ideal S65536x64 φ) : FVec Ideal S65536x64x32 φ :=
  broadcastInDim S65536x64x32 ![0, 1, 2] bcast_S65536x64x1_S65536x64x32_0_1_2 (broadcastInDim S65536x64x1 ![0, 1] bcast_S65536x64_S65536x64x1_0_1 x)

/-- The scaled and clipped entries. -/
def scaledIn (g : FVec Ideal S65536x64x32 .f32) (e : FVec Ideal S65536x64 .f32) : FVec Ideal S65536x64x32 .f32 :=
  minimumf (maximumf (mulf g (spread (Host.powf twos (Host.negf e))))
    (broadcastInDim S65536x64x32 ![] bcast_S_S65536x64x32 (constant S_ .f32 0xC3E00000#32)))
    (broadcastInDim S65536x64x32 ![] bcast_S_S65536x64x32 (constant S_ .f32 0x43E00000#32))

/-! The buffers before the call. -/

set_option maxHeartbeats 1600000
theorem V_v1 : V m c main_v1 = shapeCast S65536x64x32 (extf .f32 (V m c main_arg0 : FVec Ideal S65536x2048 .bf16) bitsLt_bf16_f32 : FVec Ideal S65536x2048 .f32) shapeCasts_S65536x2048_S65536x64x32 := by
  simp only [V_cut m c 0]
  generalize (StableHlo.after _ fun b => m (c, b)) = W
  after_reads_simp
  try rfl
theorem V_v3 : V m c main_v3 = largest (V m c main_v1) := by
  simp only [V_cut m c 2]
  generalize (StableHlo.after _ fun b => m (c, b)) = W
  after_reads_simp
  try rfl
theorem V_v4 : V m c main_v4 = twos := by
  simp only [V_cut m c 5]
  generalize (StableHlo.after _ fun b => m (c, b)) = W
  after_reads_simp
  try rfl
theorem V_v16 : V m c main_v16 = expo (V m c main_v3) := by
  simp only [V_cut m c 5]
  generalize (StableHlo.after _ fun b => m (c, b)) = W
  after_reads_simp
  try rfl
theorem V_v25 : V m c main_v25 = scaledIn (V m c main_v1) (V m c main_v16) := by
  simp only [V_cut m c 5]
  generalize (StableHlo.after _ fun b => m (c, b)) = W
  after_reads_simp
  try rfl

/-- The buffers when the call is left. -/
def W1 : Valuation τ sig (Elt Ideal) := Pipeline.withArrays cfg0.spec c (V0 m c) fun w => (dats m 0 c).arrAt w cfg0.N

/-- The buffers at the end. -/
def R (b : Ref sig .tc) : Buf (Elt Ideal) ((c : Thread nD τ).loc b) :=
  StableHlo.after (hostOps1 ++ hostOps1_1 ++ hostOps1_2) (W1 m c) (Proc.devRef .tc b)

/-- It is what the run leaves. -/
theorem R_eq (b : Ref sig .tc) : Pipeline.afterTail₀ cfgs (dats m) 0 (V0 m) [hostOps1, hostOps1_1, hostOps1_2] c b = R m c b := by
  unfold Pipeline.afterTail₀ R W1
  rw [List.flatten_cons, List.flatten_cons, List.flatten_cons, List.flatten_nil, List.append_nil, List.append_assoc]

/-- The call leaves every other buffer. -/
theorem W1_of_ne (b : Ref sig .tc) (hb : ∀ w, Pipeline.arrRef spec0 w ≠ b) : W1 m c (Proc.devRef .tc b) = V m c b :=
  Pipeline.withArrays_of_ne _ c (V0 m c) _ b hb

/-- A buffer of the call is the call's array. -/
theorem W1_arr (w : Fin 4) : W1 m c (Proc.devRef .tc (Pipeline.arrRef spec0 w)) = (dats m 0 c).arrAt w cfg0.N :=
  Pipeline.withArrays_arr _ winFacts0.arr_inj c (V0 m c) _ w

/-- The operations after the call, cut in two. -/
theorem R_cut (k : ℕ) (b : Ref sig .tc) :
    R m c b = StableHlo.after ((hostOps1 ++ hostOps1_1 ++ hostOps1_2 : List (HloOp τ sig (Elt Ideal))).drop k)
      (StableHlo.after ((hostOps1 ++ hostOps1_1 ++ hostOps1_2 : List (HloOp τ sig (Elt Ideal))).take k) (W1 m c)) b := by
  unfold R
  rw [← after_append, List.take_append_drop]

/-- The activations after the round trip, from the codes. -/
def acts (q : FVec Ideal S65536x64x32 .bf16) (w e : FVec Ideal S65536x64 .f32) : FVec Ideal S65536x2048 .bf16 :=
  shapeCast S65536x2048 (mulf q (spread (truncf .bf16 (Host.powf w e) bitsLt_bf16_f32))) shapeCasts_S65536x64x32_S65536x2048

/-- The weights' scales. -/
def scales (s : IVec S8x2816x64 8) : FVec Ideal S8x2816x64 .bf16 :=
  truncf .bf16 (Host.powf (broadcastInDim S8x2816x64 ![] bcast_S_S8x2816x64 (constant (F := Ideal) S_ .f32 0x40000000#32))
    (sitofp .f32 (subi (extui 32 s natLt_8_32) (broadcastInDim S8x2816x64 ![] bcast_S_S8x2816x64 (constantI S_ 32 127#32))))) bitsLt_bf16_f32

/-- The weights with their scales. -/
def weights (w : FVec Ideal S8x2816x2048 .bf16) (s : IVec S8x2816x64 8) : FVec Ideal S8x2816x2048 .bf16 :=
  shapeCast S8x2816x2048 (mulf (shapeCast S8x2816x64x32 w shapeCasts_S8x2816x2048_S8x2816x64x32)
    (broadcastInDim S8x2816x64x32 ![0, 1, 2, 3] bcast_S8x2816x64x1_S8x2816x64x32_0_1_2_3
      (broadcastInDim S8x2816x64x1 ![0, 1, 2] bcast_S8x2816x64_S8x2816x64x1_0_1_2 (scales s)))) shapeCasts_S8x2816x64x32_S8x2816x2048

/-- Every row times every group's weights. -/
def prods (x : FVec Ideal S65536x2048 .bf16) (w : FVec Ideal S8x2816x2048 .bf16) : FVec Ideal S65536x8x2816 .f32 :=
  Host.dotGeneral dot_S65536x2048_S8x2816x2048_S65536x8x2816_1_2_0_01_n_n none x w

/-- Running sums. -/
def csum (x : IVec S8 32) : IVec S8 32 :=
  Host.reduceWindow IntOp.addi ![8] ![1] ![7] ![0] x (broadcastInDim S_ ![] bcast_S_S_ (constantI S_ 32 0#32)) reduceWindows_S8_S8_w8s1p7_0 h_S_

/-- One word per group, the same in every row. -/
def rows (x : IVec S8 32) : IVec S65536x8 32 :=
  broadcastInDim S65536x8 ![0, 1] bcast_S1x8_S65536x8_0_1 (broadcastInDim S1x8 ![1] bcast_S8_S1x8_1 x)

/-- Which rows belong to which group. -/
def mine (e g : IVec S8 32) : IVec S65536x8 1 :=
  andi (cmpi .sge (iotaInDim S65536x8 32 0) (rows (subi e g))) (cmpi .slt (iotaInDim S65536x8 32 0) (rows e))

/-- Of the products with every group's weights, those of the row's own group. -/
def pick (y : FVec Ideal S65536x8x2816 .f32) (k : IVec S65536x8 1) : FVec Ideal S65536x2816 .bf16 :=
  truncf .bf16 (Host.reduceAdd (select (broadcastInDim S65536x8x2816 ![0, 1, 2] bcast_S65536x8x1_S65536x8x2816_0_1_2
      (broadcastInDim S65536x8x1 ![0, 1] bcast_S65536x8_S65536x8x1_0_1 k)) y
    (broadcastInDim S65536x8x2816 ![] bcast_S_S65536x8x2816 (constant (F := Ideal) S_ .f32 0x00000000#32)) : FVec Ideal S65536x8x2816 .f32)
    (constant (F := Ideal) S_ .f32 0x00000000#32) reducesTo_S65536x8x2816_S65536x2816_d1 h_S_) bitsLt_bf16_f32

/-! The buffers at the end. -/

theorem R_v32 : R m c main_v32 = acts (W1 m c main_v26_0) (W1 m c main_v4) (W1 m c main_v16) := by
  unfold R
  generalize W1 m c = W
  after_reads_simp
  try simp -implicitDefEqProofs only [StableHlo.TRef.toBuf, StableHlo.TRef.ofBuf, cast_cast, cast_eq, id]
  try rfl
theorem R_v44 : R m c main_v44 = weights (W1 m c main_v26_1) (W1 m c main_arg3) := by
  unfold R
  generalize W1 m c = W
  after_reads_simp
  try simp -implicitDefEqProofs only [StableHlo.TRef.toBuf, StableHlo.TRef.ofBuf, cast_cast, cast_eq, id]
  try rfl
theorem R_v45 : R m c main_v45 = prods (R m c main_v32) (R m c main_v44) := by
  simp only [R_cut m c 20]
  generalize (StableHlo.after _ (W1 m c)) = W
  after_reads_simp
  try simp -implicitDefEqProofs only [StableHlo.TRef.toBuf, StableHlo.TRef.ofBuf, cast_cast, cast_eq, id]
  try rfl
theorem R_v46 : R m c main_v46 = csum (R m c main_arg1) := by
  simp only [R_cut m c 21]
  generalize (StableHlo.after _ (W1 m c)) = W
  after_reads_simp
  try simp -implicitDefEqProofs only [StableHlo.TRef.toBuf, StableHlo.TRef.ofBuf, cast_cast, cast_eq, id]
  try rfl
theorem R_v55 : R m c main_v55 = mine (R m c main_v46) (R m c main_arg1) := by
  simp only [R_cut m c 24]
  generalize (StableHlo.after _ (W1 m c)) = W
  after_reads_simp
  try simp -implicitDefEqProofs only [StableHlo.TRef.toBuf, StableHlo.TRef.ofBuf, cast_cast, cast_eq, id]
  try rfl
theorem R_v61 : R m c main_v61 = pick (R m c main_v45) (R m c main_v55) := by
  simp only [R_cut m c 33]
  generalize (StableHlo.after _ (W1 m c)) = W
  after_reads_simp
  try simp -implicitDefEqProofs only [StableHlo.TRef.toBuf, StableHlo.TRef.ofBuf, cast_cast, cast_eq, id]
  try rfl

end Cert.ReferenceIdeal.Hand
-- ==== Proof.ReferenceIdeal.Acts.lean ====
/- The reference's activations after the round trip, entry by entry. -/
module

public import proofs.«01_k».proof.Proof.ReferenceIdeal.Reads
public import proofs.«01_k».proof.Proof.RoundTrip
public import proofs.«01_k».proof.Proof.KernelIdeal.Round
public import Idealize.ShloMosaic.Lib.Pointwise

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

open Cert.RoundTrip

/-- Two indices of a matrix with the same coordinates. -/
theorem ix2_ext {a b : ℕ} (x y : (⟨2, ![a, b]⟩ : Shape).Idx) (h0 : (x 0).val = (y 0).val) (h1 : (x 1).val = (y 1).val) : x = y :=
  funext fun k => match k with | ⟨0, _⟩ => Fin.ext h0 | ⟨1, _⟩ => Fin.ext h1

/-- The largest magnitude of a block. -/
theorem largest_at (g : FVec Ideal S65536x64x32 .f32) (i : Fin 65536) (b : Fin 64) :
    largest g (ValueIdx.ix2 i b) = Cert.KernelIdeal.Hand.amax fun j => g (ValueIdx.ix3 i b j) := by
  unfold largest
  pointwise
  have e : Ideal.ofBits .f32 0xFF800000#32 = ⊥ := by simp [Ideal.ofBits, Ideal.ieee]
  rw [e]
  rfl

/-- The exponent of a block is the rounding's exponent of its largest magnitude. -/
theorem expo_at (a : FVec Ideal S65536x64 .f32) (y : S65536x64.Idx) : expo a y = rExp (a y) := by
  unfold expo twos
  pointwise
  rw [c_rec, c_two]
  rfl

/-- An entry times the inverse scale of its block, clipped. -/
theorem scaledIn_at (g : FVec Ideal S65536x64x32 .f32) (e : FVec Ideal S65536x64 .f32) (i : Fin 65536) (b : Fin 64) (j : Fin 32) :
    scaledIn g e (ValueIdx.ix3 i b j) = clip (g (ValueIdx.ix3 i b j) * Ideal.pow ((2 : ℝ) : EReal) (-(e (ValueIdx.ix2 i b)))) := by
  unfold scaledIn twos spread
  pointwise
  rw [c_ntop, c_top, c_two, max_comm]
  rfl

/-- An entry times the scale of its block. -/
theorem acts_at (q : FVec Ideal S65536x64x32 .bf16) (e : FVec Ideal S65536x64 .f32) (i : Fin 65536) (k : Fin 2048) :
    acts q twos e (ValueIdx.ix2 i k) = q (ValueIdx.ix3 i ⟨k.val / 32, by omega⟩ ⟨k.val % 32, by omega⟩) * Ideal.pow ((2 : ℝ) : EReal) (e (ValueIdx.ix2 i ⟨k.val / 32, by omega⟩)) := by
  unfold acts spread twos
  pointwise
  rw [c_two]
  rfl

/-- The blocks of a row are its entries in order. -/
theorem blocks_at (x : FVec Ideal S65536x2048 .bf16) (i : Fin 65536) (b : Fin 64) (j : Fin 32) :
    (shapeCast S65536x64x32 (extf .f32 x bitsLt_bf16_f32 : FVec Ideal S65536x2048 .f32) shapeCasts_S65536x2048_S65536x64x32 : FVec Ideal S65536x64x32 .f32) (ValueIdx.ix3 i b j)
      = x (ValueIdx.ix2 i ⟨32 * b.val + j.val, by omega⟩) := by
  pointwise
  refine congrArg x (ix2_ext _ _ rfl ?_)
  show b.val * 32 + j.val = 32 * b.val + j.val
  omega

/-- No entry is larger in magnitude than the largest. -/
theorem mag_le (f : Fin 32 → EReal) (j : Fin 32) : max (f j) (-(f j)) ≤ Cert.KernelIdeal.Hand.amax f :=
  Finset.le_sup (f := fun j => Cert.KernelIdeal.Hand.mag (f j)) (Finset.mem_univ j)

/-- The activations after the round trip: the entry itself, or zero in a block with an infinite entry. -/
theorem round_at (x : FVec Ideal S65536x2048 .bf16) (g : FVec Ideal S65536x64x32 .f32)
    (hg : g = (shapeCast S65536x64x32 (extf .f32 x bitsLt_bf16_f32 : FVec Ideal S65536x2048 .f32) shapeCasts_S65536x2048_S65536x64x32 : FVec Ideal S65536x64x32 .f32))
    (e : FVec Ideal S65536x64 .f32) (he : e = expo (largest g)) (i : Fin 65536) (k : Fin 2048) :
    acts (scaledIn g e) twos e (ValueIdx.ix2 i k)
      = keep (x (ValueIdx.ix2 i k)) (Cert.KernelIdeal.Hand.amax fun j => x (ValueIdx.ix2 i ⟨32 * (k.val / 32) + j.val, by omega⟩)) := by
  have hb : ∀ (b : Fin 64) (j : Fin 32), g (ValueIdx.ix3 i b j) = x (ValueIdx.ix2 i ⟨32 * b.val + j.val, by omega⟩) := fun b j => by
    rw [hg]; exact blocks_at x i b j
  have hk : g (ValueIdx.ix3 i ⟨k.val / 32, by omega⟩ ⟨k.val % 32, by omega⟩) = x (ValueIdx.ix2 i k) := by
    rw [hb]
    exact congrArg x (ix2_ext _ _ rfl (Nat.div_add_mod k.val 32))
  have ha : largest g (ValueIdx.ix2 i ⟨k.val / 32, by omega⟩) = Cert.KernelIdeal.Hand.amax fun j => x (ValueIdx.ix2 i ⟨32 * (k.val / 32) + j.val, by omega⟩) := by
    rw [largest_at]
    exact congrArg _ (funext fun j => hb _ j)
  rw [acts_at, scaledIn_at, he, expo_at, ha, hk]
  refine rRound_eq ?_
  have := mag_le (fun j => x (ValueIdx.ix2 i ⟨32 * (k.val / 32) + j.val, by omega⟩)) ⟨k.val % 32, by omega⟩
  rw [show x (ValueIdx.ix2 i ⟨32 * (k.val / 32) + k.val % 32, by omega⟩) = x (ValueIdx.ix2 i k) from congrArg x (ix2_ext _ _ rfl (Nat.div_add_mod k.val 32))] at this
  exact this

end Cert.ReferenceIdeal.Hand
-- ==== Proof.ReferenceIdeal.Weights.lean ====
/- The reference's weights with their scales and its products, entry by entry. -/
module

public import proofs.«01_k».proof.Proof.ReferenceIdeal.Reads
public import proofs.«01_k».proof.Proof.RoundTrip
public import proofs.«01_k».proof.Proof.KernelIdeal.Dequant
public import Idealize.ShloMosaic.Lib.Pointwise

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

open Cert.RoundTrip

/-- A byte less the bias, as a signed word. -/
theorem less_bias : ∀ s : Fin 256, (IntOp.subi (BitVec.setWidth 32 (BitVec.ofFin (w := 8) s)) 127#32).toInt = (s.val : ℤ) - 127 := by
  decide +kernel

/-- A scale is the power of two that the kernel reads from the scale's byte. -/
theorem scales_at (s : IVec S8x2816x64 8) (y : S8x2816x64.Idx) (h1 : 1 ≤ (s y).toNat) (h2 : (s y).toNat ≤ 254) :
    scales s y = Ideal.ofBits .bf16 (Cert.KernelIdeal.Hand.scaleBits (s y)) := by
  rw [Cert.KernelIdeal.Hand.scale_val (s y) h1 h2]
  unfold scales
  pointwise [scales]
  rw [c_two, show FloatOps.sitofp (F := Ideal) .f32 (IntOp.subi (BitVec.setWidth 32 (s y)) 127#32) = (((((s y).toNat : ℤ) - 127 : ℤ) : ℝ) : EReal) from
    congrArg (fun z : ℤ => ((z : ℝ) : EReal)) (less_bias (s y).toFin)]
  rw [Ideal.pow_coe_coe]
  exact congrArg ((↑) : ℝ → EReal) (Real.rpow_intCast 2 _)

/-- A weight times the scale of its block. -/
theorem weights_at (w : FVec Ideal S8x2816x2048 .bf16) (s : IVec S8x2816x64 8) (e : Fin 8) (n : Fin 2816) (k : Fin 2048) :
    weights w s (ValueIdx.ix3 e n k) = w (ValueIdx.ix3 e n k) * scales s (ValueIdx.ix3 e n ⟨k.val / 32, by omega⟩) := by
  unfold weights
  pointwise
  rfl

/-- The product of a row with one expert's weights is a sum over the inner axis. -/
theorem prods_at (x : FVec Ideal S65536x2048 .bf16) (w : FVec Ideal S8x2816x2048 .bf16) (i : Fin 65536) (e : Fin 8) (n : Fin 2816) :
    prods x w (ValueIdx.ix3 i e n) = ∑ k : Fin 2048, x (ValueIdx.ix2 i k) * w (ValueIdx.ix3 e n k) := by
  unfold prods
  pointwise
  rfl

end Cert.ReferenceIdeal.Hand
-- ==== Proof.ReferenceIdeal.Pick.lean ====
/- The reference's choice, for each row, of the products with the weights of the row's own group. -/
module

public import proofs.«01_k».proof.Proof.ReferenceIdeal.Reads
public import proofs.«01_k».proof.Proof.Visits
public import proofs.«01_k».proof.Proof.Words
public import proofs.«01_k».proof.Proof.KernelIdeal.Output
public import Idealize.ShloMosaic.Lib.Pointwise
public import Idealize.ShloMosaic.Lib.WordCmp

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

open Idealize.ShloMosaic.Routing Cert.Visits

/-- The mask of a row and a group, as comparisons of words. -/
theorem mine_at (e g : IVec S8 32) (i : Fin 65536) (k : Fin 8) :
    mine e g (ValueIdx.ix2 i k) = IntOp.andi (IntOp.cmpi .sge (BitVec.ofNat 32 i.val) (e (ValueIdx.ix1 k) - g (ValueIdx.ix1 k))) (IntOp.cmpi .slt (BitVec.ofNat 32 i.val) (e (ValueIdx.ix1 k))) := by
  unfold mine rows
  pointwise
  rfl

/-- The choice is a sum over the groups. -/
theorem pick_at (y : FVec Ideal S65536x8x2816 .f32) (b : IVec S65536x8 1) (i : Fin 65536) (n : Fin 2816) :
    pick y b (ValueIdx.ix2 i n) = ∑ k : Fin 8, if b (ValueIdx.ix2 i k) = 1#1 then y (ValueIdx.ix3 i k n) else 0 := by
  unfold pick
  pointwise
  rfl

/-- Every row below the sum of the sizes lies in one group. -/
theorem group_of (G : ℕ → ℕ) {i : ℕ} (h : i < E G 7) : ∃ g < 8, St G g ≤ i ∧ i < E G g := by
  have hx : ∃ g, i < E G g := ⟨7, h⟩
  classical
  refine ⟨Nat.find hx, Nat.lt_succ_of_le (Nat.find_min' hx h), ?_, Nat.find_spec hx⟩
  rcases e : Nat.find hx with _ | g
  · rw [St_zero]; omega
  · rw [St_succ]
    have := Nat.find_min hx (m := g) (by omega)
    omega

/-- A conjunction of bits is set when both are. -/
theorem andi_one (a b : BitVec 1) : IntOp.andi a b = 1#1 ↔ a = 1#1 ∧ b = 1#1 := by
  revert a b; decide

/-- The mask is set when the row lies between the start and the end of the group. -/
theorem mine_iff (G : ℕ → ℕ) (g : IVec S8 32) (hg : ∀ k : Fin 8, g (ValueIdx.ix1 k) = BitVec.ofNat 32 (G k.val)) (h7 : E G 7 = 65536)
    (i : Fin 65536) (k : Fin 8) : mine (csum g) g (ValueIdx.ix2 i k) = 1#1 ↔ St G k.val ≤ i.val ∧ i.val < E G k.val := by
  have he : csum g (ValueIdx.ix1 k) = BitVec.ofNat 32 (E G k.val) := cumsum1 (Nm1 := 7) rfl g G hg _ (bc0 _ _ _) _ _ k
  have hs : BitVec.ofNat 32 (E G k.val) - BitVec.ofNat 32 (G k.val) = BitVec.ofNat 32 (St G k.val) := Cert.Words.sub_ofNat (le_E _ _)
  have hle : E G k.val ≤ 65536 := h7 ▸ E_mono G (show k.val ≤ 7 by omega)
  have := St_add G k.val
  have hi := i.isLt
  rw [mine_at, he, hg, hs, andi_one, WordCmp.cmpi_sge_ofNat_eq_one_iff (w := 32) (by omega) (by omega),
    WordCmp.cmpi_slt_ofNat_eq_one_iff (w := 32) (by omega) (by omega)]

/-- The row's own group is chosen. -/
theorem pick_own (G : ℕ → ℕ) (g : IVec S8 32) (hg : ∀ k : Fin 8, g (ValueIdx.ix1 k) = BitVec.ofNat 32 (G k.val)) (h7 : E G 7 = 65536)
    (y : FVec Ideal S65536x8x2816 .f32) (i : Fin 65536) (n : Fin 2816) :
    pick y (mine (csum g) g) (ValueIdx.ix2 i n) = y (ValueIdx.ix3 i ⟨Cert.KernelIdeal.Hand.gOf G i.val % 8, Nat.mod_lt _ (by decide)⟩ n) := by
  obtain ⟨q, hq, ha, hb⟩ := group_of G (i := i.val) (by rw [h7]; exact i.isLt)
  have e : (⟨Cert.KernelIdeal.Hand.gOf G i.val % 8, Nat.mod_lt _ (by decide)⟩ : Fin 8) = ⟨q, hq⟩ := by
    apply Fin.ext
    show Cert.KernelIdeal.Hand.gOf G i.val % 8 = q
    rw [Cert.KernelIdeal.Hand.gOf_eq G hq ha hb, Nat.mod_eq_of_lt hq]
  rw [e, pick_at, Finset.sum_eq_single (⟨q, hq⟩ : Fin 8)]
  · rw [if_pos ((mine_iff G g hg h7 i ⟨q, hq⟩).2 ⟨ha, hb⟩)]
  · intro k _ hk
    refine if_neg fun h => hk (Fin.ext ?_)
    have hm := (mine_iff G g hg h7 i k).1 h
    exact (Cert.KernelIdeal.Hand.gOf_eq G k.isLt hm.1 hm.2).symm.trans (Cert.KernelIdeal.Hand.gOf_eq G hq ha hb)
  · intro h; exact absurd (Finset.mem_univ _) h

end Cert.ReferenceIdeal.Hand
-- ==== Proof.ReferenceIdeal.Meet.lean ====
/- The reference's value is the kernel's, as functions of the arguments. -/
module

public import proofs.«01_k».proof.Proof.ReferenceIdeal.Acts
public import proofs.«01_k».proof.Proof.ReferenceIdeal.Weights
public import proofs.«01_k».proof.Proof.ReferenceIdeal.Pick
public import proofs.«01_k».proof.Proof.KernelIdeal.Output

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

open Cert.RoundTrip Cert.Visits

/-- The kernel's output, entry by entry. -/
theorem out_at (G : ℕ → ℕ) (x : FVec Ideal S65536x2048 .bf16) (w : FVec Ideal S8x2816x2048 .bf16) (s : IVec S8x2816x64 8) (i : Fin 65536) (n : Fin 2816) :
    Cert.KernelIdeal.Hand.OUT G x w s (ValueIdx.ix2 i n)
      = ∑ k : Fin 2048, keep (x (ValueIdx.ix2 i k)) (Cert.KernelIdeal.Hand.amax fun j => x (ValueIdx.ix2 i ⟨32 * (k.val / 32) + j.val, by omega⟩))
          * (w (ValueIdx.ix3 ⟨Cert.KernelIdeal.Hand.gOf G i.val % 8, Nat.mod_lt _ (by decide)⟩ n k)
            * Ideal.ofBits .bf16 (Cert.KernelIdeal.Hand.scaleBits (s (ValueIdx.ix3 ⟨Cert.KernelIdeal.Hand.gOf G i.val % 8, Nat.mod_lt _ (by decide)⟩ n ⟨k.val / 32, by omega⟩)))) := by
  have hx : ∀ k : Fin 2048, Cert.KernelIdeal.Hand.XB x (i.val / 512) (ValueIdx.ix2 ⟨i.val % 512, Nat.mod_lt _ (by decide)⟩ k) = x (ValueIdx.ix2 i k) := fun k => by
    refine congrArg x (ix2_ext _ _ ?_ rfl)
    show (i.val / 512 * 512 + i.val % 512) % 65536 = i.val
    omega
  unfold Cert.KernelIdeal.Hand.OUT Cert.KernelIdeal.Hand.PR
  refine Finset.sum_congr (M := EReal) rfl fun k _ => ?_
  refine congrArg₂ (fun a b : EReal => a * b) ?_ rfl
  exact congrArg₂ keep (hx k) (congrArg Cert.KernelIdeal.Hand.amax (funext fun j => hx _))

/-- The whole reference as one function. -/
theorem whole (G : ℕ → ℕ) (x : FVec Ideal S65536x2048 .bf16) (w : FVec Ideal S8x2816x2048 .bf16) (s : IVec S8x2816x64 8) (z : IVec S8 32)
    (hz : ∀ k : Fin 8, z (ValueIdx.ix1 k) = BitVec.ofNat 32 (G k.val)) (h7 : E G 7 = 65536) (hs : ∀ y, 1 ≤ (s y).toNat ∧ (s y).toNat ≤ 254)
    (g : FVec Ideal S65536x64x32 .f32)
    (hg : g = (shapeCast S65536x64x32 (extf .f32 x bitsLt_bf16_f32 : FVec Ideal S65536x2048 .f32) shapeCasts_S65536x2048_S65536x64x32 : FVec Ideal S65536x64x32 .f32))
    (e : FVec Ideal S65536x64 .f32) (he : e = expo (largest g)) :
    pick (prods (acts (scaledIn g e) twos e) (weights w s)) (mine (csum z) z) = Cert.KernelIdeal.Hand.OUT G x w s := by
  have key : ∀ (i : Fin 65536) (n : Fin 2816), pick (prods (acts (scaledIn g e) twos e) (weights w s)) (mine (csum z) z) (ValueIdx.ix2 i n)
      = Cert.KernelIdeal.Hand.OUT G x w s (ValueIdx.ix2 i n) := by
    intro i n
    refine (pick_own G z hz h7 _ i n).trans ?_
    rw [prods_at, out_at]
    refine Finset.sum_congr rfl fun k _ => ?_
    rw [round_at x g hg e he, weights_at, scales_at s _ (hs _).1 (hs _).2]
  funext y
  rw [show y = ValueIdx.ix2 (y 0) (y 1) from ix2_ext _ _ rfl rfl]
  exact key _ _

end Cert.ReferenceIdeal.Hand
-- ==== Proof.ReferenceIdeal.Call.lean ====
/- What the reference's call leaves in its two results: at extended reals a change of format is no change. -/
module

public import proofs.«01_k».proof.Proof.ReferenceIdeal.Reads

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable (m : (ℓ : Loc nD τ sig) → Buf (Elt Ideal) ℓ) (c : Dev nD)

/-! The call has one step, whose blocks are the whole arrays. -/

theorem emb_0 (t : Fin cfg0.N) (y : S65536x64x32.Idx) (k : Fin 3) : ((((cfg0.win 0).rect t).emb y : S65536x64x32.Idx) k).val = (y k).val :=
  Pipeline.Window.rect_emb_val_of_index_zero (cfg0.win 0) t k rfl y
theorem emb_1 (t : Fin cfg0.N) (y : S8x2816x2048.Idx) (k : Fin 3) : ((((cfg0.win 1).rect t).emb y : S8x2816x2048.Idx) k).val = (y k).val :=
  Pipeline.Window.rect_emb_val_of_index_zero (cfg0.win 1) t k rfl y

theorem read_0 (t : Fin cfg0.N) (X : FVec Ideal S65536x64x32 .f32) (j : S65536x64x32.Idx) :
    ((cfg0.win 0).blk t).view.read (Elt Ideal) X j = X j :=
  congrArg X (funext fun (k : Fin 3) => Fin.ext (emb_0 t j k))
theorem read_1 (t : Fin cfg0.N) (X : FVec Ideal S8x2816x2048 .fp8e4m3) (j : S8x2816x2048.Idx) :
    ((cfg0.win 1).blk t).view.read (Elt Ideal) X j = X j :=
  congrArg X (funext fun (k : Fin 3) => Fin.ext (emb_1 t j k))

theorem iblk_0 (j : S65536x64x32.Idx) : iblk m c 0 t0_0 j = (V m c main_v25 : FVec Ideal S65536x64x32 .f32) j := read_0 t0_0 _ j
theorem iblk_1 (j : S8x2816x2048.Idx) : iblk m c 1 t0_0 j = (V m c main_arg2 : FVec Ideal S8x2816x2048 .fp8e4m3) j := read_1 t0_0 _ j

/-! What the body stores is what it reads. -/

theorem pay_2 (X : FVec Ideal S65536x64x32 .f32) (j : S65536x64x32.Idx) : k0_pay1 (F := Ideal) X j = X j := by
  unfold k0_pay1
  rw [shapeCast_self]
  rfl
theorem pay_3 (X : FVec Ideal S8x2816x2048 .fp8e4m3) (j : S8x2816x2048.Idx) : k0_pay2 (F := Ideal) X j = X j := rfl

/-! The call's results are its inputs. -/

theorem arr_2 (G : FVec Ideal S65536x64x32 .f32) (hG : V m c main_v25 = G) : (dats m 0 c).arrAt 2 cfg0.N = (G : FVec Ideal S65536x64x32 .f32) := by
  refine (dats m 0 c).arrAt_eq_of_after_last 2 t0_0 (by decide +kernel) _ fun j => ?_
  blk_simp
  rw [after0_2]
  frame_out
  exact (pay_2 (iblk m c 0 t0_0) j).trans ((iblk_0 m c j).trans (congrFun hG j))
theorem arr_3 (G : FVec Ideal S8x2816x2048 .fp8e4m3) (hG : V m c main_arg2 = G) : (dats m 0 c).arrAt 3 cfg0.N = (G : FVec Ideal S8x2816x2048 .fp8e4m3) := by
  refine (dats m 0 c).arrAt_eq_of_after_last 3 t0_0 (by decide +kernel) _ fun j => ?_
  blk_simp
  rw [after0_3]
  frame_out
  exact (pay_3 (iblk m c 1 t0_0) j).trans ((iblk_1 m c j).trans (congrFun hG j))

end Cert.ReferenceIdeal.Hand
-- ==== Proof.ReferenceIdeal.Value.lean ====
/- What the reference leaves, from any memory whose sizes add up and whose scales are finite. -/
module

public import proofs.«01_k».proof.Proof.ReferenceIdeal.Meet
public import proofs.«01_k».proof.Proof.ReferenceIdeal.Call

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

open Cert.Visits

variable (m : (ℓ : Loc nD τ sig) → Buf (Elt Ideal) ℓ) (ρ : Dev nD → PrngReg) (c : Dev nD)

/-! The buffers that the lines after the call read. -/

theorem V_arg0 : V m c main_arg0 = m ((c : Thread nD τ).loc main_arg0) := V_main_arg0 m c
theorem R_arg1 : R m c main_arg1 = m ((c : Thread nD τ).loc main_arg1) := (R_eq m c main_arg1).symm.trans (W_main_arg1 m (dats m) c)
theorem W1_v26_0 : W1 m c (Proc.devRef .tc main_v26_0) = (scaledIn (V m c main_v1) (V m c main_v16) : FVec Ideal S65536x64x32 .f32) :=
  (W1_arr m c 2).trans (arr_2 m c _ (V_v25 m c))
theorem W1_v26_1 : W1 m c (Proc.devRef .tc main_v26_1) = (m ((c : Thread nD τ).loc main_arg2) : FVec Ideal S8x2816x2048 .fp8e4m3) :=
  (W1_arr m c 3).trans (arr_3 m c _ (V_main_arg2 m c))
theorem W1_v4 : W1 m c (Proc.devRef .tc main_v4) = twos := (W1_of_ne m c main_v4 (by decide)).trans (V_v4 m c)
theorem W1_v16 : W1 m c (Proc.devRef .tc main_v16) = V m c main_v16 := W1_of_ne m c main_v16 (by decide)
theorem W1_arg3 : W1 m c (Proc.devRef .tc main_arg3) = m ((c : Thread nD τ).loc main_arg3) := (W1_of_ne m c main_arg3 (by decide)).trans (V_main_arg3 m c)

/-- The reference's result. -/
theorem result (G : ℕ → ℕ)
    (hz : ∀ k : Fin 8, (m ((c : Thread nD τ).loc main_arg1) : IVec S8 32) (ValueIdx.ix1 k) = BitVec.ofNat 32 (G k.val)) (h7 : E G 7 = 65536)
    (hs : ∀ y, 1 ≤ ((m ((c : Thread nD τ).loc main_arg3) : IVec S8x2816x64 8) y).toNat ∧ ((m ((c : Thread nD τ).loc main_arg3) : IVec S8x2816x64 8) y).toNat ≤ 254) :
    R m c main_v61 = Cert.KernelIdeal.Hand.OUT G (m ((c : Thread nD τ).loc main_arg0)) (m ((c : Thread nD τ).loc main_arg2)) (m ((c : Thread nD τ).loc main_arg3)) := by
  refine (R_v61 m c).trans ?_
  rw [R_v55, R_v46, R_v45, R_v44, R_v32, R_arg1, W1_v26_0, W1_v26_1, W1_v4, W1_v16, W1_arg3]
  exact whole G _ _ _ _ hz h7 hs _ ((V_v1 m c).trans (by rw [V_arg0])) _ ((V_v16 m c).trans (by rw [V_v3]))

/-- The reference's run. -/
theorem value_all (o : (c : Dev nD) → Buf (Elt Ideal) ((c : Thread nD τ).loc main_v61)) (ho : ∀ c, R m c main_v61 = o c) :
    θ_run defs (onTc (τ := τ) (main (F := Ideal))) ⟨m, fun _ => 0, ρ⟩ (fun r => ∀ c : Dev nD,
      r.2.mem ((c.tc : Thread nD τ).loc main_v61) = o c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v61 (Pipeline.mem_restRefs_of main_v61 (by decide) (by decide))).trans ((R_eq m c main_v61).trans (ho c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c))⟩) (run_main m ρ)

end Cert.ReferenceIdeal.Hand
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_sizes_fit
public import proofs.«01_k».proof.Proof.Gen.Pre_sizes_and_scales
public import proofs.«01_k».proof.Proof.Given
public import proofs.«01_k».proof.Proof.GivenScales
public import proofs.«01_k».proof.Proof.Kernel.Okay
public import proofs.«01_k».proof.Proof.Kernel.Frame
public import proofs.«01_k».proof.Proof.KernelIdeal.Okay
public import proofs.«01_k».proof.Proof.KernelIdeal.Frame
public import proofs.«01_k».proof.Proof.KernelIdeal.Value
public import proofs.«01_k».proof.Proof.ReferenceIdeal.Value
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts Cert.Pre_sizes_fit.Gen.facts Cert.Pre_sizes_and_scales.Gen.facts

/-- The kernel runs: its tables are in bounds because the sizes fit. -/
theorem frame_Kernel : Cert.quiescent_Kernel := fun m g h =>
  have s := Cert.Given.of_fit (h 0).1 (h 0).2
  Cert.Kernel.Hand.frame_all m g (Cert.Kernel.Hand.ok_of m s.1 s.2)

/-- So does the idealized kernel. -/
theorem frame_KernelIdeal : Cert.quiescent_KernelIdeal := fun m g h =>
  have s := Cert.Given.of_fit (h 0).1 (h 0).2
  Cert.KernelIdeal.Hand.frame_all m g (Cert.KernelIdeal.Hand.ok_of m s.1 s.2)

/-- And the reference, of any arguments. -/
theorem frame_ReferenceIdeal : Cert.quiescent_ReferenceIdeal := fun m g _ => Cert.ReferenceIdeal.Gen.frame m g

/-- The sizes add up to the rows and the scales are finite: so the sizes fit. -/
theorem frame_KernelIdeal_scales : Cert.quiescent_KernelIdeal_pre_sizes_and_scales := fun m g h =>
  have s := Cert.Given.of_scales (h 0).1 (h 0).2.1 (h 0).2.2
  Cert.KernelIdeal.Hand.frame_all m g (Cert.KernelIdeal.Hand.ok_of m (le_of_le_of_eq (by decide) s.1.symm) (le_of_eq s.1))

theorem frame_ReferenceIdeal_scales : Cert.quiescent_ReferenceIdeal_pre_sizes_and_scales := fun m g _ => Cert.ReferenceIdeal.Gen.frame m g

/-- The size of a group, read back as a word. -/
theorem size_word (m : (ℓ : Loc Cert.KernelIdeal.nD Cert.KernelIdeal.τ Cert.KernelIdeal.sig) → Buf (Elt Ideal) ℓ) (k : Fin 8) :
    (m ((0 : Dev Cert.KernelIdeal.nD).tc.loc Cert.KernelIdeal.main_arg1) : IVec Cert.KernelIdeal.S8 32) (ValueIdx.ix1 k) = BitVec.ofNat 32 (Cert.KernelIdeal.Hand.sz m 0 k.val) :=
  (congrFun (Cert.KernelIdeal.Hand.V_main_arg1 m 0).symm _).trans (Cert.KernelIdeal.Hand.at_arg1 m 0 k)

/-- At exact values the kernel's result is the reference's. -/
theorem values : Cert.algebraic_KernelIdeal_ReferenceIdeal_pre_sizes_and_scales := fun m g m' g' h ha => by
  have s := Cert.Given.of_scales (h 0).1 (h 0).2.1 (h 0).2.2
  have hO := Cert.KernelIdeal.Hand.ok_of m (le_of_le_of_eq (by decide) s.1.symm) (le_of_eq s.1)
  refine ⟨fun _ => Cert.KernelIdeal.Hand.outM m, (θ_run _ _ _).mono (fun r h => h.1) (Cert.KernelIdeal.Hand.value_all m g s.1 hO),
    Cert.ReferenceIdeal.Hand.value_all m' g' _ fun c => ?_⟩
  obtain rfl : c = 0 := Subsingleton.elim _ _
  obtain ⟨h0, h1, h2, h3⟩ := ha 0
  refine (Cert.ReferenceIdeal.Hand.result m' 0 (Cert.KernelIdeal.Hand.sz m 0) (fun k => (congrFun h1 _).trans (size_word m k)) s.1 (fun y => ?_)).trans ?_
  · have e := congrFun h3 y
    exact e ▸ s.2 y
  · unfold Cert.KernelIdeal.Hand.outM
    rw [Cert.KernelIdeal.Hand.V_main_arg0, Cert.KernelIdeal.Hand.V_main_arg2, Cert.KernelIdeal.Hand.V_main_arg3]
    exact congr (congr (congrArg (Cert.KernelIdeal.Hand.OUT (Cert.KernelIdeal.Hand.sz m 0)) h0) h2) h3

theorem claim : Cert.Claim := ⟨Cert.Kernel.Gen.facts, Cert.KernelIdeal.Gen.facts, Cert.ReferenceIdeal.Gen.facts, Cert.Pre_sizes_fit.Gen.facts,
  Cert.Pre_sizes_and_scales.Gen.facts,
  frame_Kernel, frame_KernelIdeal, frame_KernelIdeal_scales, frame_ReferenceIdeal, frame_ReferenceIdeal_scales, trivial, values⟩

end Cert.Proof

end
